-- ==== Defs.lean ====
def Pre_Kernel [hPre_candidates_in_catalog : Cert.Pre_candidates_in_catalog.Facts] (m : (ℓ : Loc Cert.Kernel.nD Cert.Kernel.τ Cert.Kernel.sig) → Buf (Elt Bits) ℓ) : Prop :=
  ∀ c : Dev Cert.Kernel.nD,
    (Cert.Pre_candidates_in_catalog.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_candidates_in_catalog : Cert.Pre_candidates_in_catalog.Facts] (m : (ℓ : Loc Cert.KernelIdeal.nD Cert.KernelIdeal.τ Cert.KernelIdeal.sig) → Buf (Elt Ideal) ℓ) : Prop :=
  ∀ c : Dev Cert.KernelIdeal.nD,
    (Cert.Pre_candidates_in_catalog.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_candidates [hPre_finite_candidates : Cert.Pre_finite_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_candidates [hPre_finite_candidates : Cert.Pre_finite_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Retrieval (m : (ℓ : Loc Cert.Retrieval.nD Cert.Retrieval.τ Cert.Retrieval.sig) → Buf (Elt Bits) ℓ) : Prop :=
  True

def Pre_RetrievalIdeal (m : (ℓ : Loc Cert.RetrievalIdeal.nD Cert.RetrievalIdeal.τ Cert.RetrievalIdeal.sig) → Buf (Elt Ideal) ℓ) : Prop :=
  True

def Pre_RetrievalIdeal_spread [hPre_spread : Cert.Pre_spread.Facts] (m : (ℓ : Loc Cert.RetrievalIdeal.nD Cert.RetrievalIdeal.τ Cert.RetrievalIdeal.sig) → Buf (Elt Ideal) ℓ) : Prop :=
  ∀ c : Dev Cert.RetrievalIdeal.nD,
    (Cert.Pre_spread.fn (F := Ideal) (m ((c.tc : Thread Cert.RetrievalIdeal.nD Cert.RetrievalIdeal.τ).loc Cert.RetrievalIdeal.main_arg0)) (m ((c.tc : Thread Cert.RetrievalIdeal.nD Cert.RetrievalIdeal.τ).loc Cert.RetrievalIdeal.main_arg1))) = (fun _ => 1#1)

def Pre_RetrievalReferenceIdeal (m : (ℓ : Loc Cert.RetrievalReferenceIdeal.nD Cert.RetrievalReferenceIdeal.τ Cert.RetrievalReferenceIdeal.sig) → Buf (Elt Ideal) ℓ) : Prop :=
  True

def Pre_RetrievalReferenceIdeal_spread [hPre_spread : Cert.Pre_spread.Facts] (m : (ℓ : Loc Cert.RetrievalReferenceIdeal.nD Cert.RetrievalReferenceIdeal.τ Cert.RetrievalReferenceIdeal.sig) → Buf (Elt Ideal) ℓ) : Prop :=
  ∀ c : Dev Cert.RetrievalReferenceIdeal.nD,
    (Cert.Pre_spread.fn (F := Ideal) (m ((c.tc : Thread Cert.RetrievalReferenceIdeal.nD Cert.RetrievalReferenceIdeal.τ).loc Cert.RetrievalReferenceIdeal.main_arg0)) (m ((c.tc : Thread Cert.RetrievalReferenceIdeal.nD Cert.RetrievalReferenceIdeal.τ).loc Cert.RetrievalReferenceIdeal.main_arg1))) = (fun _ => 1#1)

def quiescent_Kernel [hKernel : Cert.Kernel.Facts] [hPre_candidates_in_catalog : Cert.Pre_candidates_in_catalog.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_candidates_in_catalog : Cert.Pre_candidates_in_catalog.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_candidates [hKernelIdeal : Cert.KernelIdeal.Facts] [hPre_finite_candidates : Cert.Pre_finite_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_candidates m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_candidates [hReferenceIdeal : Cert.ReferenceIdeal.Facts] [hPre_finite_candidates : Cert.Pre_finite_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_candidates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Retrieval [hRetrieval : Cert.Retrieval.Facts] : Prop :=
  ∀ (m : (ℓ : Loc Cert.Retrieval.nD Cert.Retrieval.τ Cert.Retrieval.sig) → Buf (Elt Bits) ℓ) (g : Dev Cert.Retrieval.nD → PrngReg), Pre_Retrieval m →
    θ_run (Cert.Retrieval.defs (F := Bits)) (onTc (τ := Cert.Retrieval.τ) (Cert.Retrieval.main (F := Bits))) ⟨m, fun _ => 0, g⟩ (fun r => (∀ c : Dev Cert.Retrieval.nD,
      r.2.mem ((c.tc : Thread Cert.Retrieval.nD Cert.Retrieval.τ).loc Cert.Retrieval.main_arg0) = m ((c.tc : Thread Cert.Retrieval.nD Cert.Retrieval.τ).loc Cert.Retrieval.main_arg0)
      ∧ r.2.mem ((c.tc : Thread Cert.Retrieval.nD Cert.Retrieval.τ).loc Cert.Retrieval.main_arg1) = m ((c.tc : Thread Cert.Retrieval.nD Cert.Retrieval.τ).loc Cert.Retrieval.main_arg1))
      ∧ r.2.sem = fun _ => 0)

def quiescent_RetrievalIdeal [hRetrievalIdeal : Cert.RetrievalIdeal.Facts] : Prop :=
  ∀ (m : (ℓ : Loc Cert.RetrievalIdeal.nD Cert.RetrievalIdeal.τ Cert.RetrievalIdeal.sig) → Buf (Elt Ideal) ℓ) (g : Dev Cert.RetrievalIdeal.nD → PrngReg), Pre_RetrievalIdeal m →
    θ_run (Cert.RetrievalIdeal.defs (F := Ideal)) (onTc (τ := Cert.RetrievalIdeal.τ) (Cert.RetrievalIdeal.main (F := Ideal))) ⟨m, fun _ => 0, g⟩ (fun r => (∀ c : Dev Cert.RetrievalIdeal.nD,
      r.2.mem ((c.tc : Thread Cert.RetrievalIdeal.nD Cert.RetrievalIdeal.τ).loc Cert.RetrievalIdeal.main_arg0) = m ((c.tc : Thread Cert.RetrievalIdeal.nD Cert.RetrievalIdeal.τ).loc Cert.RetrievalIdeal.main_arg0)
      ∧ r.2.mem ((c.tc : Thread Cert.RetrievalIdeal.nD Cert.RetrievalIdeal.τ).loc Cert.RetrievalIdeal.main_arg1) = m ((c.tc : Thread Cert.RetrievalIdeal.nD Cert.RetrievalIdeal.τ).loc Cert.RetrievalIdeal.main_arg1))
      ∧ r.2.sem = fun _ => 0)

def quiescent_RetrievalIdeal_pre_spread [hRetrievalIdeal : Cert.RetrievalIdeal.Facts] [hPre_spread : Cert.Pre_spread.Facts] : Prop :=
  ∀ (m : (ℓ : Loc Cert.RetrievalIdeal.nD Cert.RetrievalIdeal.τ Cert.RetrievalIdeal.sig) → Buf (Elt Ideal) ℓ) (g : Dev Cert.RetrievalIdeal.nD → PrngReg), Pre_RetrievalIdeal_spread m →
    θ_run (Cert.RetrievalIdeal.defs (F := Ideal)) (onTc (τ := Cert.RetrievalIdeal.τ) (Cert.RetrievalIdeal.main (F := Ideal))) ⟨m, fun _ => 0, g⟩ (fun r => (∀ c : Dev Cert.RetrievalIdeal.nD,
      r.2.mem ((c.tc : Thread Cert.RetrievalIdeal.nD Cert.RetrievalIdeal.τ).loc Cert.RetrievalIdeal.main_arg0) = m ((c.tc : Thread Cert.RetrievalIdeal.nD Cert.RetrievalIdeal.τ).loc Cert.RetrievalIdeal.main_arg0)
      ∧ r.2.mem ((c.tc : Thread Cert.RetrievalIdeal.nD Cert.RetrievalIdeal.τ).loc Cert.RetrievalIdeal.main_arg1) = m ((c.tc : Thread Cert.RetrievalIdeal.nD Cert.RetrievalIdeal.τ).loc Cert.RetrievalIdeal.main_arg1))
      ∧ r.2.sem = fun _ => 0)

def quiescent_RetrievalReferenceIdeal [hRetrievalReferenceIdeal : Cert.RetrievalReferenceIdeal.Facts] : Prop :=
  ∀ (m : (ℓ : Loc Cert.RetrievalReferenceIdeal.nD Cert.RetrievalReferenceIdeal.τ Cert.RetrievalReferenceIdeal.sig) → Buf (Elt Ideal) ℓ) (g : Dev Cert.RetrievalReferenceIdeal.nD → PrngReg), Pre_RetrievalReferenceIdeal m →
    θ_run (Cert.RetrievalReferenceIdeal.defs (F := Ideal)) (onTc (τ := Cert.RetrievalReferenceIdeal.τ) (Cert.RetrievalReferenceIdeal.main (F := Ideal))) ⟨m, fun _ => 0, g⟩ (fun r => (∀ c : Dev Cert.RetrievalReferenceIdeal.nD,
      r.2.mem ((c.tc : Thread Cert.RetrievalReferenceIdeal.nD Cert.RetrievalReferenceIdeal.τ).loc Cert.RetrievalReferenceIdeal.main_arg0) = m ((c.tc : Thread Cert.RetrievalReferenceIdeal.nD Cert.RetrievalReferenceIdeal.τ).loc Cert.RetrievalReferenceIdeal.main_arg0)
      ∧ r.2.mem ((c.tc : Thread Cert.RetrievalReferenceIdeal.nD Cert.RetrievalReferenceIdeal.τ).loc Cert.RetrievalReferenceIdeal.main_arg1) = m ((c.tc : Thread Cert.RetrievalReferenceIdeal.nD Cert.RetrievalReferenceIdeal.τ).loc Cert.RetrievalReferenceIdeal.main_arg1))
      ∧ r.2.sem = fun _ => 0)

def quiescent_RetrievalReferenceIdeal_pre_spread [hRetrievalReferenceIdeal : Cert.RetrievalReferenceIdeal.Facts] [hPre_spread : Cert.Pre_spread.Facts] : Prop :=
  ∀ (m : (ℓ : Loc Cert.RetrievalReferenceIdeal.nD Cert.RetrievalReferenceIdeal.τ Cert.RetrievalReferenceIdeal.sig) → Buf (Elt Ideal) ℓ) (g : Dev Cert.RetrievalReferenceIdeal.nD → PrngReg), Pre_RetrievalReferenceIdeal_spread m →
    θ_run (Cert.RetrievalReferenceIdeal.defs (F := Ideal)) (onTc (τ := Cert.RetrievalReferenceIdeal.τ) (Cert.RetrievalReferenceIdeal.main (F := Ideal))) ⟨m, fun _ => 0, g⟩ (fun r => (∀ c : Dev Cert.RetrievalReferenceIdeal.nD,
      r.2.mem ((c.tc : Thread Cert.RetrievalReferenceIdeal.nD Cert.RetrievalReferenceIdeal.τ).loc Cert.RetrievalReferenceIdeal.main_arg0) = m ((c.tc : Thread Cert.RetrievalReferenceIdeal.nD Cert.RetrievalReferenceIdeal.τ).loc Cert.RetrievalReferenceIdeal.main_arg0)
      ∧ r.2.mem ((c.tc : Thread Cert.RetrievalReferenceIdeal.nD Cert.RetrievalReferenceIdeal.τ).loc Cert.RetrievalReferenceIdeal.main_arg1) = m ((c.tc : Thread Cert.RetrievalReferenceIdeal.nD Cert.RetrievalReferenceIdeal.τ).loc Cert.RetrievalReferenceIdeal.main_arg1))
      ∧ r.2.sem = fun _ => 0)

def preserves_Kernel_KernelIdeal : Prop :=
  True

def algebraic_KernelIdeal_ReferenceIdeal_pre_finite_candidates [hKernelIdeal : Cert.KernelIdeal.Facts] [hReferenceIdeal : Cert.ReferenceIdeal.Facts] [hPre_finite_candidates : Cert.Pre_finite_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_candidates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Retrieval_RetrievalIdeal : Prop :=
  True

def algebraic_RetrievalIdeal_RetrievalReferenceIdeal_pre_spread [hRetrievalIdeal : Cert.RetrievalIdeal.Facts] [hRetrievalReferenceIdeal : Cert.RetrievalReferenceIdeal.Facts] [hPre_spread : Cert.Pre_spread.Facts] : Prop :=
  ∀ (m : (ℓ : Loc Cert.RetrievalIdeal.nD Cert.RetrievalIdeal.τ Cert.RetrievalIdeal.sig) → Buf (Elt Ideal) ℓ) (g : Dev Cert.RetrievalIdeal.nD → PrngReg)
    (m' : (ℓ : Loc Cert.RetrievalReferenceIdeal.nD Cert.RetrievalReferenceIdeal.τ Cert.RetrievalReferenceIdeal.sig) → Buf (Elt Ideal) ℓ) (g' : Dev Cert.RetrievalReferenceIdeal.nD → PrngReg), Pre_RetrievalIdeal_spread m →
    (∀ c : Dev Cert.RetrievalIdeal.nD,
      m' ((c.tc : Thread Cert.RetrievalReferenceIdeal.nD Cert.RetrievalReferenceIdeal.τ).loc Cert.RetrievalReferenceIdeal.main_arg0) = m ((c.tc : Thread Cert.RetrievalIdeal.nD Cert.RetrievalIdeal.τ).loc Cert.RetrievalIdeal.main_arg0)
      ∧ m' ((c.tc : Thread Cert.RetrievalReferenceIdeal.nD Cert.RetrievalReferenceIdeal.τ).loc Cert.RetrievalReferenceIdeal.main_arg1) = m ((c.tc : Thread Cert.RetrievalIdeal.nD Cert.RetrievalIdeal.τ).loc Cert.RetrievalIdeal.main_arg1)) →
    ∃ (v0 : (c : Dev Cert.RetrievalIdeal.nD) → Buf (Elt Ideal) ((c.tc : Thread Cert.RetrievalIdeal.nD Cert.RetrievalIdeal.τ).loc Cert.RetrievalIdeal.main_v2_1)) (v1 : (c : Dev Cert.RetrievalIdeal.nD) → Buf (Elt Ideal) ((c.tc : Thread Cert.RetrievalIdeal.nD Cert.RetrievalIdeal.τ).loc Cert.RetrievalIdeal.main_v1_2)),
      θ_run (Cert.RetrievalIdeal.defs (F := Ideal)) (onTc (τ := Cert.RetrievalIdeal.τ) (Cert.RetrievalIdeal.main (F := Ideal))) ⟨m, fun _ => 0, g⟩ (fun r => ∀ c : Dev Cert.RetrievalIdeal.nD,
          r.2.mem ((c.tc : Thread Cert.RetrievalIdeal.nD Cert.RetrievalIdeal.τ).loc Cert.RetrievalIdeal.main_v2_1) = v0 c
          ∧ r.2.mem ((c.tc : Thread Cert.RetrievalIdeal.nD Cert.RetrievalIdeal.τ).loc Cert.RetrievalIdeal.main_v1_2) = v1 c
          ∧ r.2.mem ((c.tc : Thread Cert.RetrievalIdeal.nD Cert.RetrievalIdeal.τ).loc Cert.RetrievalIdeal.main_arg0) = m ((c.tc : Thread Cert.RetrievalIdeal.nD Cert.RetrievalIdeal.τ).loc Cert.RetrievalIdeal.main_arg0)
          ∧ r.2.mem ((c.tc : Thread Cert.RetrievalIdeal.nD Cert.RetrievalIdeal.τ).loc Cert.RetrievalIdeal.main_arg1) = m ((c.tc : Thread Cert.RetrievalIdeal.nD Cert.RetrievalIdeal.τ).loc Cert.RetrievalIdeal.main_arg1))
      ∧ θ_run (Cert.RetrievalReferenceIdeal.defs (F := Ideal)) (onTc (τ := Cert.RetrievalReferenceIdeal.τ) (Cert.RetrievalReferenceIdeal.main (F := Ideal))) ⟨m', fun _ => 0, g'⟩ (fun r => ∀ c : Dev Cert.RetrievalReferenceIdeal.nD,
          r.2.mem ((c.tc : Thread Cert.RetrievalReferenceIdeal.nD Cert.RetrievalReferenceIdeal.τ).loc Cert.RetrievalReferenceIdeal.main_v6) = v0 c
          ∧ r.2.mem ((c.tc : Thread Cert.RetrievalReferenceIdeal.nD Cert.RetrievalReferenceIdeal.τ).loc Cert.RetrievalReferenceIdeal.main_v7) = v1 c
          ∧ r.2.mem ((c.tc : Thread Cert.RetrievalReferenceIdeal.nD Cert.RetrievalReferenceIdeal.τ).loc Cert.RetrievalReferenceIdeal.main_arg0) = m' ((c.tc : Thread Cert.RetrievalReferenceIdeal.nD Cert.RetrievalReferenceIdeal.τ).loc Cert.RetrievalReferenceIdeal.main_arg0)
          ∧ r.2.mem ((c.tc : Thread Cert.RetrievalReferenceIdeal.nD Cert.RetrievalReferenceIdeal.τ).loc Cert.RetrievalReferenceIdeal.main_arg1) = m' ((c.tc : Thread Cert.RetrievalReferenceIdeal.nD Cert.RetrievalReferenceIdeal.τ).loc Cert.RetrievalReferenceIdeal.main_arg1))

def Claim : Prop :=
  ∃ (hKernel : Cert.Kernel.Facts) (hKernelIdeal : Cert.KernelIdeal.Facts) (hReferenceIdeal : Cert.ReferenceIdeal.Facts) (hRetrieval : Cert.Retrieval.Facts) (hRetrievalIdeal : Cert.RetrievalIdeal.Facts) (hRetrievalReferenceIdeal : Cert.RetrievalReferenceIdeal.Facts) (hPre_candidates_in_catalog : Cert.Pre_candidates_in_catalog.Facts) (hPre_finite_candidates : Cert.Pre_finite_candidates.Facts) (hPre_spread : Cert.Pre_spread.Facts),
    quiescent_Kernel (hKernel := hKernel) (hPre_candidates_in_catalog := hPre_candidates_in_catalog)
    ∧ quiescent_KernelIdeal (hKernelIdeal := hKernelIdeal) (hPre_candidates_in_catalog := hPre_candidates_in_catalog)
    ∧ quiescent_KernelIdeal_pre_finite_candidates (hKernelIdeal := hKernelIdeal) (hPre_finite_candidates := hPre_finite_candidates)
    ∧ quiescent_ReferenceIdeal (hReferenceIdeal := hReferenceIdeal)
    ∧ quiescent_ReferenceIdeal_pre_finite_candidates (hReferenceIdeal := hReferenceIdeal) (hPre_finite_candidates := hPre_finite_candidates)
    ∧ quiescent_Retrieval (hRetrieval := hRetrieval)
    ∧ quiescent_RetrievalIdeal (hRetrievalIdeal := hRetrievalIdeal)
    ∧ quiescent_RetrievalIdeal_pre_spread (hRetrievalIdeal := hRetrievalIdeal) (hPre_spread := hPre_spread)
    ∧ quiescent_RetrievalReferenceIdeal (hRetrievalReferenceIdeal := hRetrievalReferenceIdeal)
    ∧ quiescent_RetrievalReferenceIdeal_pre_spread (hRetrievalReferenceIdeal := hRetrievalReferenceIdeal) (hPre_spread := hPre_spread)
    ∧ preserves_Kernel_KernelIdeal
    ∧ algebraic_KernelIdeal_ReferenceIdeal_pre_finite_candidates (hKernelIdeal := hKernelIdeal) (hReferenceIdeal := hReferenceIdeal) (hPre_finite_candidates := hPre_finite_candidates)
    ∧ preserves_Retrieval_RetrievalIdeal
    ∧ algebraic_RetrievalIdeal_RetrievalReferenceIdeal_pre_spread (hRetrievalIdeal := hRetrievalIdeal) (hRetrievalReferenceIdeal := hRetrievalReferenceIdeal) (hPre_spread := hPre_spread)
-- ==== Pre_candidates_in_catalog.lean ====
abbrev S64x64 : Shape := ⟨2, ![64, 64]⟩
abbrev S1000000x64 : Shape := ⟨2, ![1000000, 64]⟩
abbrev S128x64 : Shape := ⟨2, ![128, 64]⟩
abbrev S64 : Shape := ⟨1, ![64]⟩
abbrev S64x1 : Shape := ⟨2, ![64, 1]⟩
abbrev S64x128 : Shape := ⟨2, ![64, 128]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel

variable [Facts]

def fn {F : FTy → Type} [FloatOps F] (main_arg0 : FVec F S64x64 .f32) (main_arg1 : FVec F S1000000x64 .f32) (main_arg2 : FVec F S128x64 .f32) (main_arg3 : FVec F S64 .f32) (main_arg4 : FVec F S64x1 .f32) (main_arg5 : IVec S64x128 32) : IVec S_ 1 :=
  let main_c : IVec S_ 32 := constantI S_ 32 0#32
  let main_v0 : IVec S64x128 32 := broadcastInDim S64x128 ![] bcast_S_S64x128 main_c
  let main_v1 : IVec S64x128 1 := cmpi .sge main_arg5 main_v0
  let main_c_0 : IVec S_ 32 := constantI S_ 32 1000000#32
  let main_v2 : IVec S64x128 32 := broadcastInDim S64x128 ![] bcast_S_S64x128 main_c_0
  let main_v3 : IVec S64x128 1 := cmpi .slt main_arg5 main_v2
  let main_v4 : IVec S64x128 1 := andi main_v1 main_v3
  let main_c_1 : IVec S_ 1 := constantI S_ 1 1#1
  let main_v5 : IVec S_ 1 := (fun x v => Host.reduce IntOp.andi x v reducesTo_S64x128_S_d0_1 h_S_) main_v4 main_c_1
  main_v5
-- ==== Pre_finite_candidates.lean ====
abbrev S64x64 : Shape := ⟨2, ![64, 64]⟩
abbrev S1000000x64 : Shape := ⟨2, ![1000000, 64]⟩
abbrev S128x64 : Shape := ⟨2, ![128, 64]⟩
abbrev S64 : Shape := ⟨1, ![64]⟩
abbrev S64x1 : Shape := ⟨2, ![64, 1]⟩
abbrev S64x128 : Shape := ⟨2, ![64, 128]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg4 : FVec F S64x1 .f32) (main_arg5 : IVec S64x128 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_c_8 : IVec S_ 32 := constantI S_ 32 0#32
  let main_v24 : IVec S64x128 32 := broadcastInDim S64x128 ![] bcast_S_S64x128 main_c_8
  let main_v25 : IVec S64x128 1 := cmpi .sge main_arg5 main_v24
  let main_c_9 : IVec S_ 32 := constantI S_ 32 1000000#32
  let main_v26 : IVec S64x128 32 := broadcastInDim S64x128 ![] bcast_S_S64x128 main_c_9
  let main_v27 : IVec S64x128 1 := cmpi .slt main_arg5 main_v26
  let main_v28 : IVec S64x128 1 := andi main_v25 main_v27
  let main_c_10 : IVec S_ 1 := constantI S_ 1 1#1
  let main_v29 : IVec S_ 1 := (fun x v => Host.reduce IntOp.andi x v reducesTo_S64x128_S_d0_1 h_S_) main_v28 main_c_10
  let main_v30 : IVec S_ 1 := andi main_v29 main_v23
  main_v30

def fn {F : FTy → Type} [FloatOps F] (main_arg0 : FVec F S64x64 .f32) (main_arg1 : FVec F S1000000x64 .f32) (main_arg2 : FVec F S128x64 .f32) (main_arg3 : FVec F S64 .f32) (main_arg4 : FVec F S64x1 .f32) (main_arg5 : IVec S64x128 32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Pre_spread.lean ====
abbrev S64x64 : Shape := ⟨2, ![64, 64]⟩
abbrev S1000000x64 : Shape := ⟨2, ![1000000, 64]⟩
abbrev S64x1000000 : Shape := ⟨2, ![64, 1000000]⟩
abbrev S64x101 : Shape := ⟨2, ![64, 101]⟩
abbrev S64x100 : Shape := ⟨2, ![64, 100]⟩
abbrev S_ : Shape := ⟨0, ![]⟩
abbrev S64x100x1 : Shape := ⟨3, ![64, 100, 1]⟩
abbrev S64x1x100 : Shape := ⟨3, ![64, 1, 100]⟩
abbrev S64x100x100 : Shape := ⟨3, ![64, 100, 100]⟩

class Facts : Prop where
  transposes_S1000000x64_S64x1000000_1_0 : S1000000x64.Transposes [1, 0] S64x1000000
  sliceFits_S64x1000000_S64x101 : S64x1000000.Slices (fun _ => 0) S64x101
  slices_S64x101_S64x100_0_0 : S64x101.Slices ![0, 0] S64x100
  slices_S64x101_S64x100_0_1 : S64x101.Slices ![0, 1] S64x100
  reducesTo_S64x100_S_d0_1 : S64x100.ReducesTo [0, 1] S_
  h_S_ : 0 < S_.numel
  bcast_S_S64x100 : S_.BroadcastsInDim S64x100 (![] : Fin 0 → Fin S64x100.rank)
  bcast_S64x100_S64x100x1_0_1 : S64x100.BroadcastsInDim S64x100x1 (![0, 1] : Fin 2 → Fin S64x100x1.rank)
  bcast_S64x100_S64x1x100_0_2 : S64x100.BroadcastsInDim S64x1x100 (![0, 2] : Fin 2 → Fin S64x1x100.rank)
  bcast_S64x100x1_S64x100x100_0_1_2 : S64x100x1.BroadcastsInDim S64x100x100 (![0, 1, 2] : Fin 3 → Fin S64x100x100.rank)
  bcast_S64x1x100_S64x100x100_0_1_2 : S64x1x100.BroadcastsInDim S64x100x100 (![0, 1, 2] : Fin 3 → Fin S64x100x100.rank)
  bcast_S_S64x100x100 : S_.BroadcastsInDim S64x100x100 (![] : Fin 0 → Fin S64x100x100.rank)
  reducesTo_S64x100x100_S64x100_d2 : S64x100x100.ReducesTo [2] S64x100
  dot_S64x64_S64x1000000_S64x1000000_1_0_0_1_n_n_wf : DotDims.WF S64x64 S64x1000000 S64x1000000 [1] [0] [0] [1] [] []

variable [Facts]

def dot_S64x64_S64x1000000_S64x1000000_1_0_0_1_n_n : DotDims S64x64 S64x1000000 S64x1000000 where
  lhsContracting := [1]
  rhsContracting := [0]
  lhsNonContracting := [0]
  rhsNonContracting := [1]
  lhsBatch := []
  rhsBatch := []
  wf := dot_S64x64_S64x1000000_S64x1000000_1_0_0_1_n_n_wf
def fn_where {F : FTy → Type} [FloatOps F] (arg0 : IVec S64x100x100 1) (arg1 : FVec F S_ .f32) (arg2 : FVec F S_ .f32) : FVec F S64x100x100 .f32 :=
  let v0 : FVec F S64x100x100 .f32 := broadcastInDim S64x100x100 ![] bcast_S_S64x100x100 arg1
  let v1 : FVec F S64x100x100 .f32 := broadcastInDim S64x100x100 ![] bcast_S_S64x100x100 arg2
  let v2 : FVec F S64x100x100 .f32 := select arg0 v0 v1
  v2

def fn_part2 {F : FTy → Type} [FloatOps F] (main_v5 : IVec S_ 1) (main_v28 : IVec S_ 1) (main_v33 : IVec S64x100 1) : IVec S_ 1 :=
  let main_c_10 : IVec S_ 1 := constantI S_ 1 1#1
  let main_v34 : IVec S_ 1 := (fun x v => Host.reduce IntOp.andi x v reducesTo_S64x100_S_d0_1 h_S_) main_v33 main_c_10
  let main_v35 : IVec S_ 1 := andi main_v28 main_v34
  let main_v36 : IVec S_ 1 := andi main_v5 main_v35
  main_v36

def fn_part1 {F : FTy → Type} [FloatOps F] (main_v5 : IVec S_ 1) (main_v16 : IVec S64x100x100 1) (main_v17 : IVec S64x100x1 32) (main_v18 : IVec S64x1x100 32) : IVec S_ 1 :=
  let main_v19 : IVec S64x100x100 32 := broadcastInDim S64x100x100 ![0, 1, 2] bcast_S64x100x1_S64x100x100_0_1_2 main_v17
  let main_v20 : IVec S64x100x100 32 := broadcastInDim S64x100x100 ![0, 1, 2] bcast_S64x1x100_S64x100x100_0_1_2 main_v18
  let main_v21 : IVec S64x100x100 1 := cmpi .eq main_v19 main_v20
  let main_v22 : IVec S64x100x100 1 := andi main_v16 main_v21
  let main_cst : FVec F S_ .f32 := constant S_ .f32 0x3F800000#32
  let main_cst_2 : FVec F S_ .f32 := constant S_ .f32 0x00000000#32
  let main_v23 : FVec F S64x100x100 .f32 := fn_where (F := F) main_v22 main_cst main_cst_2
  let main_v24 : FVec F S64x100x100 .f32 := id main_v23
  let main_cst_3 : FVec F S_ .f32 := constant S_ .f32 0x00000000#32
  let main_v25 : FVec F S64x100 .f32 := (fun x v => Host.reduceAdd x v reducesTo_S64x100x100_S64x100_d2 h_S_) main_v24 main_cst_3
  let main_cst_4 : FVec F S_ .f32 := constant S_ .f32 0x40A00000#32
  let main_v26 : FVec F S64x100 .f32 := broadcastInDim S64x100 ![] bcast_S_S64x100 main_cst_4
  let main_v27 : IVec S64x100 1 := cmpf .ole main_v25 main_v26
  let main_c_5 : IVec S_ 1 := constantI S_ 1 1#1
  let main_v28 : IVec S_ 1 := (fun x v => Host.reduce IntOp.andi x v reducesTo_S64x100_S_d0_1 h_S_) main_v27 main_c_5
  let main_cst_6 : FVec F S_ .f32 := constant S_ .f32 0x3F800000#32
  let main_cst_7 : FVec F S_ .f32 := constant S_ .f32 0x00000000#32
  let main_v29 : FVec F S64x100x100 .f32 := fn_where (F := F) main_v16 main_cst_6 main_cst_7
  let main_v30 : FVec F S64x100x100 .f32 := id main_v29
  let main_cst_8 : FVec F S_ .f32 := constant S_ .f32 0x00000000#32
  let main_v31 : FVec F S64x100 .f32 := (fun x v => Host.reduceAdd x v reducesTo_S64x100x100_S64x100_d2 h_S_) main_v30 main_cst_8
  let main_cst_9 : FVec F S_ .f32 := constant S_ .f32 0x41800000#32
  let main_v32 : FVec F S64x100 .f32 := broadcastInDim S64x100 ![] bcast_S_S64x100 main_cst_9
  let main_v33 : IVec S64x100 1 := cmpf .ole main_v31 main_v32
  fn_part2 (F := F) main_v5 main_v28 main_v33

def fn {F : FTy → Type} [FloatOps F] (main_arg0 : FVec F S64x64 .f32) (main_arg1 : FVec F S1000000x64 .f32) : IVec S_ 1 :=
  let main_v0 : FVec F S64x1000000 .f32 := (transpose S64x1000000 [1, 0] · transposes_S1000000x64_S64x1000000_1_0) main_arg1
  let main_v1 : FVec F S64x1000000 .f32 := (fun l r => Host.dotGeneral dot_S64x64_S64x1000000_S64x1000000_1_0_0_1_n_n none l r) main_arg0 main_v0
  let main_values : FVec F S64x101 .f32 := (fun x => (Host.topK S64x101 1 (FloatOps.cmpfTotal .gt) x sliceFits_S64x1000000_S64x101).1) main_v1
  let main_indices : IVec S64x101 32 := (fun x => (Host.topK S64x101 1 (FloatOps.cmpfTotal .gt) x sliceFits_S64x1000000_S64x101).2) main_v1
  let main_v2 : FVec F S64x100 .f32 := (extractStridedSlice S64x100 ![0, 0] · slices_S64x101_S64x100_0_0) main_values
  let main_v3 : FVec F S64x100 .f32 := (extractStridedSlice S64x100 ![0, 1] · slices_S64x101_S64x100_0_1) main_values
  let main_v4 : IVec S64x100 1 := cmpf .ogt main_v2 main_v3
  let main_c : IVec S_ 1 := constantI S_ 1 1#1
  let main_v5 : IVec S_ 1 := (fun x v => Host.reduce IntOp.andi x v reducesTo_S64x100_S_d0_1 h_S_) main_v4 main_c
  let main_v6 : IVec S64x100 32 := (extractStridedSlice S64x100 ![0, 0] · slices_S64x101_S64x100_0_0) main_indices
  let main_c_0 : IVec S_ 32 := constantI S_ 32 127#32
  let main_v7 : IVec S64x100 32 := broadcastInDim S64x100 ![] bcast_S_S64x100 main_c_0
  let main_v8 : IVec S64x100 32 := andi main_v6 main_v7
  let main_v9 : IVec S64x100 32 := (extractStridedSlice S64x100 ![0, 0] · slices_S64x101_S64x100_0_0) main_indices
  let main_c_1 : IVec S_ 32 := constantI S_ 32 14#32
  let main_v10 : IVec S64x100 32 := broadcastInDim S64x100 ![] bcast_S_S64x100 main_c_1
  let main_v11 : IVec S64x100 32 := Host.shrui main_v9 main_v10
  let main_v12 : IVec S64x100x1 32 := broadcastInDim S64x100x1 ![0, 1] bcast_S64x100_S64x100x1_0_1 main_v8
  let main_v13 : IVec S64x1x100 32 := broadcastInDim S64x1x100 ![0, 2] bcast_S64x100_S64x1x100_0_2 main_v8
  let main_v14 : IVec S64x100x100 32 := broadcastInDim S64x100x100 ![0, 1, 2] bcast_S64x100x1_S64x100x100_0_1_2 main_v12
  let main_v15 : IVec S64x100x100 32 := broadcastInDim S64x100x100 ![0, 1, 2] bcast_S64x1x100_S64x100x100_0_1_2 main_v13
  let main_v16 : IVec S64x100x100 1 := cmpi .eq main_v14 main_v15
  let main_v17 : IVec S64x100x1 32 := broadcastInDim S64x100x1 ![0, 1] bcast_S64x100_S64x100x1_0_1 main_v11
  let main_v18 : IVec S64x1x100 32 := broadcastInDim S64x1x100 ![0, 2] bcast_S64x100_S64x1x100_0_2 main_v11
  fn_part1 (F := F) main_v5 main_v16 main_v17 main_v18
-- ==== Kernel.lean ====
abbrev S64x64 : Shape := ⟨2, ![64, 64]⟩
abbrev S1000000x64 : Shape := ⟨2, ![1000000, 64]⟩
abbrev S128x64 : Shape := ⟨2, ![128, 64]⟩
abbrev S64 : Shape := ⟨1, ![64]⟩
abbrev S64x1 : Shape := ⟨2, ![64, 1]⟩
abbrev S64x128 : Shape := ⟨2, ![64, 128]⟩
abbrev S_ : Shape := ⟨0, ![]⟩
abbrev S1015808x128 : Shape := ⟨2, ![1015808, 128]⟩
abbrev S8192x128 : Shape := ⟨2, ![8192, 128]⟩
abbrev S128 : Shape := ⟨1, ![128]⟩
abbrev S128x128 : Shape := ⟨2, ![128, 128]⟩
abbrev S1x128 : Shape := ⟨2, ![1, 128]⟩
abbrev S1x64 : Shape := ⟨2, ![1, 64]⟩
abbrev S8192x64 : Shape := ⟨2, ![8192, 64]⟩
abbrev S64x1x64 : Shape := ⟨3, ![64, 1, 64]⟩
abbrev S64x128x64 : Shape := ⟨3, ![64, 128, 64]⟩
abbrev S64x128x128 : Shape := ⟨3, ![64, 128, 128]⟩
abbrev S64x5 : Shape := ⟨2, ![64, 5]⟩

abbrev nBuf : Table → Nat
  | .hbm => 15
  | .local .tc .vmem => 8
  | .local .scVector .vmem => 2
  | _ => 0

abbrev bufTy : (tb : Table) → Fin (nBuf tb) → BufTy
  | .hbm, ⟨0, _⟩ => ⟨S64x64, .f32⟩
  | .hbm, ⟨1, _⟩ => ⟨S1000000x64, .f32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S64x128, .i32⟩
  | .hbm, ⟨6, _⟩ => ⟨S_, .i32⟩
  | .hbm, ⟨7, _⟩ => ⟨S_, .f32⟩
  | .hbm, ⟨8, _⟩ => ⟨S1015808x128, .f32⟩
  | .hbm, ⟨9, _⟩ => ⟨S8192x128, .f32⟩
  | .hbm, ⟨10, _⟩ => ⟨S1x64, .f32⟩
  | .hbm, ⟨11, _⟩ => ⟨S64x128, .f32⟩
  | .hbm, ⟨12, _⟩ => ⟨S64x128, .i32⟩
  | .hbm, ⟨13, _⟩ => ⟨S64x5, .i32⟩
  | .hbm, ⟨14, _⟩ => ⟨S64x5, .f32⟩
  | .local .tc .vmem, ⟨0, _⟩ => ⟨S64x64, .f32⟩
  | .local .tc .vmem, ⟨1, _⟩ => ⟨S8192x128, .f32⟩
  | .local .tc .vmem, ⟨2, _⟩ => ⟨S128x64, .f32⟩
  | .local .tc .vmem, ⟨3, _⟩ => ⟨S1x64, .f32⟩
  | .local .tc .vmem, ⟨4, _⟩ => ⟨S64x1, .f32⟩
  | .local .tc .vmem, ⟨5, _⟩ => ⟨S64x128, .i32⟩
  | .local .tc .vmem, ⟨6, _⟩ => ⟨S64x128, .f32⟩
  | .local .tc .vmem, ⟨7, _⟩ => ⟨S64x128, .i32⟩
  | .local .scVector .vmem, ⟨0, _⟩ => ⟨S128, .i32⟩
  | .local .scVector .vmem, ⟨1, _⟩ => ⟨S128x128, .f32⟩
  | _, _ => ⟨S64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v0_scv : Ref sig .scVector := ⟨.hbm, 8, rfl⟩
abbrev main_arg5_scv : Ref sig .scVector := ⟨.hbm, 5, rfl⟩
abbrev main_v1_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_11_r0 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c128_i32 : BitVec 32 := 128#32
  let v6 : BitVec 32 := Scalar.muli v3 c128_i32
  let c0_i32_11_r1 : BitVec 32 := 0#32
  ![v6.toNat, 0]
abbrev grid1 : Pipeline.Grid := .none

abbrev stage1_0 : Fin 1 → Memref sig .tc .vmem S64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x128 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x64 : Shape := ⟨2, ![64, 64]⟩
abbrev S1000000x64 : Shape := ⟨2, ![1000000, 64]⟩
abbrev S128x64 : Shape := ⟨2, ![128, 64]⟩
abbrev S64 : Shape := ⟨1, ![64]⟩
abbrev S64x1 : Shape := ⟨2, ![64, 1]⟩
abbrev S64x128 : Shape := ⟨2, ![64, 128]⟩
abbrev S64x100 : Shape := ⟨2, ![64, 100]⟩
abbrev S_ : Shape := ⟨0, ![]⟩
abbrev S64x100x1 : Shape := ⟨3, ![64, 100, 1]⟩
abbrev S1 : Shape := ⟨1, ![1]⟩
abbrev S1x1x1 : Shape := ⟨3, ![1, 1, 1]⟩
abbrev S64x100x64 : Shape := ⟨3, ![64, 100, 64]⟩
abbrev S64x1x64 : Shape := ⟨3, ![64, 1, 64]⟩
abbrev S64x100x128 : Shape := ⟨3, ![64, 100, 128]⟩
abbrev S1x1x64 : Shape := ⟨3, ![1, 1, 64]⟩
abbrev S64x5 : Shape := ⟨2, ![64, 5]⟩
abbrev S64x5x1 : Shape := ⟨3, ![64, 5, 1]⟩

abbrev nBuf : Space → Nat
  | .hbm => 66
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S1000000x64, .f32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S64x128, .i32⟩
  | .hbm, ⟨6, _⟩ => ⟨S64x100, .i32⟩
  | .hbm, ⟨7, _⟩ => ⟨S_, .i32⟩
  | .hbm, ⟨8, _⟩ => ⟨S64x100, .i32⟩
  | .hbm, ⟨9, _⟩ => ⟨S64x100, .i1⟩
  | .hbm, ⟨10, _⟩ => ⟨S_, .i32⟩
  | .hbm, ⟨11, _⟩ => ⟨S64x100, .i32⟩
  | .hbm, ⟨12, _⟩ => ⟨S64x100, .i32⟩
  | .hbm, ⟨13, _⟩ => ⟨S64x100, .i32⟩
  | .hbm, ⟨14, _⟩ => ⟨S64x100x1, .i32⟩
  | .hbm, ⟨15, _⟩ => ⟨S1, .i32⟩
  | .hbm, ⟨16, _⟩ => ⟨S_, .i32⟩
  | .hbm, ⟨17, _⟩ => ⟨S64x100x1, .i32⟩
  | .hbm, ⟨18, _⟩ => ⟨S64x100x1, .i1⟩
  | .hbm, ⟨19, _⟩ => ⟨S1x1x1, .i32⟩
  | .hbm, ⟨20, _⟩ => ⟨S64x100x1, .i32⟩
  | .hbm, ⟨21, _⟩ => ⟨S64x100x1, .i1⟩
  | .hbm, ⟨22, _⟩ => ⟨S64x100x1, .i1⟩
  | .hbm, ⟨23, _⟩ => ⟨S_, .i1⟩
  | .hbm, ⟨24, _⟩ => ⟨S64x100, .i1⟩
  | .hbm, ⟨25, _⟩ => ⟨S64x100x64, .f32⟩
  | .hbm, ⟨26, _⟩ => ⟨S64x100x64, .i1⟩
  | .hbm, ⟨27, _⟩ => ⟨S_, .f32⟩
  | .hbm, ⟨28, _⟩ => ⟨S64x100x64, .f32⟩
  | .hbm, ⟨29, _⟩ => ⟨S64x100x64, .f32⟩
  | .hbm, ⟨30, _⟩ => ⟨S64x1x64, .f32⟩
  | .hbm, ⟨31, _⟩ => ⟨S64x100x64, .f32⟩
  | .hbm, ⟨32, _⟩ => ⟨S64x100x128, .f32⟩
  | .hbm, ⟨33, _⟩ => ⟨S64x100x64, .f32⟩
  | .hbm, ⟨34, _⟩ => ⟨S1x1x64, .f32⟩
  | .hbm, ⟨35, _⟩ => ⟨S64x100x64, .f32⟩
  | .hbm, ⟨36, _⟩ => ⟨S64x100x64, .f32⟩
  | .hbm, ⟨37, _⟩ => ⟨S_, .f32⟩
  | .hbm, ⟨38, _⟩ => ⟨S64x100x64, .f32⟩
  | .hbm, ⟨39, _⟩ => ⟨S64x100x64, .f32⟩
  | .hbm, ⟨40, _⟩ => ⟨S64x100x1, .f32⟩
  | .hbm, ⟨41, _⟩ => ⟨S64x100, .f32⟩
  | .hbm, ⟨42, _⟩ => ⟨S64x5, .f32⟩
  | .hbm, ⟨43, _⟩ => ⟨S64x5, .i32⟩
  | .hbm, ⟨44, _⟩ => ⟨S_, .i32⟩
  | .hbm, ⟨45, _⟩ => ⟨S64x5, .i32⟩
  | .hbm, ⟨46, _⟩ => ⟨S64x5, .i1⟩
  | .hbm, ⟨47, _⟩ => ⟨S_, .i32⟩
  | .hbm, ⟨48, _⟩ => ⟨S64x5, .i32⟩
  | .hbm, ⟨49, _⟩ => ⟨S64x5, .i32⟩
  | .hbm, ⟨50, _⟩ => ⟨S64x5, .i32⟩
  | .hbm, ⟨51, _⟩ => ⟨S64x5x1, .i32⟩
  | .hbm, ⟨52, _⟩ => ⟨S1, .i32⟩
  | .hbm, ⟨53, _⟩ => ⟨S_, .i32⟩
  | .hbm, ⟨54, _⟩ => ⟨S64x5x1, .i32⟩
  | .hbm, ⟨55, _⟩ => ⟨S64x5x1, .i1⟩
  | .hbm, ⟨56, _⟩ => ⟨S1x1x1, .i32⟩
  | .hbm, ⟨57, _⟩ => ⟨S64x5x1, .i32⟩
  | .hbm, ⟨58, _⟩ => ⟨S64x5x1, .i1⟩
  | .hbm, ⟨59, _⟩ => ⟨S64x5x1, .i1⟩
  | .hbm, ⟨60, _⟩ => ⟨S_, .i1⟩
  | .hbm, ⟨61, _⟩ => ⟨S64x5, .i1⟩
  | .hbm, ⟨62, _⟩ => ⟨S64x5, .i32⟩
  | .hbm, ⟨63, _⟩ => ⟨S_, .i32⟩
  | .hbm, ⟨64, _⟩ => ⟨S64x5, .i32⟩
  | .hbm, ⟨65, _⟩ => ⟨S64x5, .i32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_values : Ref sig .tc := ⟨.hbm, 42, rfl⟩
abbrev main_indices : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_c_4 : Ref sig .tc := ⟨.hbm, 63, rfl⟩
abbrev main_call2_v14 : Ref sig .tc := ⟨.hbm, 64, rfl⟩
abbrev main_v12 : Ref sig .tc := ⟨.hbm, 65, rfl⟩

abbrev nD : Nat := 1
abbrev τ : Topo := Topo.v7x

variable {F : FTy → Type} [FloatOps F]
-- ==== Retrieval.lean ====
abbrev S64x64 : Shape := ⟨2, ![64, 64]⟩
abbrev S1000000x64 : Shape := ⟨2, ![1000000, 64]⟩
abbrev S_ : Shape := ⟨0, ![]⟩
abbrev S1015808x64 : Shape := ⟨2, ![1015808, 64]⟩
abbrev S64x496x128 : Shape := ⟨3, ![64, 496, 128]⟩
abbrev S1015808x128 : Shape := ⟨2, ![1015808, 128]⟩
abbrev S16384x64 : Shape := ⟨2, ![16384, 64]⟩
abbrev S64x8x128 : Shape := ⟨3, ![64, 8, 128]⟩
abbrev S16384x128 : Shape := ⟨2, ![16384, 128]⟩
abbrev S64x16384 : Shape := ⟨2, ![64, 16384]⟩
abbrev S64x128x128 : Shape := ⟨3, ![64, 128, 128]⟩
abbrev S64x128 : Shape := ⟨2, ![64, 128]⟩
abbrev S64x1x128 : Shape := ⟨3, ![64, 1, 128]⟩
abbrev S64x16x128 : Shape := ⟨3, ![64, 16, 128]⟩
abbrev S64x2048 : Shape := ⟨2, ![64, 2048]⟩
abbrev S64 : Shape := ⟨1, ![64]⟩
abbrev S64x1 : Shape := ⟨2, ![64, 1]⟩

abbrev nBuf : Space → Nat
  | .hbm => 10
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S1000000x64, .f32⟩
  | .hbm, ⟨2, _⟩ => ⟨S_, .i32⟩
  | .hbm, ⟨3, _⟩ => ⟨S_, .f32⟩
  | .hbm, ⟨4, _⟩ => ⟨S1015808x64, .f32⟩
  | .hbm, ⟨5, _⟩ => ⟨S64x496x128, .f32⟩
  | .hbm, ⟨6, _⟩ => ⟨S64x496x128, .i32⟩
  | .hbm, ⟨7, _⟩ => ⟨S1015808x128, .f32⟩
  | .hbm, ⟨8, _⟩ => ⟨S64x128, .f32⟩
  | .hbm, ⟨9, _⟩ => ⟨S64x128, .i32⟩
  | .local _ .vmem, ⟨0, _⟩ => ⟨S64x64, .f32⟩
  | .local _ .vmem, ⟨1, _⟩ => ⟨S16384x64, .f32⟩
  | .local _ .vmem, ⟨2, _⟩ => ⟨S16384x64, .f32⟩
  | .local _ .vmem, ⟨3, _⟩ => ⟨S64x8x128, .f32⟩
  | .local _ .vmem, ⟨4, _⟩ => ⟨S64x8x128, .f32⟩
  | .local _ .vmem, ⟨5, _⟩ => ⟨S64x8x128, .i32⟩
  | .local _ .vmem, ⟨6, _⟩ => ⟨S64x8x128, .i32⟩
  | .local _ .vmem, ⟨7, _⟩ => ⟨S16384x128, .f32⟩
  | .local _ .vmem, ⟨8, _⟩ => ⟨S16384x128, .f32⟩
  | .local _ .vmem, ⟨9, _⟩ => ⟨S64x496x128, .f32⟩
  | .local _ .vmem, ⟨10, _⟩ => ⟨S64x496x128, .i32⟩
  | .local _ .vmem, ⟨11, _⟩ => ⟨S64x128, .f32⟩
  | .local _ .vmem, ⟨12, _⟩ => ⟨S64x128, .i32⟩
  | .local _ .vmem, ⟨13, _⟩ => ⟨S64x496x128, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

@[reducible] def k1_t1_loop : Scf.Loop 32 :=
  let c0_i32_5 : BitVec 32 := 0#32
  let c16_i32 : BitVec 32 := 16#32
  let v9 : BitVec 32 := Scalar.addi c0_i32_5 c16_i32
  let c1_i32 : BitVec 32 := 1#32
  ⟨c0_i32_5, v9, c1_i32⟩
@[reducible] def k1_t2_loop : Scf.Loop 32 :=
  let c0_i32_8 : BitVec 32 := 0#32
  let c100_i32 : BitVec 32 := 100#32
  let v16 : BitVec 32 := Scalar.addi c0_i32_8 c100_i32
  let c1_i32_9 : BitVec 32 := 1#32
  ⟨c0_i32_8, v16, c1_i32_9⟩
abbrev stage1_0 : Fin 1 → Memref sig .tc .vmem S64x496x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x496x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== RetrievalReferenceIdeal.lean ====
abbrev S64x64 : Shape := ⟨2, ![64, 64]⟩
abbrev S1000000x64 : Shape := ⟨2, ![1000000, 64]⟩
abbrev S64x1000000 : Shape := ⟨2, ![64, 1000000]⟩
abbrev S64x100 : Shape := ⟨2, ![64, 100]⟩
abbrev S28 : Shape := ⟨1, ![28]⟩
abbrev S_ : Shape := ⟨0, ![]⟩
abbrev S64x28 : Shape := ⟨2, ![64, 28]⟩
abbrev S64x128 : Shape := ⟨2, ![64, 128]⟩
abbrev S1015808x128 : Shape := ⟨2, ![1015808, 128]⟩

abbrev nBuf : Space → Nat
  | .hbm => 15
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S1000000x64, .f32⟩
  | .hbm, ⟨2, _⟩ => ⟨S64x1000000, .f32⟩
  | .hbm, ⟨3, _⟩ => ⟨S64x1000000, .f32⟩
  | .hbm, ⟨4, _⟩ => ⟨S64x100, .f32⟩
  | .hbm, ⟨5, _⟩ => ⟨S64x100, .i32⟩
  | .hbm, ⟨6, _⟩ => ⟨S28, .i32⟩
  | .hbm, ⟨7, _⟩ => ⟨S_, .i32⟩
  | .hbm, ⟨8, _⟩ => ⟨S28, .i32⟩
  | .hbm, ⟨9, _⟩ => ⟨S28, .i32⟩
  | .hbm, ⟨10, _⟩ => ⟨S64x28, .i32⟩
  | .hbm, ⟨11, _⟩ => ⟨S64x128, .i32⟩
  | .hbm, ⟨12, _⟩ => ⟨S_, .i32⟩
  | .hbm, ⟨13, _⟩ => ⟨S_, .f32⟩
  | .hbm, ⟨14, _⟩ => ⟨S1015808x128, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.Setup.lean ====
/-
  The set-up the launch is proved in: the program's labels and its SparseCore configuration, the resource algebra
  (the handshakes' rounds, the TensorCore call's rounds, the transfers' counters), the arrays' places in memory, the
  block of rows a task writes, and the table of rows the SparseCore call leaves in the gathered array.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdx
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

/-- The labels of the TensorCore's own calls. -/
abbrev ΛP : Labels := Pipeline.Sig Λ₀ (Fin 1) fun p => (pcfgs (F := F) p).Adm
/-- The SparseCore configuration, one call. -/
abbrev K : SparseCore.Cfg τ sig (ΛP (F := F)) 1 := sc (F := F)
/-- The definitions below the SparseCore's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen tiles of each core, -/
theorem nSub_zero : (K (F := F)).nSub 0 = 16 := rfl
/-- and on two cores. -/
theorem nCore_zero : (K (F := F)).nCore 0 = 2 := rfl

/-- The configuration's cells are the ones the launch theorem asks for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore call's rounds. -/
abbrev UP : Type := Idealize.ShloMosaic.UR sig nD τ
/-- Both, and the transfers' counters. -/
abbrev UU : Type := UH × (UP × Counters)

/-- The machine's algebra over them. -/
abbrev MM (F : FTy → Type) : Type := MT nD τ sig (HIx 1) (Elt F) ℕ UU ℕ

abbrev EH : Emb UH (MM F) := embL
abbrev EP : Emb UP (MM F) := (Emb.inl : Emb UP (UP × Counters)).trans embR

/-! ## The arrays -/

/-- The index list, -/
abbrev iLoc (d : Dev nD) : Loc nD τ sig := (SparseCore.T d).loc main_arg5
/-- the padded table of key rows, -/
abbrev tLoc (d : Dev nD) : Loc nD τ sig := (SparseCore.T d).loc main_v0
/-- and the gathered rows. -/
abbrev oLoc (d : Dev nD) : Loc nD τ sig := (SparseCore.T d).loc main_v1

abbrev tV : Memref sig .scVector .hbm S1015808x128 .f32 := Memref.whole main_v0_scv
abbrev iV : Memref sig .scVector .hbm S64x128 .i32 := Memref.whole main_arg5_scv
abbrev oV : Memref sig .scVector .hbm S8192x128 .f32 := Memref.whole main_v1_scv
abbrev sV : Memref sig .scVector .vmem S128 .i32 := Memref.whole cc0_scratch0
abbrev rV : Memref sig .scVector .vmem S128x128 .f32 := Memref.whole cc0_scratch1

theorem odiv : 64 ∣ S8192x128.size 0 := ⟨128, rfl⟩
/-- Block `k` of the gathered rows: rows `128 k` to `128 k + 127`. -/
abbrev oblk (k : Fin 64) : Rect S8192x128 := Rect.part (s := S8192x128) (a₀ := 0) odiv k
abbrev oBlkSet (k : Fin 64) : Finset S8192x128.Idx := ((oV).view.slice (oblk k)).set

/-- Entry `(q, j)` of an index list, as a row of the table. -/
def rowAt (f : Vec F S64x128 .i32) (q : Fin 64) (j : Fin 128) : Fin 1015808 :=
  ⟨(f (ix2 q j)).toNat % 1015808, Nat.mod_lt _ (by decide)⟩

/-- What the call leaves in the gathered array: row `128 q + j` is the table's row that entry `(q, j)` of the list names. -/
def gathered (tb : Vec F S1015808x128 .f32) (f : Vec F S64x128 .i32) : Vec F S8192x128 .f32 := fun x =>
  tb (ix2 (rowAt f ⟨(x 0).val / 128, Nat.div_lt_of_lt_mul (show (x 0).val < 128 * 64 from (x 0).isLt)⟩
    ⟨(x 0).val % 128, Nat.mod_lt _ (by decide)⟩) (x 1))

/-! ## Shares: one leaf of thirty-two for each task -/

/-- The number of the task on tile `s` of core `c`. -/
def task (c : Fin 2) (s : Fin 16) : Fin (2 ^ 5) := ⟨2 * s.val + c.val, by have := c.isLt; have := s.isLt; omega⟩
/-- The share of the table and of the list that task reads. -/
abbrev tq (c : Fin 2) (s : Fin 16) : PosShare TreeShare := ShareLeaves.leaf 5 fullShare (task c s)
/-- The query whose rows that task gathers in its round `r`. -/
def query (c : Fin 2) (s : Fin 16) (r : Fin 2) : Fin 64 :=
  ⟨4 * s.val + 2 * c.val + r.val, by have := c.isLt; have := s.isLt; have := r.isLt; omega⟩

end Cert.Proof.Run

end
-- ==== Proof.Tile.lean ====
/-
  One task of the SparseCore call: for each of its two queries it fetches the query's 128 row numbers, gathers those
  rows of the table, and writes them out as the query's block of the gathered array.
-/
module

public import proofs.«01_k».proof.Proof.Setup
public import Idealize.ShloMosaic.Lib.ViewIndex

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- Row `query` of the list and block `query` of the gathered rows, as the task addresses them in its two rounds, and
    the whole table as it addresses it. -/
abbrev iRow0 (L : grid0.Coords) : Memref sig .scVector .hbm S128 .i32 :=
  ((iV).slice (Rect.unit (s := S64x128) (k0_off1 L 0#32) S1x128.size (k0_off1_inb L 0)) (fun _ => rfl)).squeeze S128 squeezes_S1x128_S128
abbrev iRow1 (L : grid0.Coords) : Memref sig .scVector .hbm S128 .i32 :=
  ((iV).slice (Rect.unit (s := S64x128) (k0_off1 L 1#32) S1x128.size (k0_off1_inb L 1)) (fun _ => rfl)).squeeze S128 squeezes_S1x128_S128
abbrev oBlk0 (L : grid0.Coords) : Memref sig .scVector .hbm S128x128 .f32 :=
  (oV).slice (Rect.unit (s := S8192x128) (k0_off2 L 0#32) S128x128.size (k0_off2_inb L 0)) (fun _ => rfl)
abbrev oBlk1 (L : grid0.Coords) : Memref sig .scVector .hbm S128x128 .f32 :=
  (oV).slice (Rect.unit (s := S8192x128) (k0_off2 L 1#32) S128x128.size (k0_off2_inb L 1)) (fun _ => rfl)
abbrev tAllK : Memref sig .scVector .hbm S1015808x128 .f32 :=
  (tV).slice (Rect.unit (s := S1015808x128) ![0, 0] S1015808x128.size inb_S1015808x128_S1015808x128_0_0) (fun _ => rfl)

theorem oblkK_eq (r : Fin 2) :
    Rect.unit (s := S8192x128) (k0_off2 L (BitVec.ofNat 32 r.val)) S128x128.size (k0_off2_inb L r) = oblk (query (cL L) (jL L) r) := by
  unfold oblk Rect.part Rect.block
  congr 1 <;> funext a
  · rw [k0_off2_eq]
    match a with
    | 0 => simp [Shape.partIx, Shape.partSize, query]; omega
    | 1 => simp [Shape.partIx, Shape.partSize]
  · match a with
    | 0 => simp [Shape.partSize]
    | 1 => simp [Shape.partSize]

theorem set_oBlk0 : (oBlk0 L).view.set = oBlkSet (query (cL L) (jL L) 0) := by
  show ((oV).view.slice (Rect.unit (s := S8192x128) (k0_off2 L 0#32) S128x128.size (k0_off2_inb L 0))).set = _
  exact oblkK_eq L 0 ▸ rfl
theorem set_oBlk1 : (oBlk1 L).view.set = oBlkSet (query (cL L) (jL L) 1) := by
  show ((oV).view.slice (Rect.unit (s := S8192x128) (k0_off2 L 1#32) S128x128.size (k0_off2_inb L 1))).set = _
  exact oblkK_eq L 1 ▸ rfl

theorem pts_oBlk0 (f : Buf (Elt F) (oLoc d)) :
    ((oBlk0 L).view.loc (V d (cV L) (jV L)) ↦[(oBlk0 L).view.set]{fullShare} f : sProp 𝕄)
      = oLoc d ↦[oBlkSet (query (cL L) (jL L) 0)]{fullShare} f := by
  rw [set_oBlk0]
theorem pts_oBlk1 (f : Buf (Elt F) (oLoc d)) :
    ((oBlk1 L).view.loc (V d (cV L) (jV L)) ↦[(oBlk1 L).view.set]{fullShare} f : sProp 𝕄)
      = oLoc d ↦[oBlkSet (query (cL L) (jL L) 1)]{fullShare} f := by
  rw [set_oBlk1]
theorem pts_iV (q : PosShare TreeShare) (f : Buf (Elt F) (iLoc d)) :
    ((iV).view.loc (V d (cV L) (jV L)) ↦{q} f : sProp 𝕄) = iLoc d ↦{q} f := rfl
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The cell of DMA semaphore `s` on the task's tile. -/
abbrev cellV (s : DmaSems sig S_) : GSem nD τ sig := (V d (cV L) (jV L), .dma s.sem)

/-- The five DMA cells the task uses are among the tile's own, at zero. -/
theorem ownSems0_V :
    (ownSems0 (V d (cV L) (jV L)) : sProp 𝕄)
      = iprop(semVal (cellV d L cc0_scratch2) 0 ∗ semVal (cellV d L cc0_scoped0) 0 ∗ semVal (cellV d L cc0_scoped1) 0
          ∗ semVal (cellV d L cc0_scoped2) 0 ∗ semVal (cellV d L cc0_scoped3) 0
          ∗ bigSep (((((((ownCells (V d (cV L) (jV L))).erase (cellV d L cc0_scratch2)).erase (cellV d L cc0_scoped0)).erase (cellV d L cc0_scoped1)).erase
              (cellV d L cc0_scoped2))).erase (cellV d L cc0_scoped3)) fun g => semVal g 0) := by
  have ne : ∀ {s t : DmaSems sig S_}, (SemLoc.dma t.sem : SemLoc sig) ≠ .dma s.sem → cellV d L t ≠ cellV d L s :=
    fun h e => h (Prod.mk.inj e).2
  have own : ∀ {s : DmaSems sig S_}, (SemLoc.dma s.sem : SemLoc sig).isScoped .scVector = true → cellV d L s ∈ ownCells (V d (cV L) (jV L)) :=
    fun h => mem_ownCells.mpr ⟨rfl, h⟩
  unfold SparseCore.Cfg.ownSems0
  rw [SparseCore.bigSep_erase' (own (s := cc0_scratch2) (by decide)),
    SparseCore.bigSep_erase' (Finset.mem_erase.mpr ⟨ne (s := cc0_scratch2) (t := cc0_scoped0) (by decide), own (by decide)⟩),
    SparseCore.bigSep_erase' (Finset.mem_erase.mpr ⟨ne (s := cc0_scoped0) (t := cc0_scoped1) (by decide),
      Finset.mem_erase.mpr ⟨ne (s := cc0_scratch2) (t := cc0_scoped1) (by decide), own (by decide)⟩⟩),
    SparseCore.bigSep_erase' (Finset.mem_erase.mpr ⟨ne (s := cc0_scoped1) (t := cc0_scoped2) (by decide),
      Finset.mem_erase.mpr ⟨ne (s := cc0_scoped0) (t := cc0_scoped2) (by decide),
      Finset.mem_erase.mpr ⟨ne (s := cc0_scratch2) (t := cc0_scoped2) (by decide), own (by decide)⟩⟩⟩),
    SparseCore.bigSep_erase' (Finset.mem_erase.mpr ⟨ne (s := cc0_scoped2) (t := cc0_scoped3) (by decide),
      Finset.mem_erase.mpr ⟨ne (s := cc0_scoped1) (t := cc0_scoped3) (by decide),
      Finset.mem_erase.mpr ⟨ne (s := cc0_scoped0) (t := cc0_scoped3) (by decide),
      Finset.mem_erase.mpr ⟨ne (s := cc0_scratch2) (t := cc0_scoped3) (by decide), own (by decide)⟩⟩⟩⟩)]

/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- What the proof asks of the list: every word names a row of the table. -/
def ListOK (f : Vec F S64x128 .i32) : Prop := ∀ j : S64x128.Idx, (f j).toNat < 1015808

variable (tb : (d : Dev nD) → Buf (Elt F) (tLoc d)) (ix : (d : Dev nD) → Buf (Elt F) (iLoc d)) (o₀ : (d : Dev nD) → Buf (Elt F) (oLoc d))

/-- The whole gathered array. -/
abbrev gAll : Buf (Elt F) (oLoc d) := gathered (tb d) (ix d)

/-- What a task is handed, and hands back: its shares of the table and of the list, and its two blocks of the gathered
    array. -/
abbrev taskRes (c : Fin 2) (s : Fin 16) (f : Buf (Elt F) (oLoc d)) : sProp 𝕄 :=
  iprop((tLoc d ↦{tq c s} tb d) ∗ (iLoc d ↦{tq c s} ix d)
    ∗ (oLoc d ↦[oBlkSet (query c s 0)]{fullShare} f) ∗ oLoc d ↦[oBlkSet (query c s 1)]{fullShare} f)

/-- The row numbers the stream reads are in range: the fetch left a row of the list in the scratch. -/
theorem inb_of_list (f : Buf (Elt F) (iLoc d)) (hpre : ListOK f) (fs : Buf (Elt F) ((V d (cV L) (jV L)).loc cc0_scratch0)) (pay : S128.Idx → Elt F .i32)
    (hpay : ∀ x, ∃ j, pay x = f j) :
    ∀ x, ((sV).view.read (Elt F) (View.write (Elt F) (sV).view fs pay Finset.univ) x).toNat
      < S1015808x128.size gathers_S1015808x128_S128x128.axis := by
  intro x
  rw [View.write_whole_univ]
  simp only [Memref.view_whole, View.read_whole]
  obtain ⟨j, hj⟩ := hpay x
  rw [hj]; exact hpre j

/-- Row number `x` of the list's row as the task addresses it in round `r` is the list's own entry. -/
theorem emb_iRow (r : Fin 2) (x : S128.Idx) :
    (((iV).slice (Rect.unit (s := S64x128) (k0_off1 L (BitVec.ofNat 32 r.val)) S1x128.size (k0_off1_inb L r)) (fun _ => rfl)).squeeze S128
      squeezes_S1x128_S128).view.emb x = ix2 (query (cL L) (jL L) r) (x 0) := by
  have e : Shape.reshapeEquiv squeezes_S1x128_S128.numel_eq x = (ix2 (⟨0, Nat.one_pos⟩ : Fin 1) (x 0) : S1x128.Idx) :=
    Shape.reshapeEquiv_eq_of_rowMajor _ (by
      rw [Shape.rowMajor_val_two, Shape.rowMajor_val_one]
      show 0 * 128 + (x 0).val = (x 0).val
      omega)
  show (Rect.unit (s := S64x128) (k0_off1 L (BitVec.ofNat 32 r.val)) S1x128.size (k0_off1_inb L r)).emb
    (Shape.reshapeEquiv squeezes_S1x128_S128.numel_eq x) = _
  rw [e]
  funext a
  apply Fin.ext
  refine (congrArg (· + 1 * ((ix2 (⟨0, Nat.one_pos⟩ : Fin 1) (x 0) : S1x128.Idx) a).val) (congrFun (k0_off1_eq L r) a)).trans ?_
  match a with
  | 0 => show 4 * (L 1).val + 2 * (L 0).val + r.val + 1 * 0 = 4 * (L 1).val + 2 * (L 0).val + r.val; omega
  | 1 => show 0 + 1 * (x 0).val = (x 0).val; omega

/-- Element `x` of the block the task writes in round `r` is the gathered array's element in that query's rows. -/
theorem emb_oBlk (r : Fin 2) (x : S128x128.Idx) :
    ((oV).slice (Rect.unit (s := S8192x128) (k0_off2 L (BitVec.ofNat 32 r.val)) S128x128.size (k0_off2_inb L r)) (fun _ => rfl)).view.emb x
      = (ix2 ⟨128 * (query (cL L) (jL L) r).val + (x 0).val, by
          have := (query (cL L) (jL L) r).isLt; have := (idx2_lt0 x); omega⟩ (x 1) : S8192x128.Idx) := by
  funext a
  apply Fin.ext
  refine (congrArg (· + 1 * (x a).val) (congrFun (k0_off2_eq L r) a)).trans ?_
  match a with
  | 0 => show 512 * (L 1).val + 256 * (L 0).val + 128 * r.val + 1 * (x 0).val
            = 128 * (4 * (L 1).val + 2 * (L 0).val + r.val) + (x 0).val; omega
  | 1 => show 0 + 1 * (x 1).val = (x 1).val; omega

omit [FloatOps F] in
/-- What the stream delivers when the scratch holds row `q` of the list: query `q`'s block of the gathered array. -/
theorem payload_eq (q : Fin 64) (t : Buf (Elt F) (tLoc d)) (f : Buf (Elt F) (iLoc d)) (hpre : ∀ j : S64x128.Idx, (f j).toNat < 1015808)
    (idx : S128.Idx → Elt F .i32) (hidx : ∀ x, idx x = f (ix2 q (x 0)))
    (hin : ∀ x, (idx x).toNat < S1015808x128.size gathers_S1015808x128_S128x128.axis) (x : S128x128.Idx) (y : S8192x128.Idx)
    (hy0 : (y 0).val = 128 * q.val + (x 0).val) (hy1 : (y 1).val = (x 1).val) :
    SparseCore.gatherPayload (F := F) (e := .f32) gathers_S1015808x128_S128x128 ((tAllK).view.read (Elt F) t)
      (SparseCore.rows (F := F) (si := S128) (o := 128) idx rfl hin) x = gathered t f y := by
  have hx0 : (x 0).val < 128 := idx2_lt0 x
  unfold SparseCore.gatherPayload gathered
  refine (View.read_apply _ _).trans ((cast_eq _ _).trans (congrArg t ?_))
  show (Rect.unit (s := S1015808x128) ![0, 0] S1015808x128.size inb_S1015808x128_S1015808x128_0_0).emb _ = _
  funext a
  apply Fin.ext
  match a with
  | 0 =>
    show 0 + 1 * (gathers_S1015808x128_S128x128.idx _ x 0).val = _
    have e := congrArg Fin.val (Shape.Gathers.idx_axis gathers_S1015808x128_S128x128 (SparseCore.rows (F := F) (si := S128) (o := 128) idx rfl hin) x)
    rw [show (gathers_S1015808x128_S128x128.idx (SparseCore.rows (F := F) (si := S128) (o := 128) idx rfl hin) x 0).val = _ from e]
    show 0 + 1 * (idx (S128.rowMajor.symm ((x 0).cast rfl))).toNat = (f (ix2 _ _)).toNat % 1015808
    have hs : S128.rowMajor.symm ((x 0).cast rfl) = (ix1 (x 0) : S128.Idx) :=
      (Equiv.symm_apply_eq _).mpr (Fin.ext (show (x 0).val = (S128.rowMajor (ix1 (x 0))).val from
        (Shape.rowMajor_val_one (d := ![128]) (ix1 (x 0))).symm))
    rw [hs, hidx, Nat.mod_eq_of_lt (hpre _)]
    have h0 : (⟨(y 0).val / 128, Nat.div_lt_of_lt_mul (show (y 0).val < 128 * 64 from (y 0).isLt)⟩ : Fin 64) = q := Fin.ext (by
      show (y 0).val / 128 = q.val; omega)
    have h1 : (⟨(y 0).val % 128, Nat.mod_lt _ (by decide)⟩ : Fin 128) = x 0 := Fin.ext (by
      show (y 0).val % 128 = (x 0).val; omega)
    rw [h0, h1]
    show 0 + 1 * (f (ix2 q (x 0))).toNat = _
    omega
  | 1 =>
    show 0 + 1 * (gathers_S1015808x128_S128x128.idx _ x 1).val = (y 1).val
    have e := Shape.Gathers.idx_of_ne gathers_S1015808x128_S128x128 (SparseCore.rows (F := F) (si := S128) (o := 128) idx rfl hin) x 1 (by decide)
    refine (congrArg (0 + 1 * ·) e).trans ?_
    show 0 + 1 * (x 1).val = _
    omega

omit [FloatOps F] in
/-- A view read back after a write of all of it is what was written. -/
theorem read_whole_written {κ : Kind} {sp : Space} {s : Shape} {e : EltTy} (v : View sig κ sp s e) (f : v.ty.Contents (Elt F))
    (w : s.Idx → Elt F e) (l : List (View.Piece (Elt F) s e)) (x : s.Idx) :
    v.read (Elt F) (v.writes (Elt F) f (⟨Rect.whole s, w⟩ :: l)) x = w x := by
  have := View.read_writes_cons_emb (v := v) (f := f) (Rect.whole s) w l x
  rwa [Rect.emb_whole_apply] at this

omit [FloatOps F] in
/-- A block written whole holds any contents that the written values are. -/
theorem agree_written (m : Memref sig .scVector .hbm S128x128 .f32) (f g : m.view.ty.Contents (Elt F)) (w : S128x128.Idx → Elt F .f32)
    (h : ∀ x, w x = m.view.read (Elt F) g x) :
    ∀ i ∈ m.view.set, m.view.writes (Elt F) f [⟨Rect.whole S128x128, w⟩] i = g i := by
  intro i hi
  obtain ⟨x, -, rfl⟩ := Finset.mem_map.mp hi
  refine View.eq_of_read_eq (Eq.trans ?_ (h x))
  exact read_whole_written m.view f w [] x

set_option maxHeartbeats 4000000 in
theorem tile_body (hF : (K (F := F)).Facts) (hpre : ListOK (ix d)) (O : CellTallies nD τ sig (HIx 1)) (W : Waits sig (HIx 1)) (hO : ∀ g, O g none = 0) :
    iprop(levAts (K (F := F)).L (K (F := F)).lev ∗ emp
        ∗ taskRes d tb ix (cL L) (jL L) (o₀ d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L tV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3)
          fun _ => iprop(taskRes d tb ix (cL L) (jL L) (gAll d tb ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton, k0_part1_eq_skeleton]; unfold cc0_gather_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Ht, Hi, Ho0, Ho1⟩, ⟨⟨%fs, Hs⟩, ⟨%fr, Hr⟩, Hbufs⟩, ⟨HsemG, HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tV (F := F) d L _ _).symm) $$ Ht
  ihave Hi' := (Entails.of_eq (pts_iV (F := F) d L _ _).symm) $$ Hi
  ihave Ho0' := (Entails.of_eq (pts_oBlk0 (F := F) d L _).symm) $$ Ho0
  ihave Ho1' := (Entails.of_eq (pts_oBlk1 (F := F) d L _).symm) $$ Ho1
  ihave Hs' := (Entails.of_eq (pts_sV (F := F) d L _).symm) $$ Hs
  ihave Hr' := (Entails.of_eq (pts_rV (F := F) d L _).symm) $$ Hr
  sl_exec
  have hin0 := inb_of_list (F := F) d L (ix d) hpre fs (tile_body.sl.dma0 d L ix)
    (fun x => ⟨(iRow0 L).view.emb x, (View.read_apply _ _).trans (cast_eq _ _)⟩)
  sl_exec
  have hin1 := inb_of_list (F := F) d L (ix d) hpre (View.write (Elt F) (sV).view fs (tile_body.sl.dma0 d L ix) Finset.univ) (tile_body.sl.dma0_2 d L ix)
    (fun x => ⟨(iRow1 L).view.emb x, (View.read_apply _ _).trans (cast_eq _ _)⟩)
  sl_exec
  sl_step
  have hd0 : ∀ x, (sV).view.read (Elt F) (View.write (Elt F) (sV).view fs (tile_body.sl.dma0 d L ix) Finset.univ) x
      = ix d (ix2 (query (cL L) (jL L) 0) (x 0)) := fun x => by
    rw [View.write_whole_univ]
    simp only [Memref.view_whole, View.read_whole]
    exact ((View.read_apply _ _).trans (cast_eq _ _)).trans (congrArg (ix d) (emb_iRow L 0 x))
  have hd1 : ∀ x, (sV).view.read (Elt F) (View.write (Elt F) (sV).view (View.write (Elt F) (sV).view fs (tile_body.sl.dma0 d L ix) Finset.univ)
      (tile_body.sl.dma0_2 d L ix) Finset.univ) x = ix d (ix2 (query (cL L) (jL L) 1) (x 0)) := fun x => by
    rw [View.write_whole_univ]
    simp only [Memref.view_whole, View.read_whole]
    exact ((View.read_apply _ _).trans (cast_eq _ _)).trans (congrArg (ix d) (emb_iRow L 1 x))
  have hg0 : ∀ x, tile_body.sl.dma0_1 d L tb ix fs fr hin0 x = (oBlk0 L).view.read (Elt F) (gAll d tb ix) x := fun x => by
    refine Eq.trans ?_ (((View.read_apply _ _).trans (cast_eq _ _)).trans (congrArg (gAll d tb ix) (emb_oBlk L 0 x))).symm
    refine Eq.trans ?_ (payload_eq d (query (cL L) (jL L) 0) (tb d) (ix d) hpre _ hd0 hin0 x _ rfl rfl)
    exact read_whole_written (rV).view fr (tile_body.sl.gather0 d L tb ix fs hin0) [] x
  have hg1 : ∀ x, tile_body.sl.dma0_3 d L tb ix fs fr hin0 hin1 x = (oBlk1 L).view.read (Elt F) (gAll d tb ix) x := fun x => by
    refine Eq.trans ?_ (((View.read_apply _ _).trans (cast_eq _ _)).trans (congrArg (gAll d tb ix) (emb_oBlk L 1 x))).symm
    refine Eq.trans ?_ (payload_eq d (query (cL L) (jL L) 1) (tb d) (ix d) hpre _ hd1 hin1 x _ rfl rfl)
    exact read_whole_written (rV).view fr (tile_body.sl.gather0_1 d L tb ix fs hin1) _ x
  isplitl [Ht' Hi' Ho0' Ho1']
  · isplitl [Ht']; · iexact Ht'
    isplitl [Hi']; · iexact Hi'
    isplitl [Ho0']
    · iapply (Entails.of_eq (pts_oBlk0 (F := F) d L _))
      iapply (Entails.of_eq (pointsTo_congr (agree_written (oBlk0 L) (o₀ d) (gAll d tb ix) _ hg0))) $$ Ho0'
    · iapply (Entails.of_eq (pts_oBlk1 (F := F) d L _))
      iapply (Entails.of_eq (pointsTo_congr (agree_written (oBlk1 L) (o₀ d) (gAll d tb ix) _ hg1))) $$ Ho1'
  isplitl [Hs' Hr' Hbufs]
  · isplitl [Hs']; · iexists _; iexact Hs'
    isplitl [Hr']; · iexists _; iexact Hr'
    iexact Hbufs
  isplitl [HsemA HsemB HsemC HsemD HsemG Hsems]
  · isplitl [HsemG]; · iexact HsemG
    isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  simp only [Finset.mem_insert] at hp
  rcases hp with hp | hp | hp | hp | hp | hp | hp
  iterate 6 exact .inr (hp ▸ rfl)
  exact .inl hp

end Tile
end Cert.Proof.Run

end
-- ==== Proof.Call.lean ====
/-
  The SparseCore call as the launch theorem takes it: what each handshake carries, each tile's obligation, how a core's
  resources are its sixteen tasks', and how the three whole arrays are the thirty-two tasks'.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]
variable (tb : (d : Dev nD) → Buf (Elt F) (tLoc d)) (ix : (d : Dev nD) → Buf (Elt F) (iLoc d)) (o₀ : (d : Dev nD) → Buf (Elt F) (oLoc d))

/-- What core `c`'s sixteen tasks hold together. -/
abbrev coreRes (d : Dev nD) (c : Fin 2) (f : Buf (Elt F) (oLoc d)) : sProp 𝕄 :=
  bigSep Finset.univ fun i : Fin 16 => taskRes d tb ix c i f

/-- The call hands each core its tasks' resources, each task its own, and takes them back with the gathered rows
    written. -/
def P : (K (F := F)).Pay (nD := nD) (Val := Elt F) (Name := ℕ) (U := UU) where
  st := fun q d c => match q with | 0 => coreRes tb ix d (Fin.cast nCore_zero c) (o₀ d)
  dn := fun q d c => match q with | 0 => coreRes tb ix d (Fin.cast nCore_zero c) (gAll d tb ix)
  go := fun q d c i => match q with | 0 => taskRes d tb ix (Fin.cast nCore_zero c) (Fin.cast nSub_zero i) (o₀ d)
  td := fun q d c i => match q with | 0 => taskRes d tb ix (Fin.cast nCore_zero c) (Fin.cast nSub_zero i) (gAll d tb ix)
  x := fun _ _ => iprop(emp)

instance P_storable : (P (F := F) tb ix o₀).IsStorable where
  st q d c := match q with
    | 0 => (inferInstance : BI.Storable (upEmb : UEmb _ 𝕄) (coreRes tb ix d (Fin.cast nCore_zero c) (o₀ d)))
  dn q d c := match q with
    | 0 => (inferInstance : BI.Storable (upEmb : UEmb _ 𝕄) (coreRes tb ix d (Fin.cast nCore_zero c) (gAll d tb ix)))
  go q d c i := match q with
    | 0 => (inferInstance : BI.Storable (upEmb : UEmb _ 𝕄) (taskRes d tb ix (Fin.cast nCore_zero c) (Fin.cast nSub_zero i) (o₀ d)))
  td q d c i := match q with
    | 0 => (inferInstance : BI.Storable (upEmb : UEmb _ 𝕄) (taskRes d tb ix (Fin.cast nCore_zero c) (Fin.cast nSub_zero i) (gAll d tb ix)))

/-! ## A tile's obligation -/

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          tV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3) ⟨⟩ c s := rfl

omit [FloatOps F] in
/-- A task's waits are all recorded outside the call's own handshakes. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task. -/
theorem tileObl (hF : (K (F := F)).Facts) (hpre : ∀ d, ListOK (ix d)) : (K (F := F)).TileObl (D (F := F)) 𝒱 (P tb ix o₀) v₀ 0 := by
  intro d c i O W hO _ _
  simp only [show (P tb ix o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tb ix o₀ hF (hpre d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's resources are its tasks' both ways. -/
theorem vecSplit : (K (F := F)).VecSplit' (P tb ix o₀) 0 := by
  intro d c
  show coreRes tb ix d (Fin.cast nCore_zero c) (o₀ d) ⊢ |={Set.univ}=> iprop(
      (bigSep Finset.univ fun i : Fin ((K (F := F)).nSub 0) => taskRes d tb ix (Fin.cast nCore_zero c) (Fin.cast nSub_zero i) (o₀ d))
      ∗ ((bigSep Finset.univ fun i : Fin ((K (F := F)).nSub 0) => taskRes d tb ix (Fin.cast nCore_zero c) (Fin.cast nSub_zero i) (gAll d tb ix))
          -∗ coreRes tb ix d (Fin.cast nCore_zero c) (gAll d tb ix)))
  rw [bigSep_tasks (F := F) (fun i => taskRes d tb ix (Fin.cast nCore_zero c) i (o₀ d)),
    bigSep_tasks (F := F) (fun i => taskRes d tb ix (Fin.cast nCore_zero c) i (gAll d tb ix))]
  iintro H; imodintro
  isplitl [H]; · iexact H
  iintro H; iexact H

/-! ## The whole arrays are the tasks' -/

/-- The cores' tasks, and the tasks numbered. -/
def taskEquiv : Fin 2 × Fin 16 ≃ Fin (2 ^ 5) where
  toFun x := task x.1 x.2
  invFun k := (⟨k.val % 2, Nat.mod_lt _ (by decide)⟩, ⟨k.val / 2, by have := k.isLt; omega⟩)
  left_inv x := by
    obtain ⟨c, s⟩ := x
    have := c.isLt
    refine Prod.ext (Fin.ext ?_) (Fin.ext ?_)
    · show (2 * s.val + c.val) % 2 = c.val; omega
    · show (2 * s.val + c.val) / 2 = s.val; omega
  right_inv k := Fin.ext (by show 2 * (k.val / 2) + k.val % 2 = k.val; omega)

/-- The cores' tasks' rounds, and the queries. -/
def queryEquiv : (Fin 2 × Fin 16) × Fin 2 ≃ Fin 64 where
  toFun x := query x.1.1 x.1.2 x.2
  invFun k := ((⟨k.val / 2 % 2, Nat.mod_lt _ (by decide)⟩, ⟨k.val / 4, by have := k.isLt; omega⟩), ⟨k.val % 2, Nat.mod_lt _ (by decide)⟩)
  left_inv x := by
    obtain ⟨⟨c, s⟩, r⟩ := x
    have := c.isLt; have := r.isLt
    refine Prod.ext (Prod.ext (Fin.ext ?_) (Fin.ext ?_)) (Fin.ext ?_)
    · show (4 * s.val + 2 * c.val + r.val) / 2 % 2 = c.val; omega
    · show (4 * s.val + 2 * c.val + r.val) / 4 = s.val; omega
    · show (4 * s.val + 2 * c.val + r.val) % 2 = r.val; omega
  right_inv k := Fin.ext (by show 4 * (k.val / 4) + 2 * (k.val / 2 % 2) + k.val % 2 = k.val; omega)

omit [FloatOps F] in
theorem oBlkSet_eq (k : Fin 64) : oBlkSet k = (oblk k).set := by
  show ((View.whole (main_v1_scv : Ref sig .scVector)).slice (oblk k)).set = _
  rw [View.set_slice]; exact Finset.map_refl
theorem oblks_disjoint : ∀ i ∈ (Finset.univ : Finset (Fin 64)), ∀ j ∈ (Finset.univ : Finset (Fin 64)), i ≠ j → Disjoint (oBlkSet i) (oBlkSet j) :=
  fun i _ j _ h => by rw [oBlkSet_eq, oBlkSet_eq]; exact Rect.part_disjoint odiv h
theorem oblks_cover : (Finset.univ : Finset (Fin 64)).biUnion oBlkSet = Finset.univ :=
  (Finset.biUnion_congr rfl fun i _ => oBlkSet_eq i).trans (Rect.biUnion_part odiv)

theorem oPts_blocks (d : Dev nD) (f : Buf (Elt F) (oLoc d)) :
    (oLoc d ↦{fullShare} f : sProp 𝕄) = bigSep Finset.univ fun k : Fin 64 => oLoc d ↦[oBlkSet k]{fullShare} f := by
  rw [← pointsTo_biUnion Finset.univ (ℓ := oLoc d) oBlkSet oblks_disjoint, oblks_cover]; try rfl

/-- A resource for every core and every tile, as the cores' resources. -/
theorem bigSep_pairs (Φ : Fin 2 → Fin 16 → sProp 𝕄) :
    (bigSep Finset.univ fun x : Fin 2 × Fin 16 => Φ x.1 x.2) = bigSep Finset.univ fun c => bigSep Finset.univ fun s => Φ c s :=
  bigSep_univ_prod fun x => Φ x.1 x.2

/-- The table, the list and the gathered array, all whole, are what the two cores hold. -/
theorem whole_cores (d : Dev nD) (f : Buf (Elt F) (oLoc d)) :
    iprop((tLoc d ↦{fullShare} tb d) ∗ (iLoc d ↦{fullShare} ix d) ∗ oLoc d ↦{fullShare} f)
      = (bigSep Finset.univ fun c : Fin 2 => coreRes tb ix d c f : sProp 𝕄) := by
  have ht : (tLoc d ↦{fullShare} tb d : sProp 𝕄) = bigSep Finset.univ fun x : Fin 2 × Fin 16 => tLoc d ↦{tq x.1 x.2} tb d := by
    rw [ShareLeaves.pointsTo_leaves Finset.univ (tb d) 5 fullShare, bigSep_univ_equiv taskEquiv]; rfl
  have hi : (iLoc d ↦{fullShare} ix d : sProp 𝕄) = bigSep Finset.univ fun x : Fin 2 × Fin 16 => iLoc d ↦{tq x.1 x.2} ix d := by
    rw [ShareLeaves.pointsTo_leaves Finset.univ (ix d) 5 fullShare, bigSep_univ_equiv taskEquiv]; rfl
  have ho : (oLoc d ↦{fullShare} f : sProp 𝕄) = bigSep Finset.univ fun x : Fin 2 × Fin 16 =>
      iprop((oLoc d ↦[oBlkSet (query x.1 x.2 0)]{fullShare} f) ∗ oLoc d ↦[oBlkSet (query x.1 x.2 1)]{fullShare} f) := by
    rw [oPts_blocks, bigSep_univ_equiv queryEquiv, bigSep_univ_prod]
    refine bigSep_congr fun x _ => ?_
    rw [show (Finset.univ : Finset (Fin 2)) = {0, 1} by decide, SparseCore.bigSep_insert' (by decide), bigSep_singleton]
    rfl
  rw [ht, hi, ho, ← bigSep_sep', ← bigSep_sep']
  exact bigSep_pairs fun c s => taskRes d tb ix c s f

end Cert.Proof.Run

end
-- ==== Proof.Region.lean ====
/-
  The TensorCore call: its body run at one point, its proof data, and its region over the thread state "every unscoped
  buffer at a valuation".
-/
module

public import proofs.«01_k».proof.Proof.Call
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation)

variable {F : FTy → Type} [FloatOps F]

local notation "𝕄" => MT nD τ sig (HIx 1) (Elt F) ℕ UU ℕ

/-! ## What the body computes -/

/-- Each lane's number within its row. -/
abbrev lanes : IVec S64x128 32 := iota .tc S64x128 32 [1] iota_S64x128_d1_w32

/-- The scores and the catalogue rows the five rounds of extraction leave, from the scored candidates `s` and their
    catalogue rows `n`. -/
def ranked (s : Vec F S64x128 .f32) (n : Vec F S64x128 .i32) : Vec F S64x128 .f32 × Vec F S64x128 .i32 :=
  let v58 := k1_pay4 lanes s
  let v63 := k1_pay5 lanes s n
  let v65 := k1_pay6 lanes s
  let v67 := k1_pay7 lanes s
  let v75 := k1_pay8 lanes s
  let v79 := k1_pay9 lanes s n
  let v81 := k1_pay10 lanes
  let v110 := k1_pay14 lanes v58 v65 v67 v75 v81
  let v115 := k1_pay15 lanes n v63 v65 v75 v79
  let v117 := k1_pay16 lanes v65 v75
  let v119 := k1_pay17 lanes v65 v75
  let v127 := k1_pay18 lanes v65 v75
  (k1_pay21 lanes v110 v117 v119 v127, k1_pay22 lanes n v115 v117 v127 1073741824#32)

/-- The scored candidates: from the gathered rows `g`, the weights, the queries and the biases. -/
def scored (q : Vec F S64x64 .f32) (g : Vec F S8192x128 .f32) (w1 : Vec F S128x64 .f32) (b : Vec F S1x64 .f32) (w2 : Vec F S64x1 .f32) :
    Vec F S64x128 .f32 := k1_pay1 g w1 w1 q b w2

/-- The body in one line of memory operations: seven loads, then each result's (unused) load and its store. -/
def bodyLine (a0 : Memref sig .tc .vmem S64x64 .f32) (a1 : Memref sig .tc .vmem S8192x128 .f32) (a2 : Memref sig .tc .vmem S128x64 .f32)
    (a3 : Memref sig .tc .vmem S1x64 .f32) (a4 : Memref sig .tc .vmem S64x1 .f32) (a5 : Memref sig .tc .vmem S64x128 .i32)
    (a6 : Memref sig .tc .vmem S64x128 .f32) (a7 : Memref sig .tc .vmem S64x128 .i32) : Prog (TpuEff nD τ sig (Elt F) Λ₀ .tc) PUnit := do
  let g : Vec F S8192x128 .f32 ← Prog.lift (.load a1 (Rect.unit (s := S8192x128) ![0, 0] S8192x128.size inb_S8192x128_S8192x128_0_0).toLoadRect (View.loadsAt_vmem h_S8192x128))
  let w1 : Vec F S128x64 .f32 ← Prog.lift (.load a2 (Rect.unit (s := S128x64) ![0, 0] S128x64.size inb_S128x64_S128x64_0_0).toLoadRect (View.loadsAt_vmem h_S128x64))
  let w1' : Vec F S128x64 .f32 ← Prog.lift (.load a2 (Rect.unit (s := S128x64) ![0, 0] S128x64.size inb_S128x64_S128x64_0_0).toLoadRect (View.loadsAt_vmem h_S128x64))
  let q : Vec F S64x64 .f32 ← Prog.lift (.load a0 (Rect.unit (s := S64x64) ![0, 0] S64x64.size inb_S64x64_S64x64_0_0).toLoadRect (View.loadsAt_vmem h_S64x64))
  let b : Vec F S1x64 .f32 ← Prog.lift (.load a3 (Rect.unit (s := S1x64) ![0, 0] S1x64.size inb_S1x64_S1x64_0_0).toLoadRect (View.loadsAt_vmem h_S1x64))
  let w2 : Vec F S64x1 .f32 ← Prog.lift (.load a4 (Rect.unit (s := S64x1) ![0, 0] S64x1.size inb_S64x1_S64x1_0_0).toLoadRect (View.loadsAt_vmem h_S64x1))
  let n : Vec F S64x128 .i32 ← Prog.lift (.load a5 (Rect.unit (s := S64x128) ![0, 0] S64x128.size inb_S64x128_S64x128_0_0).toLoadRect (View.loadsAt_vmem h_S64x128))
  let _u : Vec F S64x128 .f32 ← Prog.lift (.load a6 (Rect.unit (s := S64x128) ![0, 0] S64x128.size inb_S64x128_S64x128_0_0).toLoadRect (View.loadsAt_vmem h_S64x128))
  Prog.lift (.store a6 (Rect.unit (s := S64x128) ![0, 0] S64x128.size inb_S64x128_S64x128_0_0) (ranked (k1_pay1 g w1 w1' q b w2) n).1 Finset.univ (View.stores_vmem_bits_univ h_S64x128 rfl) (.inl rfl))
  let _u : Vec F S64x128 .i32 ← Prog.lift (.load a7 (Rect.unit (s := S64x128) ![0, 0] S64x128.size inb_S64x128_S64x128_0_0).toLoadRect (View.loadsAt_vmem h_S64x128))
  Prog.lift (.store a7 (Rect.unit (s := S64x128) ![0, 0] S64x128.size inb_S64x128_S64x128_0_0) (ranked (k1_pay1 g w1 w1' q b w2) n).2 Finset.univ (View.stores_vmem_bits_univ h_S64x128 rfl) (.inl rfl))
  pure ⟨⟩

set_option maxRecDepth 65536 in
/-- The printed body is that line: its parts return, they do not loop. -/
theorem body_eq_line (a0 : Memref sig .tc .vmem S64x64 .f32) (h0 : a0.IsWhole) (a1 : Memref sig .tc .vmem S8192x128 .f32) (h1 : a1.IsWhole)
    (a2 : Memref sig .tc .vmem S128x64 .f32) (h2 : a2.IsWhole) (a3 : Memref sig .tc .vmem S1x64 .f32) (h3 : a3.IsWhole)
    (a4 : Memref sig .tc .vmem S64x1 .f32) (h4 : a4.IsWhole) (a5 : Memref sig .tc .vmem S64x128 .i32) (h5 : a5.IsWhole)
    (a6 : Memref sig .tc .vmem S64x128 .f32) (h6 : a6.IsWhole) (a7 : Memref sig .tc .vmem S64x128 .i32) (h7 : a7.IsWhole) :
    cc1__rank_final (F := F) a0 h0 a1 h1 a2 h2 a3 h3 a4 h4 a5 h5 a6 h6 a7 h7 = bodyLine a0 a1 a2 a3 a4 a5 a6 a7 := by
  rw [cc1__rank_final_eq_skeleton]; unfold cc1__rank_final_skel
  simp only [k1_part4_eq_skeleton]; unfold k1_part4_skel
  simp only [k1_part1_eq_skeleton]; unfold k1_part1_skel
  simp only [k1_part2_eq_skeleton]; unfold k1_part2_skel
  simp only [k1_part3_eq_skeleton]; unfold k1_part3_skel
  rfl

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxRecDepth 65536 in
/-- The body, from its eight staging buffers held whole, runs to its return with the six operands as they were and the
    two results at the ranked candidates' scores and rows. -/
theorem body_run (c : Dev nD)
    (f0 : Bf (F := F) c (stage1_0 0)) (f1 : Bf (F := F) c (stage1_1 0)) (f2 : Bf (F := F) c (stage1_2 0)) (f3 : Bf (F := F) c (stage1_3 0))
    (f4 : Bf (F := F) c (stage1_4 0)) (f5 : Bf (F := F) c (stage1_5 0)) (f6 : Bf (F := F) c (stage1_6 0)) (f7 : Bf (F := F) c (stage1_7 0))
    (E : Set ℕ) (Q : PUnit → sProp 𝕄) :
    iprop(pt c (stage1_0 0) f0 ∗ pt c (stage1_1 0) f1 ∗ pt c (stage1_2 0) f2 ∗ pt c (stage1_3 0) f3 ∗ pt c (stage1_4 0) f4 ∗ pt c (stage1_5 0) f5
        ∗ pt c (stage1_6 0) f6 ∗ pt c (stage1_7 0) f7
        ∗ (iprop(pt c (stage1_0 0) f0 ∗ pt c (stage1_1 0) f1 ∗ pt c (stage1_2 0) f2 ∗ pt c (stage1_3 0) f3 ∗ pt c (stage1_4 0) f4 ∗ pt c (stage1_5 0) f5
          ∗ pt c (stage1_6 0) (ranked (scored f0 f1 f2 f3 f4) f5).1 ∗ pt c (stage1_7 0) (ranked (scored f0 f1 f2 f3 f4) f5).2) -∗ Q ⟨⟩))
      ⊢ wp frame (wpE (defs₀ (F := F)) Variants.none c none) E
          (cc1__rank_final (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0)) Q := by
  rw [body_eq_line]; unfold bodyLine
  iintro ⟨H0, H1, H2, H3, H4, H5, H6, H7, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  have e6 : ∀ w, (stage1_6 0).view.writes (Elt F) (stage1_6 0).view.junk [⟨Rect.unit (s := S64x128) ![0, 0] S64x128.size inb_S64x128_S64x128_0_0, w⟩] = w := fun w => by
    rw [View.writes_singleton]; exact Memref.write_access_unit_zero_univ (Elt F) cc1_stg6_0 (off := ![0, 0]) (by funext a; fin_cases a <;> rfl) _ _ w
  have e7 : ∀ w, (stage1_7 0).view.writes (Elt F) (stage1_7 0).view.junk [⟨Rect.unit (s := S64x128) ![0, 0] S64x128.size inb_S64x128_S64x128_0_0, w⟩] = w := fun w => by
    rw [View.writes_singleton]; exact Memref.write_access_unit_zero_univ (Elt F) cc1_stg7_0 (off := ![0, 0]) (by funext a; fin_cases a <;> rfl) _ _ w
  have r0 : View.readAt (Elt F) (stage1_0 0).view (Rect.unit (s := S64x64) ![0, 0] S64x64.size inb_S64x64_S64x64_0_0).toLoadRect f0 = f0 :=
    Memref.readAt_unit_zero (Elt F) (off := ![0, 0]) cc1_stg0_0 (by funext a; fin_cases a <;> rfl) inb_S64x64_S64x64_0_0 f0
  have r1 : View.readAt (Elt F) (stage1_1 0).view (Rect.unit (s := S8192x128) ![0, 0] S8192x128.size inb_S8192x128_S8192x128_0_0).toLoadRect f1 = f1 :=
    Memref.readAt_unit_zero (Elt F) (off := ![0, 0]) cc1_stg1_0 (by funext a; fin_cases a <;> rfl) inb_S8192x128_S8192x128_0_0 f1
  have r2 : View.readAt (Elt F) (stage1_2 0).view (Rect.unit (s := S128x64) ![0, 0] S128x64.size inb_S128x64_S128x64_0_0).toLoadRect f2 = f2 :=
    Memref.readAt_unit_zero (Elt F) (off := ![0, 0]) cc1_stg2_0 (by funext a; fin_cases a <;> rfl) inb_S128x64_S128x64_0_0 f2
  have r3 : View.readAt (Elt F) (stage1_3 0).view (Rect.unit (s := S1x64) ![0, 0] S1x64.size inb_S1x64_S1x64_0_0).toLoadRect f3 = f3 :=
    Memref.readAt_unit_zero (Elt F) (off := ![0, 0]) cc1_stg3_0 (by funext a; fin_cases a <;> rfl) inb_S1x64_S1x64_0_0 f3
  have r4 : View.readAt (Elt F) (stage1_4 0).view (Rect.unit (s := S64x1) ![0, 0] S64x1.size inb_S64x1_S64x1_0_0).toLoadRect f4 = f4 :=
    Memref.readAt_unit_zero (Elt F) (off := ![0, 0]) cc1_stg4_0 (by funext a; fin_cases a <;> rfl) inb_S64x1_S64x1_0_0 f4
  have r5 : View.readAt (Elt F) (stage1_5 0).view (Rect.unit (s := S64x128) ![0, 0] S64x128.size inb_S64x128_S64x128_0_0).toLoadRect f5 = f5 :=
    Memref.readAt_unit_zero (Elt F) (off := ![0, 0]) cc1_stg5_0 (by funext a; fin_cases a <;> rfl) inb_S64x128_S64x128_0_0 f5
  delta body_run.sl.H6_1 body_run.sl.H7_1
  rw [e6, e7, r0, r1, r2, r3, r4, r5]
  isplitl [H6]; · iexact H6
  iexact H7

/-! ## The proof data, at an entry valuation -/

variable (V : (c : Dev nD) → (b : Ref sig .tc) → Buf (Elt F) ((c : Thread nD τ).loc b))

/-- What the two results hold after the call, at an entry valuation. -/
def finalOf (c : Dev nD) : Vec F S64x128 .f32 × Vec F S64x128 .i32 :=
  ranked (scored (V c main_arg0) (V c main_v1) (V c main_arg2) (V c main_v2) (V c main_arg4)) (V c main_arg5)

/-- The pairs the TensorCore's waits may have recorded after the one SparseCore call. -/
def recd (c : Dev nD) : Set (SemLoc sig × HIx 1) := {p | (K (F := F)).lev (T c, p.1) p.2 ≤ 8}

/-- The proof data: the arrays at `V`; after the body the operands' buffers as fetched and the results' at the ranked
    candidates; nothing owed. -/
def dat (c : Dev nD) : Dat τ (Elt F) (HIx 1) ℕ UU ℕ cfg1 c where
  A w := V c (Pipeline.arrRef spec1 w)
  after w _ := match w with
    | ⟨0, _⟩ => V c main_arg0
    | ⟨1, _⟩ => V c main_v1
    | ⟨2, _⟩ => V c main_arg2
    | ⟨3, _⟩ => V c main_v2
    | ⟨4, _⟩ => V c main_arg4
    | ⟨5, _⟩ => V c main_arg5
    | ⟨6, _⟩ => (finalOf V c).1
    | ⟨7, _⟩ => (finalOf V c).2
  Φ _ := Pipeline.scopedRest (Ix := HIx 1) (Name := ℕ) (U := UU) (Lvl := ℕ) (Val := Elt F) spec1 c
  q _ := fullShare
  owed _ := 0
  recorded _ := recd (F := F) c

/-- The one pipeline's proof data. -/
def pdats (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat V c

/-! Each window's block is its whole array, so a block read back is the array. -/

theorem read_blk_0 (c : Dev nD) (f : Buf (Elt F) ((c : Thread nD τ).loc main_arg0)) : (win1_0.blk t1_0).view.read (Elt F) f = f :=
  Memref.read_access_unit_zero (Elt F) main_arg0
    (show (fun a => (win1_0.index t1_0) a * main_arg0.ty.shape.size a) = fun _ => 0 from funext fun a => by fin_cases a <;> decide)
    (fun a => by fin_cases a <;> decide) f
theorem read_blk_1 (c : Dev nD) (f : Buf (Elt F) ((c : Thread nD τ).loc main_v1)) : (win1_1.blk t1_0).view.read (Elt F) f = f :=
  Memref.read_access_unit_zero (Elt F) main_v1
    (show (fun a => (win1_1.index t1_0) a * main_v1.ty.shape.size a) = fun _ => 0 from funext fun a => by fin_cases a <;> decide)
    (fun a => by fin_cases a <;> decide) f
theorem read_blk_2 (c : Dev nD) (f : Buf (Elt F) ((c : Thread nD τ).loc main_arg2)) : (win1_2.blk t1_0).view.read (Elt F) f = f :=
  Memref.read_access_unit_zero (Elt F) main_arg2
    (show (fun a => (win1_2.index t1_0) a * main_arg2.ty.shape.size a) = fun _ => 0 from funext fun a => by fin_cases a <;> decide)
    (fun a => by fin_cases a <;> decide) f
theorem read_blk_3 (c : Dev nD) (f : Buf (Elt F) ((c : Thread nD τ).loc main_v2)) : (win1_3.blk t1_0).view.read (Elt F) f = f :=
  Memref.read_access_unit_zero (Elt F) main_v2
    (show (fun a => (win1_3.index t1_0) a * main_v2.ty.shape.size a) = fun _ => 0 from funext fun a => by fin_cases a <;> decide)
    (fun a => by fin_cases a <;> decide) f
theorem read_blk_4 (c : Dev nD) (f : Buf (Elt F) ((c : Thread nD τ).loc main_arg4)) : (win1_4.blk t1_0).view.read (Elt F) f = f :=
  Memref.read_access_unit_zero (Elt F) main_arg4
    (show (fun a => (win1_4.index t1_0) a * main_arg4.ty.shape.size a) = fun _ => 0 from funext fun a => by fin_cases a <;> decide)
    (fun a => by fin_cases a <;> decide) f
theorem read_blk_5 (c : Dev nD) (f : Buf (Elt F) ((c : Thread nD τ).loc main_arg5)) : (win1_5.blk t1_0).view.read (Elt F) f = f :=
  Memref.read_access_unit_zero (Elt F) main_arg5
    (show (fun a => (win1_5.index t1_0) a * main_arg5.ty.shape.size a) = fun _ => 0 from funext fun a => by fin_cases a <;> decide)
    (fun a => by fin_cases a <;> decide) f
theorem read_blk_6 (c : Dev nD) (f : Buf (Elt F) ((c : Thread nD τ).loc main_v3_0)) : (win1_6.blk t1_0).view.read (Elt F) f = f :=
  Memref.read_access_unit_zero (Elt F) main_v3_0
    (show (fun a => (win1_6.index t1_0) a * main_v3_0.ty.shape.size a) = fun _ => 0 from funext fun a => by fin_cases a <;> decide)
    (fun a => by fin_cases a <;> decide) f
theorem read_blk_7 (c : Dev nD) (f : Buf (Elt F) ((c : Thread nD τ).loc main_v3_1)) : (win1_7.blk t1_0).view.read (Elt F) f = f :=
  Memref.read_access_unit_zero (Elt F) main_v3_1
    (show (fun a => (win1_7.index t1_0) a * main_v3_1.ty.shape.size a) = fun _ => 0 from funext fun a => by fin_cases a <;> decide)
    (fun a => by fin_cases a <;> decide) f

/-! So each operand's buffer holds its array when the body runs. -/

theorem before_0 (c : Dev nD) (d) : (dat V c).before 0 t1_0 d = V c main_arg0 := by
  unfold Dat.before; rw [if_pos (by decide)]; exact read_blk_0 (F := F) c (V c main_arg0)
theorem before_1 (c : Dev nD) (d) : (dat V c).before 1 t1_0 d = V c main_v1 := by
  unfold Dat.before; rw [if_pos (by decide)]; exact read_blk_1 (F := F) c (V c main_v1)
theorem before_2 (c : Dev nD) (d) : (dat V c).before 2 t1_0 d = V c main_arg2 := by
  unfold Dat.before; rw [if_pos (by decide)]; exact read_blk_2 (F := F) c (V c main_arg2)
theorem before_3 (c : Dev nD) (d) : (dat V c).before 3 t1_0 d = V c main_v2 := by
  unfold Dat.before; rw [if_pos (by decide)]; exact read_blk_3 (F := F) c (V c main_v2)
theorem before_4 (c : Dev nD) (d) : (dat V c).before 4 t1_0 d = V c main_arg4 := by
  unfold Dat.before; rw [if_pos (by decide)]; exact read_blk_4 (F := F) c (V c main_arg4)
theorem before_5 (c : Dev nD) (d) : (dat V c).before 5 t1_0 d = V c main_arg5 := by
  unfold Dat.before; rw [if_pos (by decide)]; exact read_blk_5 (F := F) c (V c main_arg5)

set_option maxRecDepth 4096 in
/-- The library's body obligation. -/
theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.succ = (dat V c).Φ t1_0.castSucc from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩, ⟨%d7, %f7, -, H7⟩⟩
  rw [before_0] at hf0
  rw [before_1] at hf1
  rw [before_2] at hf2
  rw [before_3] at hf3
  rw [before_4] at hf4
  rw [before_5] at hf5
  subst hf0 hf1 hf2 hf3 hf4 hf5
  iapply (body_run (F := F) c (V c main_arg0) (V c main_v1) (V c main_arg2) (V c main_v2) (V c main_arg4) (V c main_arg5) f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; exact rfl
  iexists _; isplitr; swap; (· iexact H7); ipureintro; exact rfl

/-- The first result's array after the call: the scores the body left. -/
theorem arrAt_6 (c : Dev nD) : (dat V c).arrAt 6 cfg1.N = (finalOf V c).1 := by
  have hw : ((cfg1.win 6).blk t1_0).view.read (Elt F) ((dat V c).arrAt 6 cfg1.N) = (dat V c).flushed 6 t1_0 := by
    rw [show cfg1.N = t1_0.val + 1 from rfl, (dat V c).arrAt_succ (6 : Fin 8) t1_0, flush1_6, if_pos rfl]
    exact View.read_write_univ _ _
  exact (read_blk_6 c _).symm.trans (hw.trans (funext fun _ => rfl))
/-- The second's: the catalogue rows. -/
theorem arrAt_7 (c : Dev nD) : (dat V c).arrAt 7 cfg1.N = (finalOf V c).2 := by
  have hw : ((cfg1.win 7).blk t1_0).view.read (Elt F) ((dat V c).arrAt 7 cfg1.N) = (dat V c).flushed 7 t1_0 := by
    rw [show cfg1.N = t1_0.val + 1 from rfl, (dat V c).arrAt_succ (7 : Fin 8) t1_0, flush1_7, if_pos rfl]
    exact View.read_write_univ _ _
  exact (read_blk_7 c _).symm.trans (hw.trans (funext fun _ => rfl))

/-! ## The region over the thread state -/

variable (adm : (p : Fin 1) → (pcfgs (F := F) p).Adm)
variable (Vp : (c : Dev nD) → (b : Ref sig .tc) → Buf (Elt F) ((c : Thread nD τ).loc b))

/-- The thread's debts between calls: none, with its recorded waits below the second call's. -/
abbrev debts (c : Dev nD) : sProp 𝕄 := iprop(∃ W, ⌜(K (F := F)).WBelow (T c) W 8⌝ ∗ owes (c : Thread nD τ) (0 : CellTallies nD τ sig (HIx 1)) W)

set_option backward.isDefEq.respectTransparency.types false in
/-- The call's region: entered from every unscoped buffer at `V`, left with them at `Vp`, which is `V` but for the two
    results. -/
def reg (h6 : ∀ c, Vp c main_v3_0 = (finalOf V c).1) (h7 : ∀ c, Vp c main_v3_1 = (finalOf V c).2)
    (hne : ∀ c (b : Ref sig .tc), b ≠ main_v3_0 → b ≠ main_v3_1 → Vp c b = V c b) :
    Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ debts (F := F) c)
  post c := iprop(unscopedBufs c (Vp c) ∗ debts (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hne c main_arg0 (by decide) (by decide)).symm
        · exact ((pdats V adm 0 c).arrAt_in 1 rfl _).trans (hne c main_v1 (by decide) (by decide)).symm
        · exact ((pdats V adm 0 c).arrAt_in 2 rfl _).trans (hne c main_arg2 (by decide) (by decide)).symm
        · exact ((pdats V adm 0 c).arrAt_in 3 rfl _).trans (hne c main_v2 (by decide) (by decide)).symm
        · exact ((pdats V adm 0 c).arrAt_in 4 rfl _).trans (hne c main_arg4 (by decide) (by decide)).symm
        · exact ((pdats V adm 0 c).arrAt_in 5 rfl _).trans (hne c main_arg5 (by decide) (by decide)).symm
        · exact (arrAt_6 V c).trans (h6 c).symm
        · exact (arrAt_7 V c).trans (h7 c).symm)
      (fun b hb => hne c b (fun h => hb (h ▸ Finset.mem_image.mpr ⟨6, Finset.mem_univ _, rfl⟩))
        (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    swap; · iexact HO
    ipureintro; intro p hp
    rcases hW hp with h | ⟨w, s, rfl⟩
    · exact h
    · exact Nat.zero_le _

end Cert.Proof.Run

end
-- ==== Proof.Host.lean ====
/-
  @main's host operations as lines, and what every unscoped buffer of the TensorCore holds between its calls.
-/
module

public import proofs.«01_k».proof.Proof.Region
public import Idealize.ShloMosaic.Lib.StableHlo.Run

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held)

variable {F : FTy → Type} [FloatOps F]

local notation "𝕄" => MT nD τ sig (HIx 1) (Elt F) ℕ UU ℕ

/-! ## The host lines -/

/-- The padding of the key table: the fill value, its conversion, the pad. -/
abbrev padOps : List (HloOp τ sig (Elt F)) :=
  [StableHlo.nullary main_c (constantI S_ 32 0#32),
   StableHlo.unary main_c main_call0_v0 (sitofp .f32 : (⟨S_, .i32⟩ : BufTy).Contents (Elt F) → (⟨S_, .f32⟩ : BufTy).Contents (Elt F)),
   StableHlo.binary main_arg1 main_call0_v0 main_v0
    (fun x v => pad S1015808x128 ![0, 0] ![15808, 64] ![0, 0] x v pads_S1000000x64_S1015808x128_0158080_0640 h_S_)]
/-- The biases as a row. -/
abbrev biasOps : List (HloOp τ sig (Elt F)) :=
  [StableHlo.reshape main_arg3 main_v2 (rfl : (.f32 : EltTy) = .f32) shapeCasts_S64_S1x64]
/-- The first five lanes of each result. -/
abbrev cutOps : List (HloOp τ sig (Elt F)) :=
  [StableHlo.unary main_v3_1 main_v4 ((extractStridedSlice S64x5 ![0, 0] · slices_S64x128_S64x5_0_0) : (⟨S64x128, .i32⟩ : BufTy).Contents (Elt F) → (⟨S64x5, .i32⟩ : BufTy).Contents (Elt F)),
   StableHlo.unary main_v3_0 main_v5 ((extractStridedSlice S64x5 ![0, 0] · slices_S64x128_S64x5_0_0) : (⟨S64x128, .f32⟩ : BufTy).Contents (Elt F) → (⟨S64x5, .f32⟩ : BufTy).Contents (Elt F))]

/-- @main is those lines around its two calls. -/
theorem main_eq (d : Dev nD) : main (F := F) d
    = seq padOps >>= fun _ => (K (F := F)).run d 0 >>= fun _ => seq biasOps >>= fun _ =>
        Prog.lift (.customCall (SparseCore.inner (Pipeline.entry 0)) ()) >>= fun _ => seq cutOps >>= fun _ => pure ⟨⟩ := rfl

end Cert.Proof.Run

end
-- ==== Proof.Run.lean ====
/-
  The whole run: @main's padding, the SparseCore call, the row of biases, the TensorCore call and the two cuts, from any
  launch memory whose candidate indices name rows of the padded table. Every unscoped buffer of every TensorCore is
  stated at the end, and every semaphore reads zero.
-/
module

public import proofs.«01_k».proof.Proof.Call
public import proofs.«01_k».proof.Proof.Host
public import Idealize.ShloMosaic.Lib.Pipeline.Frame

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held)
open Idealize.ShloMosaic.Pipeline (ucRefs unscopedBufs_held sub_ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the buffers hold between the calls -/

/-- The TensorCore call takes no prefetched scalars. -/
abbrev adm : (p : Fin 1) → (pcfgs (F := F) p).Adm := fun p => (cfgs p).toPCfg_adm

/-- At launch. -/
def VL (d : Dev nD) : Valuation τ sig (Elt F) := fun b => m (d, b)
/-- After the padding. -/
def VA (d : Dev nD) : Valuation τ sig (Elt F) := after padOps (VL m d)
/-- The padded table, -/
def tb (d : Dev nD) : Buf (Elt F) (tLoc d) := VA m d (Proc.devRef .tc main_v0)
/-- the candidate indices, -/
def ix (d : Dev nD) : Buf (Elt F) (iLoc d) := m (iLoc d)
/-- and the gathered rows' array before the call. -/
def o₀ (d : Dev nD) : Buf (Elt F) (oLoc d) := m (oLoc d)
/-- After the SparseCore call. -/
def VB (d : Dev nD) : Valuation τ sig (Elt F) :=
  (StableHlo.nullary (τ := τ) main_v1 (gAll d (tb m) (ix m))).result (VA m d)
/-- After the biases' reshape. -/
def VC (d : Dev nD) : Valuation τ sig (Elt F) := after biasOps (VB m d)
/-- The same by reference. -/
def Vin (d : Dev nD) (b : Ref sig .tc) : Buf (Elt F) ((d : Thread nD τ).loc b) := VC m d (Proc.devRef .tc b)
/-- After the TensorCore call. -/
def VD (d : Dev nD) : Valuation τ sig (Elt F) :=
  (StableHlo.nullary (τ := τ) main_v3_1 (finalOf (Vin m) d).2).result
    ((StableHlo.nullary (τ := τ) main_v3_0 (finalOf (Vin m) d).1).result (VC m d))
/-- The same by reference. -/
def Vout (d : Dev nD) (b : Ref sig .tc) : Buf (Elt F) ((d : Thread nD τ).loc b) := VD m d (Proc.devRef .tc b)
/-- At the end. -/
def VE (d : Dev nD) : Valuation τ sig (Elt F) := after cutOps (VD m d)

/-- The padding writes neither the indices nor the gathered array. -/
theorem VA_arg5 (d : Dev nD) : VA m d (Proc.devRef .tc main_arg5) = ix m d := by
  unfold VA padOps
  rw [StableHlo.after_cons, StableHlo.after_cons, StableHlo.after_cons, StableHlo.after_nil,
    StableHlo.binary_result_ne _ _ _ _ _ _ _ _ (by decide), StableHlo.unary_result_ne _ _ _ _ _ _ (by decide),
    StableHlo.nullary_result_ne _ _ _ _ (by decide)]
  rfl
theorem VA_v1 (d : Dev nD) : VA m d (Proc.devRef .tc main_v1) = o₀ m d := by
  unfold VA padOps
  rw [StableHlo.after_cons, StableHlo.after_cons, StableHlo.after_cons, StableHlo.after_nil,
    StableHlo.binary_result_ne _ _ _ _ _ _ _ _ (by decide), StableHlo.unary_result_ne _ _ _ _ _ _ (by decide),
    StableHlo.nullary_result_ne _ _ _ _ (by decide)]
  rfl
theorem VB_v1 (d : Dev nD) : VB m d (Proc.devRef .tc main_v1) = gAll d (tb m) (ix m) := StableHlo.nullary_result _ _ _ _
theorem VB_ne (d : Dev nD) {b : DevRef τ sig} (h : b ≠ Proc.devRef .tc main_v1) : VB m d b = VA m d b :=
  HloOp.result_of_not_mem _ _ (by rw [StableHlo.nullary_writes, Finset.mem_singleton]; exact h)

theorem Vout_v3_0 (d : Dev nD) : Vout m d main_v3_0 = (finalOf (Vin m) d).1 := by
  unfold Vout VD
  rw [StableHlo.nullary_result_ne _ _ _ _ (by decide), StableHlo.nullary_result]
theorem Vout_v3_1 (d : Dev nD) : Vout m d main_v3_1 = (finalOf (Vin m) d).2 := by
  unfold Vout VD
  rw [StableHlo.nullary_result]
theorem Vout_ne (d : Dev nD) (b : Ref sig .tc) (h0 : b ≠ main_v3_0) (h1 : b ≠ main_v3_1) : Vout m d b = Vin m d b := by
  unfold Vout VD
  rw [StableHlo.nullary_result_ne _ _ _ _ h1, StableHlo.nullary_result_ne _ _ _ _ h0]
  rfl

/-! ## The three arrays of the SparseCore call among the unscoped buffers -/

/-- The table, the indices and the gathered array. -/
def three : Finset (DevRef τ sig) := {Proc.devRef .tc main_v0, Proc.devRef .tc main_arg5, Proc.devRef .tc main_v1}

theorem three_sub : three ⊆ ucRefs τ sig := by
  intro b hb
  simp only [three, Finset.mem_insert, Finset.mem_singleton] at hb
  rcases hb with rfl | rfl | rfl <;>
    exact Finset.mem_filter.mpr ⟨StableHlo.devRef_mem_tcRefs _, by decide⟩

theorem held_three (d : Dev nD) (W : Valuation τ sig (Elt F)) :
    (held (d : Thread nD τ) three W : sProp 𝕄)
      = iprop((tLoc d ↦{fullShare} W (Proc.devRef .tc main_v0)) ∗ (iLoc d ↦{fullShare} W (Proc.devRef .tc main_arg5))
          ∗ oLoc d ↦{fullShare} W (Proc.devRef .tc main_v1)) := by
  unfold held three
  rw [SparseCore.bigSep_insert' (by decide), SparseCore.bigSep_insert' (by decide), bigSep_singleton]

/-- The unscoped buffers after the padding are what the two cores take and the rest, -/
theorem before_call (d : Dev nD) :
    (held (d : Thread nD τ) (ucRefs τ sig) (VA m d) : sProp 𝕄)
      = iprop((bigSep Finset.univ fun c : Fin 2 => coreRes (tb m) (ix m) d c (o₀ m d)) ∗ held (d : Thread nD τ) (ucRefs τ sig \ three) (VA m d)) := by
  rw [StableHlo.held_sub_split _ three_sub, held_three, VA_arg5, VA_v1, ← whole_cores]
  rfl
/-- and what they give back and the rest are the unscoped buffers after the call. -/
theorem after_call (d : Dev nD) :
    (iprop((bigSep Finset.univ fun c : Fin 2 => coreRes (tb m) (ix m) d c (gAll d (tb m) (ix m))) ∗ held (d : Thread nD τ) (ucRefs τ sig \ three) (VA m d)) : sProp 𝕄)
      = held (d : Thread nD τ) (ucRefs τ sig) (VB m d) := by
  rw [StableHlo.held_sub_split (V := VB m d) _ three_sub, held_three, VB_v1, VB_ne m d (b := Proc.devRef .tc main_arg5) (by decide),
    VB_ne m d (b := Proc.devRef .tc main_v0) (by decide), VA_arg5, ← whole_cores,
    StableHlo.held_congr (V' := VA m d) _ fun b hb => VB_ne m d fun e => (Finset.mem_sdiff.mp hb).2 (by rw [e]; simp [three])]
  rfl

/-! ## The launch element of the ghost state -/

/-- The handshakes' rounds and the TensorCore call's. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the TensorCore call's cells are allocated from. -/
abbrev G (d : Dev nD) : sProp 𝕄 :=
  iprop(Pipeline.cellsGhost (nD := nD) (τ := τ) cfgs EP 0 d ∗ Pipeline.toksInit (nD := nD) (τ := τ) cfgs EP 0 d)

omit [FloatOps F] in
theorem bigSep_emp' {I : Type} (s : Finset I) : (bigSep s fun _ => iprop(emp)) = (iprop(emp) : sProp 𝕄) := bigSep_emp_const s

theorem ghosts_eq : (bigSep Finset.univ fun d : Dev nD => G (F := F) d)
    = (iprop((bigSep Finset.univ fun d : Dev nD => bigSep Finset.univ fun p => Pipeline.cellsGhost (nD := nD) (τ := τ) cfgs EP p d)
        ∗ bigSep Finset.univ fun d : Dev nD => bigSep Finset.univ fun p => Pipeline.toksInit (nD := nD) (τ := τ) cfgs EP p d) : sProp 𝕄) := by
  rw [← bigSep_sep']
  refine bigSep_congr fun d _ => ?_
  rw [bigSep_univ_of_subsingleton (0 : Fin 1), bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (tb m) (ix m) (o₀ m)).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave HR' := (own_pair_emb (embR : Emb (UP × Counters) (MM F)) _ _) $$ HR
  icases HR' with ⟨HP, -⟩
  imod (Pipeline.fund_ghost (nD := nD) (τ := τ) cfgs EP cellOf_inj) $$ HP with ⟨Hg, Ht⟩
  imodintro
  isplitl [HH]; · iexact HH
  isplitl [Hg Ht]
  · rw [ghosts_eq]
    isplitl [Hg]; · iexact Hg
    iexact Ht
  rw [show (bigSep Finset.univ fun thr : Thread nD τ => bigSep Finset.univ fun q : Fin 1 => (P (F := F) (tb m) (ix m) (o₀ m)).x q thr) = bigSep Finset.univ fun _ => iprop(emp) from
    bigSep_congr fun _ _ => bigSep_univ_of_subsingleton (0 : Fin 1), bigSep_emp']
  iempintro

/-! ## @main on the TensorCore -/

/-- What @main leaves: every unscoped buffer, at its final contents. -/
abbrev FIN (d : Dev nD) : sProp 𝕄 := held (d : Thread nD τ) (ucRefs τ sig) (VE m d)

/-- The second call's region, between the valuations around it. -/
abbrev region := reg (F := F) (Vin m) adm (Vout m) (Vout_v3_0 m) (Vout_v3_1 m) (fun d b => Vout_ne m d b)

theorem padOps_sub : ∀ op ∈ padOps (F := F), op.bufs ⊆ ucRefs τ sig := by
  intro op h
  simp only [padOps, List.mem_cons, List.not_mem_nil, or_false] at h
  rcases h with rfl | rfl | rfl <;> exact sub_ucRefs _ fun b hb => by
    simp only [StableHlo.nullary_bufs, StableHlo.unary_bufs, StableHlo.binary_bufs, StableHlo.reshape_bufs, Finset.mem_insert, Finset.mem_singleton] at hb
    rcases hb with rfl | rfl | rfl <;> exact StableHlo.devRef_mem_tcRefs _
theorem biasOps_sub : ∀ op ∈ biasOps (F := F), op.bufs ⊆ ucRefs τ sig := by
  intro op h
  simp only [biasOps, List.mem_cons, List.not_mem_nil, or_false] at h
  rcases h with rfl <;> exact sub_ucRefs _ fun b hb => by
    simp only [StableHlo.nullary_bufs, StableHlo.unary_bufs, StableHlo.binary_bufs, StableHlo.reshape_bufs, Finset.mem_insert, Finset.mem_singleton] at hb
    rcases hb with rfl | rfl | rfl <;> exact StableHlo.devRef_mem_tcRefs _
theorem cutOps_sub : ∀ op ∈ cutOps (F := F), op.bufs ⊆ ucRefs τ sig := by
  intro op h
  simp only [cutOps, List.mem_cons, List.not_mem_nil, or_false] at h
  rcases h with rfl | rfl <;> exact sub_ucRefs _ fun b hb => by
    simp only [StableHlo.nullary_bufs, StableHlo.unary_bufs, StableHlo.binary_bufs, StableHlo.reshape_bufs, Finset.mem_insert, Finset.mem_singleton] at hb
    rcases hb with rfl | rfl | rfl <;> exact StableHlo.devRef_mem_tcRefs _
theorem padOps_fresh : ∀ op ∈ padOps (F := F), op.fresh = ∅ := by
  intro op h
  simp only [padOps, List.mem_cons, List.not_mem_nil, or_false] at h
  rcases h with rfl | rfl | rfl <;> rfl
theorem biasOps_fresh : ∀ op ∈ biasOps (F := F), op.fresh = ∅ := by
  intro op h
  simp only [biasOps, List.mem_cons, List.not_mem_nil, or_false] at h
  rcases h with rfl <;> rfl
theorem cutOps_fresh : ∀ op ∈ cutOps (F := F), op.fresh = ∅ := by
  intro op h
  simp only [cutOps, List.mem_cons, List.not_mem_nil, or_false] at h
  rcases h with rfl | rfl <;> rfl

/-- The second call, lifted. -/
theorem call_eq (d : Dev nD) : (Prog.lift (.customCall (SparseCore.inner (Pipeline.entry 0)) ())
      : Prog (TpuEff nD τ sig (Elt F) (SparseCore.Sig (ΛP (F := F)) 1) .tc) PUnit)
    = SparseCore.liftProg (Q := 1) (pr := (.tc : Proc τ)) (.op (.customCall (Pipeline.entry (Λ₀ := Λ₀) (0 : Fin 1)) ()) fun _ => .ret ⟨⟩) := rfl

theorem region_pre (d : Dev nD) : (region m).pre d = iprop(unscopedBufs d (Vin m d) ∗ debts (F := F) d) := rfl
theorem region_post (d : Dev nD) : (region m).post d = iprop(unscopedBufs d (Vout m d) ∗ debts (F := F) d) := rfl

/-- The second call's step: from its region's entry to its exit. -/
theorem wp_second [∀ e, Nonempty (Elt F e)] (d : Dev nD) :
    iprop(boundary (d : Thread nD τ) ∗ (unscopedBufs d (Vin m d) ∗ debts (F := F) d) ∗ levAts (K (F := F)).L (K (F := F)).lev ∗ G d)
      ⊢ wp frame (wpE ((K (F := F)).defs (D (F := F))) 𝒱 (T d) none) Set.univ
          (Prog.lift (.customCall (SparseCore.inner (Pipeline.entry 0)) ()))
          fun _ => iprop(boundary (d : Thread nD τ) ∗ unscopedBufs d (Vout m d) ∗ debts (F := F) d) := by
  rw [call_eq d]
  iintro ⟨Hb, Hpre, Hlev, Hg, Ht⟩
  iapply ((K (F := F)).wp_liftProg (D (F := F)) 𝒱 (T d) Set.univ none _ _)
  iapply (Pipeline.RegionSeg.wp (pcfgs (F := F)) adm (pdats (Vin m) adm) (none : HIx 1) cellOf_inj EP defs₀ 𝒱₀
    (K (F := F)).L (K (F := F)).lev (region m) d none (fun _ h => nomatch h) (fun _ => .ret ⟨⟩) _)
  isplitr
  · iintro ⟨Hb, Hpost⟩
    iapply (Entails.of_eq (wp_ret ..).symm)
    imodintro
    isplitl [Hb]; · iexact Hb
    iapply (Entails.of_eq (region_post m d)); iexact Hpost
  isplitl [Hb]; · iexact Hb
  isplitl [Hpre]; · rw [region_pre]; iexact Hpre
  isplitl [Hlev]; · iexact Hlev
  isplitl [Hg]; · iexact Hg
  iexact Ht

/-- The TensorCore's state after the one SparseCore call gives up its debts, which are none, and takes them back. -/
theorem debts_out (d : Dev nD) : (K (F := F)).tcSt EH d 1 ⊢ (iprop(debts (F := F) d ∗ (debts (F := F) d -∗ (K (F := F)).tcSt EH d 1)) : sProp 𝕄) := by
  unfold SparseCore.Cfg.tcSt
  rw [(K (F := F)).Otc_end d (le_refl 1)]
  iintro ⟨HO, Hr⟩
  isplitl [HO]; · iexact HO
  iintro HO
  isplitl [HO]; · iexact HO
  iexact Hr

theorem held_VC (d : Dev nD) : (held (d : Thread nD τ) (ucRefs τ sig) (VC m d) : sProp 𝕄) = unscopedBufs d (Vin m d) :=
  (unscopedBufs_held d (VC m d)).symm
theorem held_VD (d : Dev nD) : (unscopedBufs d (Vout m d) : sProp 𝕄) = held (d : Thread nD τ) (ucRefs τ sig) (VD m d) :=
  unscopedBufs_held d (VD m d)
theorem held_VL (d : Dev nD) : (unscopedBufs d (fun b => m ((d : Thread nD τ).loc b)) : sProp 𝕄) = held (d : Thread nD τ) (ucRefs τ sig) (VL m d) :=
  unscopedBufs_held d (VL m d)

/-- @main on device `d`'s TensorCore. -/
theorem hmain [∀ e, Nonempty (Elt F e)] (κ : GSem nD τ sig → ℕ) (d : Dev nD) :
    iprop((K (F := F)).ctx EH (P (tb m) (ix m) (o₀ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, held_VL]
  iintro ⟨#Hctx, Hst, ⟨Hb, Hh, Hts, -⟩, HG⟩
  iapply (StableHlo.wp_seq 𝒱 none Set.univ d (ucRefs τ sig) _ padOps padOps_sub padOps_fresh (VL m d)) $$ [Hb Hh]
  · isplitl [Hb] <;> iassumption
  rw [show after padOps (VL m d) = VA m d from rfl]
  iintro ⟨Hb, Hh⟩
  rw [wp_bind]
  iapply ((K (F := F)).wp_run (D (F := F)) 𝒱 (EH := EH) (P := P (tb m) (ix m) (o₀ m)) κ d 0) $$ [Hst Hb Hh Hts HG]
  isplitr; · iexact Hctx
  isplitl [Hst]; · iexact Hst
  ihave Hh' := (Entails.of_eq (before_call m d)) $$ Hh
  icases Hh' with ⟨Hc, Hr⟩
  isplitl [Hc]
  · rw [show (bigSep Finset.univ fun c : Fin ((K (F := F)).nCore 0) => (P (tb m) (ix m) (o₀ m)).st 0 d c)
      = (bigSep Finset.univ fun c : Fin 2 => coreRes (tb m) (ix m) d c (o₀ m d) : sProp 𝕄) from bigSep_cores fun c => coreRes (tb m) (ix m) d c (o₀ m d)]
    iexact Hc
  rw [show (bigSep Finset.univ fun c : Fin ((K (F := F)).nCore 0) => (P (tb m) (ix m) (o₀ m)).dn 0 d c)
      = (bigSep Finset.univ fun c : Fin 2 => coreRes (tb m) (ix m) d c (gAll d (tb m) (ix m)) : sProp 𝕄) from bigSep_cores fun c => coreRes (tb m) (ix m) d c (gAll d (tb m) (ix m))]
  rw [show ((0 : Fin 1) : ℕ) + 1 = 1 from rfl]
  iintro ⟨Hst, Hdn⟩
  ihave Hh := (Entails.of_eq (after_call m d)) $$ [Hdn Hr]
  · isplitl [Hdn] <;> iassumption
  iapply (StableHlo.wp_seq 𝒱 none Set.univ d (ucRefs τ sig) _ biasOps biasOps_sub biasOps_fresh (VB m d)) $$ [Hb Hh]
  · isplitl [Hb] <;> iassumption
  rw [show after biasOps (VB m d) = VC m d from rfl]
  iintro ⟨Hb, Hh⟩
  ihave Hub := (Entails.of_eq (held_VC m d)) $$ Hh
  ihave Hst' := (debts_out d) $$ Hst
  icases Hst' with ⟨HO, Hst⟩
  ihave #Hlev := (SparseCore.Cfg.ctx_levAts (K := K (F := F)) (EH := EH) (P := P (tb m) (ix m) (o₀ m)) κ) $$ Hctx
  rw [wp_bind]
  iapply (wp_wand_r frame _ _)
  isplitl [Hb Hub HO HG]
  · iapply (wp_second m d)
    isplitl [Hb]; · iexact Hb
    isplitl [Hub HO]; · isplitl [Hub] <;> iassumption
    isplitr; · iexact Hlev
    iexact HG
  iintro %u ⟨Hb, Hub, HO⟩
  ihave Hh := (Entails.of_eq (held_VD m d)) $$ Hub
  ihave Hst := Hst $$ HO
  iapply (StableHlo.wp_seq 𝒱 none Set.univ d (ucRefs τ sig) _ cutOps cutOps_sub cutOps_fresh (VD m d)) $$ [Hb Hh]
  · isplitl [Hb] <;> iassumption
  rw [show after cutOps (VD m d) = VE m d from rfl]
  iintro ⟨Hb, Hh⟩
  rw [wp_pure]
  imodintro
  isplitl [Hst]; · iexact Hst
  isplitl [Hh]; · iexact Hh
  isplitl [Hb] <;> iassumption

/-! ## The final memory -/

/-- What device `d`'s unscoped buffers hold at the end. -/
def fq (d : Dev nD) (s' : Phys nD τ sig (Elt F)) : Prop := ∀ b ∈ ucRefs τ sig, s'.mem.mem (d, b) = VE m d b

theorem hfin (d : Dev nD) (s' : Phys nD τ sig (Elt F)) : iprop(FIN m d ∗ SI s') ⊢ (⌜fq m d s'⌝ : sProp 𝕄) := by
  unfold FIN held
  iintro ⟨Hh, HSI⟩
  iapply (SI_pointsTo_bufs_agree (st := s') (c := d) (qs := fun _ => fullShare) (F := VE m d) (ucRefs τ sig))
  isplitl [HSI]; · iexact HSI
  iexact Hh

/-- Every device's unscoped buffers at their final contents, every semaphore zero. -/
def QC : PUnit × MemSt nD τ sig (Elt F) → Prop := fun r => (∀ d, ∀ b ∈ ucRefs τ sig, r.2.mem (d, b) = VE m d b) ∧ r.2.sem = fun _ => 0

/-- From any launch memory whose candidate indices name rows of the padded table, every run ends there. -/
theorem run_main [∀ e, Nonempty (Elt F e)] (hpre : ∀ d, ListOK (ix m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tb m) (ix m) (o₀ m)) (A := ∅) facts v₀
    (fun q hq => match q with | 0 => nomatch hq)
    (fun q _ => match q with | 0 => tileObl (tb m) (ix m) (o₀ m) facts hpre)
    (fun q _ => match q with | 0 => SparseCore.Cfg.VecSplit.of_plain (vecSplit (tb m) (ix m) (o₀ m)))
    m ρ main (fun d => G (F := F) d) (FIN m) (u₀ (F := F)) (sep_elim_left.trans (hu₀ m)) (hmain m ρ) (fq m) (hfin m) (QC m) (fun _ h hz => ⟨h, hz⟩)

end Cert.Proof.Run

end
-- ==== Proof.Pre.lean ====
/-
  What the two preconditions say of the arguments: every candidate index names a row of the catalog, and, for the
  second, every entry of the five float arguments is a real number.
-/
module

public import proofs.«01_k».proof.Proof.Setup
public import proofs.«01_k».proof.Proof.Gen.Pre_candidates_in_catalog
public import proofs.«01_k».proof.Proof.Gen.Pre_finite_candidates
public import Idealize.ShloMosaic.Lib.ReduceAll

@[expose] public section

namespace Cert.Proof.Run

open Idealize.ShloMosaic

/-- A word that is at least 0 and below 1000000 as a signed number is below 1000000. -/
theorem word_in_catalog (v : BitVec 32) (e : IntOp.andi (IntOp.cmpi .sge v 0#32) (IntOp.cmpi .slt v 1000000#32) = 1#1) :
    v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_candidates_in_catalog.S_.Idx := ⟨fun _ _ => funext fun a => a.elim0⟩
instance : Subsingleton Cert.Pre_finite_candidates.S_.Idx := ⟨fun _ _ => funext fun a => a.elim0⟩

/-- The first precondition bounds every candidate index. -/
theorem candidates_of_pre {F : FTy → Type} [FloatOps F] [Cert.Pre_candidates_in_catalog.Facts]
    (q : FVec F Cert.Pre_candidates_in_catalog.S64x64 .f32) (k : FVec F Cert.Pre_candidates_in_catalog.S1000000x64 .f32)
    (w1 : FVec F Cert.Pre_candidates_in_catalog.S128x64 .f32) (b : FVec F Cert.Pre_candidates_in_catalog.S64 .f32)
    (w2 : FVec F Cert.Pre_candidates_in_catalog.S64x1 .f32) (n : IVec Cert.Pre_candidates_in_catalog.S64x128 32)
    (h : Cert.Pre_candidates_in_catalog.fn (F := F) q k w1 b w2 n = fun _ => 1#1) (i : Cert.Pre_candidates_in_catalog.S64x128.Idx) :
    (n i).toNat < 1000000 := by
  have e := congrFun h (fun a => a.elim0)
  exact word_in_catalog _ (Host.reduce_andi_all _ _ _ _ _ e i)

/-- An extended real below `⊤` in absolute value is neither infinity. -/
theorem real_of_abs_lt (x : Ideal .f32)
    (e : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  have e' : Ideal.cmp .olt (max (x : EReal) (-(x : EReal))) (Ideal.ofBits .f32 0x7F800000#32) = 1#1 := e
  rw [htop] at e'
  have h : max (x : EReal) (-(x : EReal)) < ⊤ := by
    by_contra hn
    simp [Ideal.cmp, hn] at e'
  rw [max_lt_iff] at h
  refine ⟨h.1.ne, fun hb => ?_⟩
  rw [hb] at h; simp at h

/-- The second precondition bounds every candidate index and makes every float argument real. -/
theorem finite_of_pre [Cert.Pre_finite_candidates.Facts]
    (q : FVec Ideal Cert.Pre_finite_candidates.S64x64 .f32) (k : FVec Ideal Cert.Pre_finite_candidates.S1000000x64 .f32)
    (w1 : FVec Ideal Cert.Pre_finite_candidates.S128x64 .f32) (b : FVec Ideal Cert.Pre_finite_candidates.S64 .f32)
    (w2 : FVec Ideal Cert.Pre_finite_candidates.S64x1 .f32) (n : IVec Cert.Pre_finite_candidates.S64x128 32)
    (h : Cert.Pre_finite_candidates.fn (F := Ideal) q k w1 b w2 n = fun _ => 1#1) :
    (∀ i, (n i).toNat < 1000000) ∧ (∀ i, (q i : EReal) ≠ ⊤ ∧ (q i : EReal) ≠ ⊥) ∧ (∀ i, (k i : EReal) ≠ ⊤ ∧ (k i : EReal) ≠ ⊥)
      ∧ (∀ i, (w1 i : EReal) ≠ ⊤ ∧ (w1 i : EReal) ≠ ⊥) ∧ (∀ i, (b i : EReal) ≠ ⊤ ∧ (b i : EReal) ≠ ⊥)
      ∧ ∀ i, (w2 i : EReal) ≠ ⊤ ∧ (w2 i : EReal) ≠ ⊥ := by
  have e := congrFun h (fun a => a.elim0)
  obtain ⟨eN, e⟩ := IntOp.andi_eq_one.1 e
  obtain ⟨e, eW2⟩ := IntOp.andi_eq_one.1 e
  obtain ⟨e, eB⟩ := IntOp.andi_eq_one.1 e
  obtain ⟨e, eW1⟩ := IntOp.andi_eq_one.1 e
  obtain ⟨eQ, eK⟩ := IntOp.andi_eq_one.1 e
  exact ⟨fun i => word_in_catalog _ (Host.reduce_andi_all _ _ _ _ _ eN i),
    fun i => real_of_abs_lt _ (Host.reduce_andi_all _ _ _ _ _ eQ i),
    fun i => real_of_abs_lt _ (Host.reduce_andi_all _ _ _ _ _ eK i),
    fun i => real_of_abs_lt _ (Host.reduce_andi_all _ _ _ _ _ eW1 i),
    fun i => real_of_abs_lt _ (Host.reduce_andi_all _ _ _ _ _ eB i),
    fun i => real_of_abs_lt _ (Host.reduce_andi_all _ _ _ _ _ eW2 i)⟩

end Cert.Proof.Run
-- ==== Proof.Frames.lean ====
/-
  The frames: from any launch memory the preconditions allow, both programs run to the end, leave their arguments as
  they were and every semaphore at zero. The final contents of the two results are stated beside them.
-/
module

public import proofs.«01_k».proof.Proof.Run
public import proofs.«01_k».proof.Proof.Pre
public import proofs.«01_k».proof.Proof.Gen.Kernel
public import proofs.«01_k».proof.Proof.Gen.ReferenceIdeal.Run

@[expose] public section

noncomputable section

namespace Cert.Proof.Run

open Cert.KernelIdeal Cert.KernelIdeal.Gen

open Idealize.ShloMosaic
open Idealize.ShloMosaic.TcCoe
open Idealize.ShloMosaic.SparseCore (T)
open Idealize.SL.Sem
open Idealize.ShloMosaic.StableHlo (seq after)
open Idealize.ShloMosaic.Pipeline (ucRefs)

variable {F : FTy → Type} [FloatOps F]

variable (m : (ℓ : Loc nD τ sig) → Buf (Elt F) ℓ) (ρ : Dev nD → PrngReg)

/-- A buffer that no host operation and neither call writes holds at the end what it held at launch. -/
theorem VE_kept (d : Dev nD) (b : Ref sig .tc) (h0 : b ≠ main_c) (h1 : b ≠ main_call0_v0) (h2 : b ≠ main_v0) (h3 : b ≠ main_v1)
    (h4 : b ≠ main_v2) (h5 : b ≠ main_v3_0) (h6 : b ≠ main_v3_1) (h7 : b ≠ main_v4) (h8 : b ≠ main_v5) :
    VE m d (Proc.devRef .tc b) = m ((d : Thread nD τ).loc b) := by
  unfold VE cutOps
  rw [StableHlo.after_cons, StableHlo.after_cons, StableHlo.after_nil, StableHlo.unary_result_ne _ _ _ _ _ _ h8,
    StableHlo.unary_result_ne _ _ _ _ _ _ h7]
  refine (Vout_ne m d b h5 h6).trans ?_
  unfold Vin VC biasOps
  rw [StableHlo.after_cons, StableHlo.after_nil, StableHlo.reshape_result_ne _ _ _ _ _ _ _ h4]
  unfold VB
  rw [StableHlo.nullary_result_ne _ _ _ _ h3]
  unfold VA padOps
  rw [StableHlo.after_cons, StableHlo.after_cons, StableHlo.after_cons, StableHlo.after_nil,
    StableHlo.binary_result_ne _ _ _ _ _ _ _ _ h2, StableHlo.unary_result_ne _ _ _ _ _ _ h1,
    StableHlo.nullary_result_ne _ _ _ _ h0]
  rfl

theorem mem_uc (b : Ref sig .tc) (h : ¬ (Proc.devRef (τ := τ) .tc b).isScoped) : Proc.devRef (τ := τ) .tc b ∈ ucRefs τ sig :=
  Finset.mem_filter.mpr ⟨StableHlo.devRef_mem_tcRefs _, h⟩

/-- A final memory keeps each argument. -/
theorem kept_of_QC {r : PUnit × MemSt nD τ sig (Elt F)} (h : QC m r) (d : Dev nD) :
    r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5) :=
  ⟨(h.1 d _ (mem_uc main_arg0 (by decide))).trans (VE_kept m d main_arg0 (by decide) (by decide) (by decide) (by decide) (by decide) (by decide) (by decide) (by decide) (by decide)),
    (h.1 d _ (mem_uc main_arg1 (by decide))).trans (VE_kept m d main_arg1 (by decide) (by decide) (by decide) (by decide) (by decide) (by decide) (by decide) (by decide) (by decide)),
    (h.1 d _ (mem_uc main_arg2 (by decide))).trans (VE_kept m d main_arg2 (by decide) (by decide) (by decide) (by decide) (by decide) (by decide) (by decide) (by decide) (by decide)),
    (h.1 d _ (mem_uc main_arg3 (by decide))).trans (VE_kept m d main_arg3 (by decide) (by decide) (by decide) (by decide) (by decide) (by decide) (by decide) (by decide) (by decide)),
    (h.1 d _ (mem_uc main_arg4 (by decide))).trans (VE_kept m d main_arg4 (by decide) (by decide) (by decide) (by decide) (by decide) (by decide) (by decide) (by decide) (by decide)),
    (h.1 d _ (mem_uc main_arg5 (by decide))).trans (VE_kept m d main_arg5 (by decide) (by decide) (by decide) (by decide) (by decide) (by decide) (by decide) (by decide) (by decide))⟩

/-- The padded table of a launch memory. -/
def tableOf (d : Dev nD) : Vec F S1015808x128 .f32 :=
  pad S1015808x128 ![0, 0] ![15808, 64] ![0, 0] (m ((d : Thread nD τ).loc main_arg1) : Vec F S1000000x64 .f32)
    (sitofp .f32 (constantI S_ 32 0#32) : Vec F S_ .f32) pads_S1000000x64_S1015808x128_0158080_0640 h_S_

/-- What the TensorCore call writes, in the launch memory's terms. -/
def outOf (d : Dev nD) : Vec F S64x128 .f32 × Vec F S64x128 .i32 :=
  ranked (scored (m ((d : Thread nD τ).loc main_arg0)) (gathered (tableOf m d) (m ((d : Thread nD τ).loc main_arg5)))
    (m ((d : Thread nD τ).loc main_arg2)) (shapeCast S1x64 (m ((d : Thread nD τ).loc main_arg3) : Vec F S64 .f32) shapeCasts_S64_S1x64)
    (m ((d : Thread nD τ).loc main_arg4))) (m ((d : Thread nD τ).loc main_arg5))

theorem tb_eq (d : Dev nD) : tb m d = tableOf m d := by
  unfold tb VA padOps
  rw [StableHlo.after_cons, StableHlo.after_cons, StableHlo.after_cons, StableHlo.after_nil, StableHlo.binary_result,
    StableHlo.unary_result, StableHlo.unary_result_ne _ _ _ _ _ _ (by decide), StableHlo.nullary_result,
    StableHlo.nullary_result_ne _ _ _ _ (by decide)]
  rfl

/-- An argument at the TensorCore call's entry. -/
theorem Vin_kept (d : Dev nD) (b : Ref sig .tc) (h0 : b ≠ main_c) (h1 : b ≠ main_call0_v0) (h2 : b ≠ main_v0) (h3 : b ≠ main_v1)
    (h4 : b ≠ main_v2) : Vin m d b = m ((d : Thread nD τ).loc b) := by
  unfold Vin VC biasOps
  rw [StableHlo.after_cons, StableHlo.after_nil, StableHlo.reshape_result_ne _ _ _ _ _ _ _ h4]
  unfold VB
  rw [StableHlo.nullary_result_ne _ _ _ _ h3]
  unfold VA padOps
  rw [StableHlo.after_cons, StableHlo.after_cons, StableHlo.after_cons, StableHlo.after_nil,
    StableHlo.binary_result_ne _ _ _ _ _ _ _ _ h2, StableHlo.unary_result_ne _ _ _ _ _ _ h1,
    StableHlo.nullary_result_ne _ _ _ _ h0]
  rfl
theorem Vin_v1 (d : Dev nD) : Vin m d main_v1 = gathered (tableOf m d) (m ((d : Thread nD τ).loc main_arg5)) := by
  unfold Vin VC biasOps
  rw [StableHlo.after_cons, StableHlo.after_nil, StableHlo.reshape_result_ne _ _ _ _ _ _ _ (by decide), VB_v1, ← tb_eq]
  rfl
theorem Vin_v2 (d : Dev nD) : Vin m d main_v2 = shapeCast S1x64 (m ((d : Thread nD τ).loc main_arg3) : Vec F S64 .f32) shapeCasts_S64_S1x64 := by
  unfold Vin VC biasOps
  rw [StableHlo.after_cons, StableHlo.after_nil, StableHlo.reshape_result, VB_ne m d (b := Proc.devRef .tc main_arg3) (by decide)]
  unfold VA padOps
  rw [StableHlo.after_cons, StableHlo.after_cons, StableHlo.after_cons, StableHlo.after_nil,
    StableHlo.binary_result_ne _ _ _ _ _ _ _ _ (by decide), StableHlo.unary_result_ne _ _ _ _ _ _ (by decide),
    StableHlo.nullary_result_ne _ _ _ _ (by decide)]
  rfl

theorem final_eq (d : Dev nD) : finalOf (Vin m) d = outOf m d := by
  unfold finalOf outOf
  rw [Vin_kept m d main_arg0 (by decide) (by decide) (by decide) (by decide) (by decide),
    Vin_kept m d main_arg2 (by decide) (by decide) (by decide) (by decide) (by decide),
    Vin_kept m d main_arg4 (by decide) (by decide) (by decide) (by decide) (by decide),
    Vin_kept m d main_arg5 (by decide) (by decide) (by decide) (by decide) (by decide), Vin_v1, Vin_v2]

/-- The ids' result at the end: the first five lanes of the second array the TensorCore call writes, -/
theorem VE_v4 (d : Dev nD) : VE m d (Proc.devRef .tc main_v4)
    = (extractStridedSlice S64x5 ![0, 0] (outOf m d).2 slices_S64x128_S64x5_0_0 : Vec F S64x5 .i32) := by
  unfold VE cutOps
  rw [StableHlo.after_cons, StableHlo.after_cons, StableHlo.after_nil, StableHlo.unary_result_ne _ _ _ _ _ _ (by decide),
    StableHlo.unary_result, show VD m d (Proc.devRef .tc main_v3_1) = (outOf m d).2 from (Vout_v3_1 m d).trans (congrArg Prod.snd (final_eq m d))]
/-- and the scores', of the first. -/
theorem VE_v5 (d : Dev nD) : VE m d (Proc.devRef .tc main_v5)
    = (extractStridedSlice S64x5 ![0, 0] (outOf m d).1 slices_S64x128_S64x5_0_0 : Vec F S64x5 .f32) := by
  unfold VE cutOps
  rw [StableHlo.after_cons, StableHlo.after_cons, StableHlo.after_nil, StableHlo.unary_result,
    StableHlo.unary_result_ne _ _ _ _ _ _ (by decide),
    show VD m d (Proc.devRef .tc main_v3_0) = (outOf m d).1 from (Vout_v3_0 m d).trans (congrArg Prod.fst (final_eq m d))]

/-! ## The frames -/

/-- Indices below the catalog's size are below the padded table's. -/
theorem listOK_of_lt {d : Dev nD} (h : ∀ i : S64x128.Idx, ((m ((d : Thread nD τ).loc main_arg5) : IVec S64x128 32) i).toNat < 1000000) :
    ListOK (ix m d) := fun j => lt_trans (h j) (by decide)

variable [hP : Cert.Pre_candidates_in_catalog.Facts]

/-- The run, keeping the arguments. -/
theorem kept_run [∀ e, Nonempty (Elt F e)] (hpre : ∀ d, ListOK (ix m d)) :
    θ_run (Cert.KernelIdeal.defs (F := F)) (Cert.KernelIdeal.threads (F := F)) ⟨m, fun _ => 0, ρ⟩ (fun r => (∀ d : Dev nD,
      r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5)) ∧ r.2.sem = fun _ => 0) :=
  (θ_run Cert.KernelIdeal.defs _ _).mono (fun _ h => ⟨fun d => kept_of_QC m h d, h.2⟩) (run_main m ρ hpre)

section SameText

set_option maxRecDepth 65536

/-- The kernel's bodies and its idealization's are the same text, -/
theorem defs₀_same : @Cert.Kernel.defs₀ F _ Cert.Kernel.Gen.facts = @Cert.KernelIdeal.defs₀ F _ Cert.KernelIdeal.Gen.facts := by
  funext pr l a
  rcases pr with _ | c | ⟨c, s⟩ <;> rcases l with ⟨_ | _ | l, hl⟩ <;> rfl
/-- so the whole body tables are equal, -/
theorem defs_same : @Cert.Kernel.defs F _ Cert.Kernel.Gen.facts = @Cert.KernelIdeal.defs F _ Cert.KernelIdeal.Gen.facts :=
  congrArg (fun D => (Cert.KernelIdeal.sc (F := F)).defs (Pipeline.defs Cert.KernelIdeal.pcfgs D)) defs₀_same
/-- and so are the two @mains. -/
theorem main_same : @Cert.Kernel.main F _ Cert.Kernel.Gen.facts = @Cert.KernelIdeal.main F _ Cert.KernelIdeal.Gen.facts :=
  funext fun _ => rfl
theorem threads_same : @Cert.Kernel.threads F _ Cert.Kernel.Gen.facts = @Cert.KernelIdeal.threads F _ Cert.KernelIdeal.Gen.facts :=
  congrArg (fun M => (Cert.KernelIdeal.sc (F := F)).threads M) main_same
/-- The two programs run alike. -/
theorem run_same : @θ_run Cert.Kernel.nD Cert.Kernel.τ Cert.Kernel.sig (Elt F) _ (@Cert.Kernel.defs F _ Cert.Kernel.Gen.facts) (@Cert.Kernel.threads F _ Cert.Kernel.Gen.facts)
    = @θ_run Cert.KernelIdeal.nD Cert.KernelIdeal.τ Cert.KernelIdeal.sig (Elt F) _ (@Cert.KernelIdeal.defs F _ Cert.KernelIdeal.Gen.facts) (@Cert.KernelIdeal.threads F _ Cert.KernelIdeal.Gen.facts) :=
  congrArg₂ (fun D T => @θ_run Cert.KernelIdeal.nD Cert.KernelIdeal.τ Cert.KernelIdeal.sig (Elt F) _ D T) defs_same threads_same

end SameText

/-- The kernel on machine words: its text is the other's. -/
theorem frame_kernel : Cert.quiescent_Kernel (hKernel := Cert.Kernel.Gen.facts) := fun m ρ hpre => by
  rw [run_same]
  exact kept_run (F := Bits) m ρ fun d => listOK_of_lt m fun i => candidates_of_pre _ _ _ _ _ _ (hpre d) i

/-- The kernel on extended reals. -/
theorem frame_ideal : Cert.quiescent_KernelIdeal := fun m ρ hpre =>
  kept_run (F := Ideal) m ρ fun d => listOK_of_lt m fun i => candidates_of_pre _ _ _ _ _ _ (hpre d) i

variable [hQ : Cert.Pre_finite_candidates.Facts]

/-- The same under the second precondition. -/
theorem frame_ideal_finite : Cert.quiescent_KernelIdeal_pre_finite_candidates := fun m ρ hpre =>
  kept_run (F := Ideal) m ρ fun d => listOK_of_lt m (finite_of_pre _ _ _ _ _ _ (hpre d)).1

/-! ## The reference's -/

/-- The reference, from any memory: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same under the second precondition. -/
theorem frame_reference_finite : Cert.quiescent_ReferenceIdeal_pre_finite_candidates (hReferenceIdeal := Cert.ReferenceIdeal.Gen.facts) := fun m ρ _ =>
  frame_reference m ρ trivial

end Cert.Proof.Run

end
-- ==== Proof.Order.lean ====
/- The greatest entries of a row, one at a time: the stable sort of a row, greatest first, puts equal entries in the
   order of their positions, and what repeated extraction of the greatest leaves after some rounds is the rest of it. -/
module

public import Idealize.ShloMosaic.Lib.SortFacts
public import Idealize.ShloMosaic.PureOps.Ideal

@[expose] public section

noncomputable section

namespace Cert.Proof.Run

open Idealize.ShloMosaic

variable {n : Nat}

/-- Entry `a` is greater than entry `b`. -/
def greater (x : Fin n → EReal) (a b : Fin n) : Bool := decide (x b < x a)

/-- Entry `a` is greater than entry `b`, or equal and at the lower position. -/
def ahead (x : Fin n → EReal) (a b : Fin n) : Bool := decide (x b < x a ∨ x a = x b ∧ a < b)

/-- On positions in increasing order the stable sort by the entries alone sorts by the entries and then the positions. -/
theorem sort_greater_eq (x : Fin n → EReal) (l : List (Fin n)) (hl : l.Pairwise (· < ·)) :
    stableSort (greater x) l = stableSort (ahead x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold greater ahead
    simp [not_lt.mpr hab.le]

/-- The position of the entry the sort puts at place `k`. -/
def place (x : Fin n → EReal) (k : Fin n) : Fin n := sortedFrom (greater x) k

/-- Of two places the earlier one's entry is greater, or equal and at the lower position. -/
theorem place_lt (x : Fin n → EReal) (i j : Fin n) (hij : i < j) :
    x (place x j) < x (place x i) ∨ x (place x i) = x (place x j) ∧ place x i < place x j := by
  have hp : sortPositions n (greater x) = sortPositions n (ahead x) :=
    sort_greater_eq x _ (List.pairwise_lt_finRange n)
  have hs : sortedFrom (greater x) = sortedFrom (ahead x) := by
    funext k; unfold sortedFrom; rw [List.get_of_eq hp]; rfl
  have h := sortedFrom_noInversion (ahead x) (ahead x)
    (by intro a b; unfold ahead; simp only [decide_eq_true_eq, decide_eq_false_iff_not]
        rintro (h | ⟨h, h'⟩) (g | ⟨g, g'⟩)
        · exact lt_asymm h g
        · exact absurd h (g ▸ lt_irrefl _)
        · exact absurd g (h ▸ lt_irrefl _)
        · exact lt_asymm h' g')
    (fun _ _ h => h)
    (by intro a b c; unfold ahead; simp only [decide_eq_false_iff_not, not_or, not_and, not_lt]
        rintro ⟨h1, h2⟩ ⟨g1, g2⟩
        refine ⟨h1.trans g1, fun e => ?_⟩
        have hab : x a = x b := le_antisymm h1 (g1.trans e.ge)
        have hbc : x b = x c := hab ▸ e
        exact (g2 hbc).trans (h2 hab)) i j hij
  have hne : place x i ≠ place x j := fun e => hij.ne (sortedFrom_injective (greater x) e)
  unfold place at hne ⊢
  rw [hs] at hne ⊢
  unfold ahead at h
  simp only [decide_eq_false_iff_not, not_or, not_and, not_lt] at h
  rcases h.1.lt_or_eq with h' | h'
  · exact Or.inl h'
  · exact Or.inr ⟨h'.symm, lt_of_le_of_ne (h.2 h') hne⟩

theorem place_injective (x : Fin n → EReal) : Function.Injective (place x) := sortedFrom_injective _

theorem place_surjective (x : Fin n → EReal) : Function.Surjective (place x) := sortedFrom_surjective _

variable {m : Nat}

/-- What `s` rounds leave of the row `x` laid into a longer one: the entries from place `s` on, and −∞ elsewhere. -/
structure Left (h : n ≤ m) (x : Fin n → EReal) (s : Nat) (v : Fin m → EReal) : Prop where
  /-- An entry from place `s` on is as it was. -/
  keep : ∀ j : Fin n, s ≤ j.val → v ((place x j).castLE h) = x (place x j)
  /-- Every other position holds −∞. -/
  rest : ∀ c, (∀ j : Fin n, s ≤ j.val → (place x j).castLE h ≠ c) → v c = ⊥

/-- Before the first round: the row, and −∞ past its end. -/
theorem Left.start (h : n ≤ m) (x : Fin n → EReal) (v : Fin m → EReal) (hin : ∀ a : Fin n, v (a.castLE h) = x a)
    (hout : ∀ c : Fin m, n ≤ c.val → v c = ⊥) : Left h x 0 v where
  keep j _ := hin _
  rest c hc := hout c (by
    by_contra hlt
    obtain ⟨j, hj⟩ := place_surjective x ⟨c.val, not_le.mp hlt⟩
    exact hc j (Nat.zero_le _) (by rw [hj]; rfl))

variable {h : n ≤ m} {x : Fin n → EReal} {s : Nat} {v : Fin m → EReal}

/-- The greatest left is the entry at place `s`. -/
theorem Left.le (H : Left h x s v) (hs : s < n) (c : Fin m) : v c ≤ x (place x ⟨s, hs⟩) := by
  by_cases hc : ∃ j : Fin n, s ≤ j.val ∧ (place x j).castLE h = c
  · obtain ⟨j, hj, rfl⟩ := hc
    rw [H.keep j hj]
    rcases hj.lt_or_eq with hlt | heq
    · rcases place_lt x ⟨s, hs⟩ j hlt with h1 | h1
      · exact h1.le
      · exact h1.1.ge
    · rw [show j = ⟨s, hs⟩ from Fin.ext heq.symm]
  · rw [H.rest c fun j hj e => hc ⟨j, hj, e⟩]; exact bot_le

/-- A position that holds the greatest left is not below that entry's, as no entry is −∞. -/
theorem Left.first (H : Left h x s v) (hs : s < n) (hb : ∀ a, x a ≠ ⊥) (c : Fin m) (hc : v c = x (place x ⟨s, hs⟩)) :
    (place x ⟨s, hs⟩).castLE h ≤ c := by
  by_cases hc' : ∃ j : Fin n, s ≤ j.val ∧ (place x j).castLE h = c
  · obtain ⟨j, hj, rfl⟩ := hc'
    rw [H.keep j hj] at hc
    rcases hj.lt_or_eq with hlt | heq
    · rcases place_lt x ⟨s, hs⟩ j hlt with h1 | h1
      · exact absurd hc h1.ne
      · exact h1.2.le
    · rw [show j = ⟨s, hs⟩ from Fin.ext heq.symm]
  · exact absurd (hc.symm.trans (H.rest c fun j hj e => hc' ⟨j, hj, e⟩)) (hb _)

/-- The round's end: that entry overwritten with −∞. -/
theorem Left.next (H : Left h x s v) (hs : s < n) (v' : Fin m → EReal)
    (hv : ∀ c, v' c = if c = (place x ⟨s, hs⟩).castLE h then ⊥ else v c) : Left h x (s + 1) v' where
  keep j hj := by
    rw [hv, if_neg, H.keep j (Nat.le_of_succ_le hj)]
    intro e
    have := place_injective x (Fin.castLE_injective h e)
    rw [this] at hj
    exact absurd hj (Nat.not_succ_le_self s)
  rest c hc := by
    rw [hv]
    split
    · rfl
    · rename_i hne
      refine H.rest c fun j hj e => ?_
      rcases hj.lt_or_eq with hlt | heq
      · exact hc j hlt e
      · exact hne (by rw [← e]; congr 2; exact Fin.ext heq.symm)

end Cert.Proof.Run

end
-- ==== Proof.Rank.lean ====
/- The five rounds of extraction read at an index: what each puts in the results' lanes. -/
module

public import proofs.«01_k».proof.Proof.Region
public import proofs.«01_k».proof.Proof.Order
public import Idealize.ShloMosaic.Lib.ValueIdx
public import Idealize.ShloMosaic.Lib.ValueLayoutCasts
public import Idealize.ShloMosaic.Lib.WordCmp
public import Idealize.ShloMosaic.PureOps.Ideal.Laws

@[expose] public section

noncomputable section

namespace Cert.Proof.Run

open Cert.KernelIdeal Cert.KernelIdeal.Gen
open Idealize.ShloMosaic Idealize.ShloMosaic.ValueIdx Idealize.ShloMosaic.WordCmp

/-! ## One round -/

/-- A column laid along every lane of its row. -/
theorem spread_apply {α : Type} (x : S64x1.Idx → α) (q : Fin 64) (c : Fin 128) :
    broadcastTo S64x128 x broadcasts_S64x1_S64x128 (ix2 q c) = x (ix2 q 0) :=
  broadcastTo_apply x _ _ _ fun a => match a with | ⟨0, _⟩ => rfl | ⟨1, _⟩ => rfl

/-- Each row's greatest entry, along the row. -/
def most (v : FVec Ideal S64x128 .f32) : FVec Ideal S64x1 .f32 :=
  shapeCast S64x1 (multiReduction .maximumf [1] S64 v 0xFF800000#32 reduces_S64x128_S64 (.inl rfl) rfl) shapeCasts_S64_S64x1

/-- Each row's lowest word. -/
def least (w : IVec S64x128 32) : IVec S64x1 32 :=
  shapeCast S64x1 (multiReductionI .minsi [1] S64 w 2147483647#32 reduces_S64x128_S64 rfl) shapeCasts_S64_S64x1

/-- The first lane of each row that holds the row's greatest entry. -/
def pick (v : FVec Ideal S64x128 .f32) : IVec S64x128 1 :=
  cmpi .eq lanes (broadcastTo S64x128 (least (select (cmpf .oeq v (broadcastTo S64x128 (most v) broadcasts_S64x1_S64x128)) lanes
    (broadcast S64x128 1073741824#32))) broadcasts_S64x1_S64x128)

/-- That lane's word. -/
def found (v : FVec Ideal S64x128 .f32) (w : IVec S64x128 32) : IVec S64x1 32 :=
  least (select (pick v) w (broadcast S64x128 1073741824#32))

/-- That lane overwritten with −∞. -/
def after (v : FVec Ideal S64x128 .f32) : FVec Ideal S64x128 .f32 :=
  select (pick v) (broadcast S64x128 (Scalar.ofBits .f32 0xFF800000#32)) v

/-- A column laid along its rows in lane `k` alone. -/
def put {α : Type} (k : BitVec 32) (x : S64x1.Idx → α) (o : S64x128.Idx → α) : S64x128.Idx → α :=
  select (cmpi .eq lanes (broadcast S64x128 k)) (broadcastTo S64x128 (shapeCast S64x1 x shapeCasts_S64x1_S64x1) broadcasts_S64x1_S64x128) o

/-- The five rounds, written as rounds. -/
theorem ranked_eq (s : FVec Ideal S64x128 .f32) (w : IVec S64x128 32) :
    ranked (F := Ideal) s w
      = (put 4#32 (most (after (after (after (after s))))) (put 3#32 (most (after (after (after s)))) (put 2#32 (most (after (after s)))
          (put 1#32 (most (after s)) (put 0#32 (most s) (broadcast S64x128 (Scalar.ofBits .f32 0xFF800000#32)))))),
        put 4#32 (found (after (after (after (after s)))) w) (put 3#32 (found (after (after (after s))) w) (put 2#32 (found (after (after s)) w)
          (put 1#32 (found (after s) w) (put 0#32 (found s w) (broadcast S64x128 0#32)))))) := rfl

/-! ## A round read at an index -/

/-- The reduced row's index with a lane put back. -/
theorem lift_row (q : Fin 64) (c : Fin 128) :
    (reduces_S64x128_S64 : Shape.Reduces S64x128 [1] S64).lift (ix1 q) c = ix2 q c := by
  funext a; apply Fin.ext
  match a with
  | ⟨0, _⟩ => rfl
  | ⟨1, _⟩ => rfl

/-- The word of the kernel's −∞ is −∞. -/
theorem ofBits_neg_inf : Ideal.ofBits .f32 0xFF800000#32 = ⊥ := by simp [Ideal.ofBits, Ideal.ieee]

theorem lanes_apply (q : Fin 64) (c : Fin 128) : lanes (ix2 q c) = BitVec.ofNat 32 c.val := by
  unfold lanes; rw [iota_single_apply]

/-- The greatest of a row, where one lane holds it. -/
theorem most_apply (v : FVec Ideal S64x128 .f32) (q : Fin 64) (p : Fin 128) (hle : ∀ c, v (ix2 q c) ≤ v (ix2 q p)) :
    most v (ix2 q 0) = v (ix2 q p) := by
  unfold most
  refine (shapeCast_a_a1_apply _ _ _ _).trans ((Ideal.multiReduction_maximumf_single _ _ _ _ _ _).trans ?_)
  show (Finset.univ : Finset (Fin 128)).fold max (Ideal.ofBits .f32 0xFF800000#32) _ = _
  rw [ofBits_neg_inf]
  refine le_antisymm ((Finset.fold_max_le _).mpr ⟨bot_le, fun c _ => ?_⟩) ((Finset.le_fold_max _).mpr (Or.inr ⟨p, Finset.mem_univ _, ?_⟩))
  · show v (Shape.Reduces.lift _ _ _) ≤ _
    rw [lift_row]; exact hle c
  · show _ ≤ v (Shape.Reduces.lift _ _ _)
    rw [lift_row]

theorem toInt_minsi' (a b : BitVec 32) : (IntOp.minsi a b).toInt = min a.toInt b.toInt := by
  unfold IntOp.minsi
  split
  · rename_i h; rw [BitVec.slt_iff_toInt_lt] at h; exact (min_eq_left h.le).symm
  · rename_i h; rw [BitVec.slt_iff_toInt_lt] at h; exact (min_eq_right (not_lt.mp h)).symm

theorem fold_minsi {ι : Type} [DecidableEq ι] (s : Finset ι) (b : BitVec 32) (f : ι → BitVec 32) (k : ℤ) :
    k ≤ (s.fold IKind.minsi.op b f).toInt ↔ k ≤ b.toInt ∧ ∀ i ∈ s, k ≤ (f i).toInt := by
  induction s using Finset.induction_on with
  | empty => simp
  | insert a s ha ih =>
    rw [Finset.fold_insert ha]
    show k ≤ (IntOp.minsi _ _).toInt ↔ _
    rw [toInt_minsi', le_min_iff, ih, Finset.forall_mem_insert]
    tauto

/-- The lowest word of a row, where one lane holds it. -/
theorem least_apply (w : IVec S64x128 32) (q : Fin 64) (p : Fin 128) (hle : ∀ c, (w (ix2 q p)).toInt ≤ (w (ix2 q c)).toInt) :
    least w (ix2 q 0) = w (ix2 q p) := by
  unfold least
  refine (shapeCast_a_a1_apply _ _ _ _).trans ((multiReductionI_eq_fold _ _ _ _ _ _).trans
    (((reduces_S64x128_S64 : Shape.Reduces S64x128 [1] S64).fold_filter_drop_single _ _ _ _).trans ?_))
  apply BitVec.eq_of_toInt_eq
  refine le_antisymm ?_ ((fold_minsi _ _ _ _).mpr ⟨?_, fun c _ => ?_⟩)
  · have := ((fold_minsi (Finset.univ : Finset (Fin 128)) 2147483647#32 (w ∘ (reduces_S64x128_S64 : Shape.Reduces S64x128 [1] S64).lift (ix1 q)) _).mp le_rfl).2 p (Finset.mem_univ _)
    exact this.trans_eq (congrArg (fun i => (w i).toInt) (lift_row q p))
  · have h1 := BitVec.toInt_lt (x := w (ix2 q p))
    have h2 : (2147483647#32).toInt = 2147483647 := by decide
    rw [h2]; norm_num at h1; omega
  · exact (hle c).trans_eq (congrArg (fun i => (w i).toInt) (lift_row q c).symm)

theorem toInt_lane (c : Fin 128) : (BitVec.ofNat 32 c.val).toInt = c.val := by
  have := c.isLt
  rw [BitVec.toInt_eq_toNat_of_lt] <;> rw [BitVec.toNat_ofNat, Nat.mod_eq_of_lt] <;> omega

theorem lane_eq (c p : Fin 128) : BitVec.ofNat 32 c.val = BitVec.ofNat 32 p.val ↔ c = p := by
  refine ⟨fun h => ?_, fun h => h ▸ rfl⟩
  have := congrArg BitVec.toInt h
  rw [toInt_lane, toInt_lane] at this
  exact Fin.ext (by exact_mod_cast this)

/-- The lane picked is the first that holds the row's greatest entry. -/
theorem pick_apply (v : FVec Ideal S64x128 .f32) (q : Fin 64) (p : Fin 128) (hle : ∀ c, v (ix2 q c) ≤ v (ix2 q p))
    (hfirst : ∀ c, v (ix2 q c) = v (ix2 q p) → p ≤ c) (c : Fin 128) : pick v (ix2 q c) = BitVec.ofBool (decide (c = p)) := by
  set u : IVec S64x128 32 := select (cmpf .oeq v (broadcastTo S64x128 (most v) broadcasts_S64x1_S64x128)) lanes (broadcast S64x128 1073741824#32) with hu
  have hu_apply (c : Fin 128) : u (ix2 q c) = if v (ix2 q c) = v (ix2 q p) then BitVec.ofNat 32 c.val else 1073741824#32 := by
    rw [hu, select_apply, cmpf_apply, spread_apply, most_apply v q p hle, lanes_apply, broadcast_apply]
    show Scalar.select (Ideal.cmp .oeq (v (ix2 q c)) (v (ix2 q p))) _ _ = _
    by_cases h : v (ix2 q c) = v (ix2 q p)
    · rw [if_pos h]; simp [Ideal.cmp, h, Scalar.select]
    · rw [if_neg h]; simp [Ideal.cmp, h, Scalar.select]
  have hp : u (ix2 q p) = BitVec.ofNat 32 p.val := by rw [hu_apply, if_pos rfl]
  have hl : least u (ix2 q 0) = BitVec.ofNat 32 p.val := by
    rw [least_apply u q p, hp]
    intro c
    rw [hp, hu_apply, toInt_lane]
    split
    · rename_i h; rw [toInt_lane]; exact_mod_cast hfirst c h
    · have : (1073741824#32).toInt = 1073741824 := by decide
      rw [this]; have := p.isLt; omega
  unfold pick
  rw [← hu]
  show IntOp.cmpi .eq (lanes (ix2 q c)) (broadcastTo S64x128 (least u) _ (ix2 q c)) = _
  rw [spread_apply, hl, lanes_apply, cmpi_eq_eq]
  exact congrArg BitVec.ofBool (decide_eq_decide.mpr (lane_eq c p))

/-- The word found is the picked lane's, where the words are below 2^30. -/
theorem found_apply (v : FVec Ideal S64x128 .f32) (w : IVec S64x128 32) (q : Fin 64) (p : Fin 128) (hle : ∀ c, v (ix2 q c) ≤ v (ix2 q p))
    (hfirst : ∀ c, v (ix2 q c) = v (ix2 q p) → p ≤ c) (hw : (w (ix2 q p)).toInt ≤ 1073741824) : found v w (ix2 q 0) = w (ix2 q p) := by
  have hs (c : Fin 128) : select (pick v) w (broadcast S64x128 1073741824#32) (ix2 q c) = if c = p then w (ix2 q c) else 1073741824#32 := by
    rw [select_apply, pick_apply v q p hle hfirst, broadcast_apply]
    by_cases h : c = p
    · rw [if_pos h]; simp [h, Scalar.select]
    · rw [if_neg h]; simp [h, Scalar.select]
  unfold found
  rw [least_apply _ q p, hs, if_pos rfl]
  intro c
  rw [hs, hs, if_pos rfl]
  split
  · rename_i h; rw [h]
  · exact hw

/-- The row after the round. -/
theorem after_apply (v : FVec Ideal S64x128 .f32) (q : Fin 64) (p : Fin 128) (hle : ∀ c, v (ix2 q c) ≤ v (ix2 q p))
    (hfirst : ∀ c, v (ix2 q c) = v (ix2 q p) → p ≤ c) (c : Fin 128) : after v (ix2 q c) = if c = p then ⊥ else v (ix2 q c) := by
  unfold after
  rw [select_apply, pick_apply v q p hle hfirst, broadcast_apply]
  show Scalar.select _ (Ideal.ofBits .f32 0xFF800000#32) _ = _
  rw [ofBits_neg_inf]
  by_cases h : c = p
  · rw [if_pos h]; simp [h, Scalar.select]
  · rw [if_neg h]; simp [h, Scalar.select]

/-- A column put in lane `k`. -/
theorem put_apply {α : Type} (k : Fin 128) (x : S64x1.Idx → α) (o : S64x128.Idx → α) (q : Fin 64) (c : Fin 128) :
    put (BitVec.ofNat 32 k.val) x o (ix2 q c) = if c = k then x (ix2 q 0) else o (ix2 q c) := by
  unfold put
  rw [shapeCast_self, select_apply, spread_apply]
  show Scalar.select (IntOp.cmpi .eq (lanes (ix2 q c)) (BitVec.ofNat 32 k.val)) _ _ = _
  rw [lanes_apply, cmpi_eq_eq]
  by_cases h : c = k
  · rw [if_pos h]; simp [h, Scalar.select]
  · rw [if_neg h]; simp [(lane_eq c k).not.mpr h, Scalar.select]

/-! ## The five rounds -/

section Rounds
variable (s : FVec Ideal S64x128 .f32) (w : IVec S64x128 32) (q : Fin 64) (x : Fin 100 → EReal)

/-- The scores left after `k` rounds. -/
def rounds : Nat → FVec Ideal S64x128 .f32
  | 0 => s
  | k + 1 => after (rounds k)

variable {s w q x}

theorem rounds_left (hin : ∀ a : Fin 100, s (ix2 q (a.castLE (by decide))) = x a) (hout : ∀ c : Fin 128, 100 ≤ c.val → s (ix2 q c) = ⊥)
    (hb : ∀ a, x a ≠ ⊥) (k : Nat) (hk : k ≤ 100) : Left (by decide : 100 ≤ 128) x k fun c => rounds s k (ix2 q c) := by
  induction k with
  | zero => exact Left.start _ x _ hin hout
  | succ k ih =>
    have H := ih (Nat.le_of_succ_le hk)
    have hp := H.keep ⟨k, hk⟩ le_rfl
    refine H.next hk _ fun c => after_apply _ q _ (fun c => ?_) (fun c hc => ?_) c
    · exact (H.le hk c).trans hp.ge
    · exact H.first hk hb c (hc.trans hp)

theorem rounds_most (hin : ∀ a : Fin 100, s (ix2 q (a.castLE (by decide))) = x a) (hout : ∀ c : Fin 128, 100 ≤ c.val → s (ix2 q c) = ⊥)
    (hb : ∀ a, x a ≠ ⊥) (k : Nat) (hk : k < 100) : most (rounds s k) (ix2 q 0) = x (place x ⟨k, hk⟩) := by
  have H := rounds_left hin hout hb k hk.le
  have hp := H.keep ⟨k, hk⟩ le_rfl
  rw [most_apply _ q ((place x ⟨k, hk⟩).castLE (by decide)) fun c => (H.le hk c).trans hp.ge]
  exact hp

theorem rounds_found (hin : ∀ a : Fin 100, s (ix2 q (a.castLE (by decide))) = x a) (hout : ∀ c : Fin 128, 100 ≤ c.val → s (ix2 q c) = ⊥)
    (hb : ∀ a, x a ≠ ⊥) (hw : ∀ c, (w (ix2 q c)).toInt ≤ 1073741824) (k : Nat) (hk : k < 100) :
    found (rounds s k) w (ix2 q 0) = w (ix2 q ((place x ⟨k, hk⟩).castLE (by decide))) := by
  have H := rounds_left hin hout hb k hk.le
  have hp := H.keep ⟨k, hk⟩ le_rfl
  exact found_apply _ w q _ (fun c => (H.le hk c).trans hp.ge) (fun c hc => H.first hk hb c (hc.trans hp)) (hw _)

end Rounds

theorem ranked_rounds (s : FVec Ideal S64x128 .f32) (w : IVec S64x128 32) :
    ranked (F := Ideal) s w
      = (put 4#32 (most (rounds s 4)) (put 3#32 (most (rounds s 3)) (put 2#32 (most (rounds s 2))
          (put 1#32 (most (rounds s 1)) (put 0#32 (most (rounds s 0)) (broadcast S64x128 (Scalar.ofBits .f32 0xFF800000#32)))))),
        put 4#32 (found (rounds s 4) w) (put 3#32 (found (rounds s 3) w) (put 2#32 (found (rounds s 2) w)
          (put 1#32 (found (rounds s 1) w) (put 0#32 (found (rounds s 0) w) (broadcast S64x128 0#32)))))) := by
  rw [ranked_eq]; simp only [rounds]

/-- The scores in the results' first five lanes are the five greatest, in order, and the words are those places'. -/
theorem ranked_apply (s : FVec Ideal S64x128 .f32) (w : IVec S64x128 32) (q : Fin 64) (x : Fin 100 → EReal)
    (hin : ∀ a : Fin 100, s (ix2 q (a.castLE (by decide))) = x a) (hout : ∀ c : Fin 128, 100 ≤ c.val → s (ix2 q c) = ⊥)
    (hb : ∀ a, x a ≠ ⊥) (hw : ∀ c, (w (ix2 q c)).toInt ≤ 1073741824) (k : Fin 5) :
    (ranked (F := Ideal) s w).1 (ix2 q (k.castLE (by decide))) = x (place x (k.castLE (by decide)))
    ∧ (ranked (F := Ideal) s w).2 (ix2 q (k.castLE (by decide))) = w (ix2 q ((place x (k.castLE (by decide))).castLE (by decide))) := by
  have hm := rounds_most hin hout hb
  have hf := rounds_found hin hout hb hw
  have hputs {α : Type} (x0 x1 x2 x3 x4 : S64x1.Idx → α) (o : S64x128.Idx → α) (k : Fin 5) :
      put 4#32 x4 (put 3#32 x3 (put 2#32 x2 (put 1#32 x1 (put 0#32 x0 o)))) (ix2 q (k.castLE (by decide) : Fin 128))
        = (![x0 (ix2 q 0), x1 (ix2 q 0), x2 (ix2 q 0), x3 (ix2 q 0), x4 (ix2 q 0)] : Fin 5 → α) k := by
    rw [show (4#32 : BitVec 32) = BitVec.ofNat 32 (4 : Fin 128).val from rfl, put_apply,
      show (3#32 : BitVec 32) = BitVec.ofNat 32 (3 : Fin 128).val from rfl, put_apply,
      show (2#32 : BitVec 32) = BitVec.ofNat 32 (2 : Fin 128).val from rfl, put_apply,
      show (1#32 : BitVec 32) = BitVec.ofNat 32 (1 : Fin 128).val from rfl, put_apply,
      show (0#32 : BitVec 32) = BitVec.ofNat 32 (0 : Fin 128).val from rfl, put_apply]
    match k with
    | 0 => rfl
    | 1 => rfl
    | 2 => rfl
    | 3 => rfl
    | 4 => rfl
  rw [ranked_rounds]
  refine ⟨(hputs _ _ _ _ _ _ k).trans ?_, (hputs _ _ _ _ _ _ k).trans ?_⟩
  · rw [hm 0 (by decide), hm 1 (by decide), hm 2 (by decide), hm 3 (by decide), hm 4 (by decide)]
    match k with
    | 0 => rfl
    | 1 => rfl
    | 2 => rfl
    | 3 => rfl
    | 4 => rfl
  · rw [hf 0 (by decide), hf 1 (by decide), hf 2 (by decide), hf 3 (by decide), hf 4 (by decide)]
    match k with
    | 0 => rfl
    | 1 => rfl
    | 2 => rfl
    | 3 => rfl
    | 4 => rfl

end Cert.Proof.Run

end
-- ==== Proof.Score.lean ====
/- A candidate's score as the kernel computes it, read at an index: the sum it is of. -/
module

public import proofs.«01_k».proof.Proof.Rank
public import Idealize.ShloMosaic.Lib.MatmulPlain
public import Idealize.ShloMosaic.Lib.ValueLayout
public import Idealize.ShloMosaic.Lib.KernelVsHost

@[expose] public section

noncomputable section

namespace Cert.Proof.Run

open Cert.KernelIdeal Cert.KernelIdeal.Gen
open Idealize.ShloMosaic Idealize.ShloMosaic.ValueIdx Idealize.ShloMosaic.WordCmp
open scoped BigOperators

/-- The catalogue row that candidate `a` of query `i` names. -/
def catRow (n : IVec S64x128 32) (i : Fin 64) (a : Fin 128) : Fin 1000000 := ⟨(n (ix2 i a)).toNat % 1000000, Nat.mod_lt _ (by decide)⟩

/-- One unit of the hidden layer: of query `i` and catalogue row `r`. -/
def unit (q : FVec Ideal S64x64 .f32) (k : FVec Ideal S1000000x64 .f32) (w1 : FVec Ideal S128x64 .f32) (b : FVec Ideal S64 .f32)
    (i : Fin 64) (r : Fin 1000000) (h : Fin 64) : EReal :=
  max ((∑ d : Fin 64, (q (ix2 i d) : EReal) * w1 (ix2 (Fin.castAdd 64 d) h)) + (∑ d : Fin 64, (k (ix2 r d) : EReal) * w1 (ix2 (Fin.natAdd 64 d) h))
    + b (ix1 h)) 0

/-- The score of query `i` and catalogue row `r`. -/
def score (q : FVec Ideal S64x64 .f32) (k : FVec Ideal S1000000x64 .f32) (w1 : FVec Ideal S128x64 .f32) (b : FVec Ideal S64 .f32)
    (w2 : FVec Ideal S64x1 .f32) (i : Fin 64) (r : Fin 1000000) : EReal :=
  ∑ h : Fin 64, unit q k w1 b i r h * w2 (ix2 h 0)

/-! ## The kernel's steps -/

/-- The hidden layer of every gathered row. -/
def hidden (g : FVec Ideal S8192x128 .f32) (w1 : FVec Ideal S128x64 .f32) (q : FVec Ideal S64x64 .f32) (b : FVec Ideal S1x64 .f32) :
    FVec Ideal S8192x64 .f32 :=
  maximumf (addf (addf
      (shapeCast S8192x64 (broadcastTo S64x128x64 (shapeCast S64x1x64 (shapeCast S64x1x64
        (matmul dot_S64x64_S64x64_S64x64_1_0_0_1_n_n none q (extractStridedSlice S64x64 ![0, 0] w1 slices_S128x64_o0_0_S64x64)
          (constant S64x64 .f32 0x00000000#32)) shapeCasts_S64x64_S64x1x64) shapeCasts_S64x1x64_S64x1x64) broadcasts_S64x1x64_S64x128x64)
        shapeCasts_S64x128x64_S8192x64)
      (matmul dot_S8192x64_S64x64_S8192x64_1_0_0_1_n_n none
        (extractStridedSlice S8192x64 ![0, 0] (shapeCast S8192x128 g shapeCasts_S8192x128_S8192x128) slices_S8192x128_o0_0_S8192x64)
        (extractStridedSlice S64x64 ![64, 0] w1 slices_S128x64_o64_0_S64x64) (constant S8192x64 .f32 0x00000000#32)))
      (broadcastTo S8192x64 (shapeCast S1x64 b shapeCasts_S1x64_S1x64) broadcasts_S1x64_S8192x64))
    (broadcast S8192x64 (Scalar.ofBits .f32 0x00000000#32))

/-- Every gathered row's score, in every lane. -/
def allScores (g : FVec Ideal S8192x128 .f32) (w1 : FVec Ideal S128x64 .f32) (q : FVec Ideal S64x64 .f32) (b : FVec Ideal S1x64 .f32)
    (w2 : FVec Ideal S64x1 .f32) : FVec Ideal S64x128x128 .f32 :=
  shapeCast S64x128x128 (matmul dot_S8192x64_S64x128_S8192x128_1_0_0_1_n_n none (hidden g w1 q b)
    (broadcastTo S64x128 (shapeCast S64x1 w2 shapeCasts_S64x1_S64x1) broadcasts_S64x1_S64x128) (constant S8192x128 .f32 0x00000000#32))
    shapeCasts_S8192x128_S64x128x128

/-- The scores with zero off the diagonal. -/
def diagonal (o : FVec Ideal S64x128x128 .f32) : FVec Ideal S64x128x128 .f32 :=
  select (cmpi .eq (iota .tc S64x128x128 32 [1] iota_S64x128x128_d1_w32) (iota .tc S64x128x128 32 [2] iota_S64x128x128_d2_w32)) o
    (broadcast S64x128x128 (Scalar.ofBits .f32 0x00000000#32))

/-- The scored candidates in these steps. -/
theorem scored_eq (q : FVec Ideal S64x64 .f32) (g : FVec Ideal S8192x128 .f32) (w1 : FVec Ideal S128x64 .f32) (b : FVec Ideal S1x64 .f32)
    (w2 : FVec Ideal S64x1 .f32) :
    scored (F := Ideal) q g w1 b w2
      = select (cmpi .slt lanes (broadcast S64x128 100#32))
          (multiReduction .add [2] S64x128 (diagonal (allScores g w1 q b w2)) 0x00000000#32 reduces_S64x128x128_S64x128 (.inl rfl) rfl)
          (broadcast S64x128 (Scalar.ofBits .f32 0xFF800000#32)) := rfl

/-! ## Read at an index -/

/-- The gathered row of candidate `c` of query `i`. -/
def rowOf (i : Fin 64) (c : Fin 128) : Fin 8192 := ⟨128 * i.val + c.val, by have := i.isLt; have := c.isLt; omega⟩

theorem hidden_apply (g : FVec Ideal S8192x128 .f32) (w1 : FVec Ideal S128x64 .f32) (q : FVec Ideal S64x64 .f32) (b : FVec Ideal S64 .f32)
    (i : Fin 64) (c : Fin 128) (h : Fin 64) :
    hidden g w1 q (shapeCast S1x64 b shapeCasts_S64_S1x64) (ix2 (rowOf i c) h)
      = max ((∑ d : Fin 64, (q (ix2 i d) : EReal) * w1 (ix2 (Fin.castAdd 64 d) h))
          + (∑ d : Fin 64, (g (ix2 (rowOf i c) (Fin.castAdd 64 d)) : EReal) * w1 (ix2 (Fin.natAdd 64 d) h)) + b (ix1 h)) 0 := by
  have e1 : shapeCast S8192x64 (broadcastTo S64x128x64 (shapeCast S64x1x64 (shapeCast S64x1x64
        (matmul dot_S64x64_S64x64_S64x64_1_0_0_1_n_n none q (extractStridedSlice S64x64 ![0, 0] w1 slices_S128x64_o0_0_S64x64)
          (constant (F := Ideal) S64x64 .f32 0x00000000#32)) shapeCasts_S64x64_S64x1x64) shapeCasts_S64x1x64_S64x1x64) broadcasts_S64x1x64_S64x128x64)
        shapeCasts_S64x128x64_S8192x64 (ix2 (rowOf i c) h)
      = ∑ d : Fin 64, (q (ix2 i d) : EReal) * w1 (ix2 (Fin.castAdd 64 d) h) := by
    refine (shapeCast_apply _ _ _ (ix3 i c h) ?_).trans ?_
    · rw [Shape.rowMajor_val_three, Shape.rowMajor_val_two]
      show (i.val * 128 + c.val) * 64 + h.val = (128 * i.val + c.val) * 64 + h.val
      ring
    refine (broadcastTo_apply _ _ _ (ix3 i 0 h) fun a => match a with | ⟨0, _⟩ => rfl | ⟨1, _⟩ => rfl | ⟨2, _⟩ => rfl).trans ?_
    rw [shapeCast_self]
    refine (shapeCast_apply _ _ _ (ix2 i h) ?_).trans ?_
    · rw [Shape.rowMajor_val_three, Shape.rowMajor_val_two]
      show i.val * 64 + h.val = (i.val * 1 + 0) * 64 + h.val
      ring
    refine (Ideal.matmul_plain_apply none q _ _ i h).trans ?_
    rw [constant_apply, Ideal.ofBits_zero_f32, zero_add]
    exact Finset.sum_congr rfl fun d _ => congrArg (_ * ·) (slice2_axis0_apply 0 w1 _ d h (Fin.castAdd 64 d) (Nat.zero_add _).symm)
  have e2 : matmul dot_S8192x64_S64x64_S8192x64_1_0_0_1_n_n none
        (extractStridedSlice S8192x64 ![0, 0] (shapeCast S8192x128 g shapeCasts_S8192x128_S8192x128) slices_S8192x128_o0_0_S8192x64)
        (extractStridedSlice S64x64 ![64, 0] w1 slices_S128x64_o64_0_S64x64) (constant (F := Ideal) S8192x64 .f32 0x00000000#32) (ix2 (rowOf i c) h)
      = ∑ d : Fin 64, (g (ix2 (rowOf i c) (Fin.castAdd 64 d)) : EReal) * w1 (ix2 (Fin.natAdd 64 d) h) := by
    refine (Ideal.matmul_plain_apply none _ _ _ (rowOf i c) h).trans ?_
    rw [constant_apply, Ideal.ofBits_zero_f32, zero_add, shapeCast_self]
    refine Finset.sum_congr rfl fun d _ => ?_
    refine congrArg₂ (· * ·) ?_ ?_
    · exact slice2_axis1_apply 0 g _ (rowOf i c) d (Fin.castAdd 64 d) (Nat.zero_add _).symm
    · exact slice2_axis0_apply 64 w1 _ d h (Fin.natAdd 64 d) rfl
  have e3 : broadcastTo S8192x64 (shapeCast S1x64 (shapeCast S1x64 b shapeCasts_S64_S1x64) shapeCasts_S1x64_S1x64) broadcasts_S1x64_S8192x64 (ix2 (rowOf i c) h)
      = b (ix1 h) := by
    rw [shapeCast_self]
    refine (broadcastTo_1b_ab_apply _ _ _ _).trans ?_
    exact shapeCast_a_1a_apply b _ _ _
  unfold hidden
  rw [maximumf_apply, addf_apply, addf_apply, e1, e2, e3]
  exact congrArg (max _) Ideal.ofBits_zero_f32

theorem allScores_apply (g : FVec Ideal S8192x128 .f32) (w1 : FVec Ideal S128x64 .f32) (q : FVec Ideal S64x64 .f32) (b : FVec Ideal S1x64 .f32)
    (w2 : FVec Ideal S64x1 .f32) (i : Fin 64) (c e : Fin 128) :
    allScores g w1 q b w2 (ix3 i c e) = ∑ h : Fin 64, (hidden g w1 q b (ix2 (rowOf i c) h) : EReal) * w2 (ix2 h 0) := by
  unfold allScores
  refine (shapeCast_apply _ _ _ (ix2 (rowOf i c) e) ?_).trans ?_
  · rw [Shape.rowMajor_val_three, Shape.rowMajor_val_two]
    show (128 * i.val + c.val) * 128 + e.val = (i.val * 128 + c.val) * 128 + e.val
    ring
  refine (Ideal.matmul_plain_apply none _ _ _ (rowOf i c) e).trans ?_
  rw [constant_apply, Ideal.ofBits_zero_f32, zero_add, shapeCast_self]
  exact Finset.sum_congr rfl fun h _ => congrArg (_ * ·) (spread_apply w2 h e)

theorem lift_diag (i : Fin 64) (c e : Fin 128) :
    (reduces_S64x128x128_S64x128 : Shape.Reduces S64x128x128 [2] S64x128).lift (ix2 i c) e = ix3 i c e := by
  funext a; apply Fin.ext
  match a with
  | ⟨0, _⟩ => rfl
  | ⟨1, _⟩ => rfl
  | ⟨2, _⟩ => rfl

/-- The sum along the lanes of the scores with zero off the diagonal is the score on it. -/
theorem sum_diagonal (o : FVec Ideal S64x128x128 .f32) (i : Fin 64) (c : Fin 128) :
    multiReduction .add [2] S64x128 (diagonal o) 0x00000000#32 reduces_S64x128x128_S64x128 (.inl rfl) rfl (ix2 i c) = o (ix3 i c c) := by
  have hd (e : Fin 128) : diagonal o (ix3 i c e) = if c = e then (o (ix3 i c e) : EReal) else 0 := by
    unfold diagonal
    rw [select_apply]
    show Scalar.select (IntOp.cmpi .eq (iota .tc S64x128x128 32 [1] iota_S64x128x128_d1_w32 (ix3 i c e)) (iota .tc S64x128x128 32 [2] iota_S64x128x128_d2_w32 (ix3 i c e))) _
      (Ideal.ofBits .f32 0x00000000#32) = _
    rw [iota_single_apply, iota_single_apply, cmpi_eq_eq, Ideal.ofBits_zero_f32]
    show Scalar.select (BitVec.ofBool (decide (BitVec.ofNat 32 c.val = BitVec.ofNat 32 e.val))) _ _ = _
    by_cases h : c = e
    · rw [if_pos h]; simp [h, Scalar.select]
    · rw [if_neg h]; simp [(lane_eq c e).not.mpr h, Scalar.select]
  refine (Ideal.multiReduction_add_single _ _ _ _ _ _).trans ?_
  refine (Finset.sum_congr rfl fun e _ => (congrArg (diagonal o) (lift_diag i c e)).trans (hd e)).trans ?_
  exact (Finset.sum_ite_eq Finset.univ c _).trans (if_pos (Finset.mem_univ _))

/-- A candidate's score. -/
theorem scored_apply (q : FVec Ideal S64x64 .f32) (g : FVec Ideal S8192x128 .f32) (w1 : FVec Ideal S128x64 .f32) (b : FVec Ideal S1x64 .f32)
    (w2 : FVec Ideal S64x1 .f32) (i : Fin 64) (c : Fin 128) :
    scored (F := Ideal) q g w1 b w2 (ix2 i c)
      = if c.val < 100 then ∑ h : Fin 64, (hidden g w1 q b (ix2 (rowOf i c) h) : EReal) * w2 (ix2 h 0) else ⊥ := by
  rw [scored_eq, select_apply, sum_diagonal, allScores_apply]
  show Scalar.select (IntOp.cmpi .slt (lanes (ix2 i c)) 100#32) _ (Ideal.ofBits .f32 0xFF800000#32) = _
  rw [lanes_apply, ofBits_neg_inf, cmpi_slt_eq, toInt_lane, show (100#32).toInt = 100 from by decide]
  by_cases h : c.val < 100
  · rw [if_pos h]; simp [Scalar.select, h]
  · rw [if_neg h]; simp [Scalar.select, h]

/-! ## The gathered rows are the catalogue's -/

/-- The padded table, within the catalogue's rows and the first 64 lanes. -/
theorem gathered_apply (k : FVec Ideal S1000000x64 .f32) (u : FVec Ideal S_ .f32) (n : IVec S64x128 32) (i : Fin 64) (c : Fin 128) (d : Fin 64)
    (hn : (n (ix2 i c)).toNat < 1000000) :
    gathered (F := Ideal) (pad S1015808x128 ![0, 0] ![15808, 64] ![0, 0] k u pads_S1000000x64_S1015808x128_0158080_0640 h_S_) n
      (ix2 (rowOf i c) (Fin.castAdd 64 d)) = k (ix2 (catRow n i c) d) := by
  unfold gathered
  have hi : (⟨((ix2 (rowOf i c) (Fin.castAdd 64 d) : S8192x128.Idx) 0).val / 128, Nat.div_lt_of_lt_mul (show ((ix2 (rowOf i c) (Fin.castAdd 64 d) : S8192x128.Idx) 0).val < 128 * 64 from (rowOf i c).isLt)⟩ : Fin 64) = i :=
    Fin.ext (by show (128 * i.val + c.val) / 128 = i.val; have := c.isLt; omega)
  have hc : (⟨((ix2 (rowOf i c) (Fin.castAdd 64 d) : S8192x128.Idx) 0).val % 128, Nat.mod_lt _ (by decide)⟩ : Fin 128) = c :=
    Fin.ext (by show (128 * i.val + c.val) % 128 = c.val; have := c.isLt; omega)
  rw [hi, hc]
  refine pad_apply_of_inside _ _ _ k u _ _ _ (ix2 (catRow n i c) d) fun a => ?_
  match a with
  | ⟨0, _⟩ =>
    show (n (ix2 i c)).toNat % 1015808 = 0 + (n (ix2 i c)).toNat % 1000000 * (0 + 1)
    rw [Nat.mod_eq_of_lt hn, Nat.mod_eq_of_lt (by omega)]; omega
  | ⟨1, _⟩ => show d.val = 0 + d.val * (0 + 1); omega

/-- The kernel's score of a candidate below 100. -/
theorem kernel_score (q : FVec Ideal S64x64 .f32) (k : FVec Ideal S1000000x64 .f32) (u : FVec Ideal S_ .f32) (w1 : FVec Ideal S128x64 .f32) (b : FVec Ideal S64 .f32)
    (w2 : FVec Ideal S64x1 .f32) (n : IVec S64x128 32) (i : Fin 64) (a : Fin 100) (hn : ∀ j, (n j).toNat < 1000000) :
    scored (F := Ideal) q (gathered (F := Ideal) (pad S1015808x128 ![0, 0] ![15808, 64] ![0, 0] k u pads_S1000000x64_S1015808x128_0158080_0640 h_S_) n)
      w1 (shapeCast S1x64 b shapeCasts_S64_S1x64) w2 (ix2 i (a.castLE (by decide))) = score q k w1 b w2 i (catRow n i (a.castLE (by decide))) := by
  rw [scored_apply, if_pos (show (a.castLE (by decide : 100 ≤ 128)).val < 100 from a.isLt)]
  unfold score
  refine Finset.sum_congr rfl fun h _ => congrArg (· * _) ?_
  rw [hidden_apply]
  unfold unit
  refine congrArg (max · 0) (congrArg (· + _) (congrArg (_ + ·) (Finset.sum_congr rfl fun d _ => congrArg (· * _) ?_)))
  exact gathered_apply k u n i _ d (hn _)

end Cert.Proof.Run

end
-- ==== Proof.Ref.lean ====
/- The reference's two results read at an index: the score and the catalogue index of the candidate that the stable sort
   by decreasing score puts at that place. -/
module

public import proofs.«01_k».proof.Proof.Score
public import proofs.«01_k».proof.Proof.Gen.ReferenceIdeal.Run
public import Idealize.ShloMosaic.Lib.ReduceAll
public import Idealize.ShloMosaic.Lib.Pipeline.Value

@[expose] public section

noncomputable section

namespace Cert.Proof.Run

open Cert.ReferenceIdeal Cert.ReferenceIdeal.Gen
open Idealize.ShloMosaic Idealize.ShloMosaic.ValueIdx Idealize.ShloMosaic.WordCmp
open scoped BigOperators

/-! ## Small words -/

/-- A bit that a truth value makes is 1 when it is true. -/
theorem ofBool_beq (p : Bool) : (BitVec.ofBool p == 1#1) = p := by cases p <;> rfl

/-- A word below half the range reads the same signed. -/
theorem toInt_small (v : BitVec 32) (h : v.toNat < 2147483648) : v.toInt = v.toNat :=
  BitVec.toInt_eq_toNat_of_lt (by omega)

/-- Such a word is not negative, so a wrapped index is itself. -/
theorem not_wrapped (v a : BitVec 32) (h : v.toNat < 2147483648) : Scalar.select (IntOp.cmpi .slt v 0#32) a v = v := by
  rw [cmpi_slt_eq, toInt_small v h, show (0#32).toInt = 0 from by decide, decide_eq_false (by omega : ¬ ((v.toNat : Int) < 0))]
  rfl

/-- A word within bounds passes both of the bounds' tests. -/
theorem in_bounds (v : BitVec 32) (u : Nat) (hu : u < 2147483648) (h : v.toNat ≤ u) :
    IntOp.andi (IntOp.cmpi .sge v 0#32) (IntOp.cmpi .sle v (BitVec.ofNat 32 u)) = 1#1 := by
  have h1 : IntOp.cmpi .sge v 0#32 = 1#1 := by
    show BitVec.ofBool (decide ((0#32).toInt ≤ v.toInt)) = 1#1
    rw [toInt_small v (by omega), show (0#32).toInt = 0 from by decide]; simp
  have hn : (BitVec.ofNat 32 u).toNat = u := by rw [BitVec.toNat_ofNat]; exact Nat.mod_eq_of_lt (by omega)
  have h2 : IntOp.cmpi .sle v (BitVec.ofNat 32 u) = 1#1 := by
    show BitVec.ofBool (decide (v.toInt ≤ (BitVec.ofNat 32 u).toInt)) = 1#1
    rw [toInt_small v (by omega), toInt_small _ (by omega), hn]; simp [h]
  rw [h1, h2]; rfl

/-! ## The greatest of a row -/

theorem along_row (j : S64x100.Idx) (a : Fin 100) : j.along (1 : Fin 2) a = ix2 (j 0) a := by
  funext b; apply Fin.ext
  match b with
  | ⟨0, _⟩ => rfl
  | ⟨1, _⟩ => rfl

/-- The sort of a row, greatest first. -/
theorem sorted_row (x : FVec Ideal S64x100 .f32) (i : Fin 64) :
    (sortedFrom (fun k k' => (FloatOps.cmpfTotal (F := Ideal) (φ := .f32) .gt (x (ix2 i k)) (x (ix2 i k'))) == 1#1) : Fin 100 → Fin 100)
      = place (fun a : Fin 100 => (x (ix2 i a) : EReal)) := by
  unfold place
  funext k
  refine congrFun (congrArg sortedFrom ?_) _
  funext k k'
  exact ofBool_beq _

/-- Two arrays sorted along their rows together, by the first alone. -/
theorem sort_rows {α β : Type} (gt : α → α → BitVec 1) (x : S64x100.Idx → α) (y : S64x100.Idx → β) (j : S64x100.Idx) :
    (Host.sort2 S64x100 1 (fun l r => gt l.1 r.1) x y).1 j
        = x (ix2 (j 0) (sortedFrom (fun k k' : Fin 100 => gt (x (ix2 (j 0) k)) (x (ix2 (j 0) k')) == 1#1) (j 1)))
      ∧ (Host.sort2 S64x100 1 (fun l r => gt l.1 r.1) x y).2 j
        = y (ix2 (j 0) (sortedFrom (fun k k' : Fin 100 => gt (x (ix2 (j 0) k)) (x (ix2 (j 0) k')) == 1#1) (j 1))) := by
  have e : (fun k k' : Fin 100 => gt (x (j.along (1 : Fin 2) k)) (x (j.along (1 : Fin 2) k')) == 1#1)
      = fun k k' : Fin 100 => gt (x (ix2 (j 0) k)) (x (ix2 (j 0) k')) == 1#1 := by
    funext k k'
    exact congrArg₂ (fun a b => gt a b == 1#1) (congrArg x (along_row j k)) (congrArg x (along_row j k'))
  have e' : j.along (1 : Fin 2) (sortedFrom (fun k k' : Fin 100 => gt (x (j.along (1 : Fin 2) k)) (x (j.along (1 : Fin 2) k')) == 1#1) (j 1))
      = ix2 (j 0) (sortedFrom (fun k k' : Fin 100 => gt (x (ix2 (j 0) k)) (x (ix2 (j 0) k')) == 1#1) (j 1)) := by
    rw [e]; exact along_row j _
  unfold Host.sort2
  rw [dif_pos (show 1 < S64x100.rank from by decide)]
  exact ⟨congrArg x e', congrArg y e'⟩

theorem slice_five {α : Type} (x : S64x100.Idx → α) (i : Fin 64) (k : Fin 5) :
    extractStridedSlice S64x5 (fun _ => 0) x sliceFits_S64x100_S64x5 (ix2 i k) = x (ix2 i (k.castLE (by decide))) := by
  refine congrArg x ?_
  funext b; apply Fin.ext
  match b with
  | ⟨0, _⟩ => exact Nat.zero_add _
  | ⟨1, _⟩ => exact Nat.zero_add _

/-- A row's values and positions sorted, greatest first. -/
def sortedRows (x : FVec Ideal S64x100 .f32) : FVec Ideal S64x100 .f32 × IVec S64x100 32 :=
  Host.sort2 S64x100 1 (fun l r => FloatOps.cmpfTotal (F := Ideal) (φ := .f32) .gt l.1 r.1) x
    (fun i => if hd : 1 < S64x100.rank then iotaInDim S64x100 32 ⟨1, hd⟩ i else 0#32)

theorem topK_eq (x : FVec Ideal S64x100 .f32) :
    Host.topK S64x5 1 (FloatOps.cmpfTotal (F := Ideal) (φ := .f32) .gt) x sliceFits_S64x100_S64x5
      = (extractStridedSlice S64x5 (fun _ => 0) (sortedRows x).1 sliceFits_S64x100_S64x5,
          extractStridedSlice S64x5 (fun _ => 0) (sortedRows x).2 sliceFits_S64x100_S64x5) := rfl

theorem sortedRows_fst (x : FVec Ideal S64x100 .f32) (j : S64x100.Idx) :
    (sortedRows x).1 j = x (ix2 (j 0) (place (fun a : Fin 100 => (x (ix2 (j 0) a) : EReal)) (j 1))) := by
  unfold sortedRows
  rw [← sorted_row x (j 0)]
  exact (sort_rows _ x _ j).1

theorem sortedRows_snd (x : FVec Ideal S64x100 .f32) (j : S64x100.Idx) :
    (sortedRows x).2 j = BitVec.ofNat 32 (place (fun a : Fin 100 => (x (ix2 (j 0) a) : EReal)) (j 1)).val := by
  unfold sortedRows
  rw [← sorted_row x (j 0)]
  refine (sort_rows _ x _ j).2.trans ?_
  generalize sortedFrom _ _ = a
  rfl

/-- The greatest values of a row. -/
theorem topK_values (x : FVec Ideal S64x100 .f32) (i : Fin 64) (k : Fin 5) :
    (Host.topK S64x5 1 (FloatOps.cmpfTotal (F := Ideal) (φ := .f32) .gt) x sliceFits_S64x100_S64x5).1 (ix2 i k)
      = x (ix2 i (place (fun a : Fin 100 => (x (ix2 i a) : EReal)) (k.castLE (by decide)))) := by
  rw [topK_eq]
  exact (slice_five _ i k).trans (sortedRows_fst x _)

/-- Their positions. -/
theorem topK_positions (x : FVec Ideal S64x100 .f32) (i : Fin 64) (k : Fin 5) :
    (Host.topK S64x5 1 (FloatOps.cmpfTotal (F := Ideal) (φ := .f32) .gt) x sliceFits_S64x100_S64x5).2 (ix2 i k)
      = BitVec.ofNat 32 (place (fun a : Fin 100 => (x (ix2 i a) : EReal)) (k.castLE (by decide))).val := by
  rw [topK_eq]
  exact (slice_five _ i k).trans (sortedRows_snd x _)

/-! ## The two products -/

theorem dot_first (l : FVec Ideal S64x100x128 .f32) (r : FVec Ideal S128x64 .f32) (i : Fin 64) (a : Fin 100) (h : Fin 64) :
    Host.dotGeneral dot_S64x100x128_S128x64_S64x100x64_2_0_01_1_n_n none l r (ix3 i a h)
      = ∑ d : Fin 128, (l (ix3 i a d) : EReal) * r (ix2 d h) := by
  let D := dot_S64x100x128_S128x64_S64x100x64_2_0_01_1_n_n
  refine (Ideal.dotGeneral_apply _ _ _ _ _ _).trans ?_
  refine (Equiv.sum_comp (contrEquiv1 D 128 rfl rfl).symm _).symm.trans (Finset.sum_congr rfl fun d _ => ?_)
  have hd := contrEquiv1_symm_val D 128 rfl rfl d
  refine congrArg₂ (· * ·) (congrArg l ?_) (congrArg r ?_)
  · funext b; apply Fin.ext
    match b with
    | ⟨0, _⟩ => rfl
    | ⟨1, _⟩ => rfl
    | ⟨2, _⟩ => exact hd
  · funext b; apply Fin.ext
    match b with
    | ⟨0, _⟩ => exact hd
    | ⟨1, _⟩ => rfl

theorem dot_second (l : FVec Ideal S64x100x64 .f32) (r : FVec Ideal S64x1 .f32) (i : Fin 64) (a : Fin 100) (h : Fin 1) :
    Host.dotGeneral dot_S64x100x64_S64x1_S64x100x1_2_0_01_1_n_n none l r (ix3 i a h)
      = ∑ d : Fin 64, (l (ix3 i a d) : EReal) * r (ix2 d h) := by
  let D := dot_S64x100x64_S64x1_S64x100x1_2_0_01_1_n_n
  refine (Ideal.dotGeneral_apply _ _ _ _ _ _).trans ?_
  refine (Equiv.sum_comp (contrEquiv1 D 64 rfl rfl).symm _).symm.trans (Finset.sum_congr rfl fun d _ => ?_)
  have hd := contrEquiv1_symm_val D 64 rfl rfl d
  refine congrArg₂ (· * ·) (congrArg l ?_) (congrArg r ?_)
  · funext b; apply Fin.ext
    match b with
    | ⟨0, _⟩ => rfl
    | ⟨1, _⟩ => rfl
    | ⟨2, _⟩ => exact hd
  · funext b; apply Fin.ext
    match b with
    | ⟨0, _⟩ => exact hd
    | ⟨1, _⟩ => rfl

/-! ## The two gathers -/

/-- The rows of the catalogue at an index array, read at an index. -/
theorem gather_rows (x : FVec Ideal S1000000x64 .f32) (n : IVec S64x100x1 32) (i : Fin 64) (a : Fin 100) (d : Fin 64) (r : Fin 1000000)
    (hr : (n (ix3 i a 0)).toInt.toNat = r.val) :
    Host.gather gather_S1000000x64_S64x100x1_S64x100x64_2_0_n_n_0_2_164 x n (ix3 i a d) = x (ix2 r d) := by
  let D := gather_S1000000x64_S64x100x1_S64x100x64_2_0_n_n_0_2_164
  unfold Host.gather
  refine congrArg x ?_
  funext b; apply Fin.ext
  show D.start (ix3 i a d) n b + D.batchCoord (ix3 i a d) b + D.offCoord (ix3 i a d) b = _
  have hb : b = 0 ∨ b = 1 := by
    match b with
    | ⟨0, _⟩ => exact Or.inl rfl
    | ⟨1, _⟩ => exact Or.inr rfl
  rcases hb with rfl | rfl
  · rw [GatherDims.batchCoord_eq_zero _ _ _ (List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix3 i a d) ⟨List.idxOf (0 : Fin 2) D.startIndexMap, List.idxOf_lt_length_iff.2 (List.mem_singleton.mpr rfl)⟩ = ix3 i a 0 := by
      funext c; apply Fin.ext
      match c with
      | ⟨0, _⟩ => rfl
      | ⟨1, _⟩ => rfl
      | ⟨2, _⟩ => rfl
    rw [hsi, hr]
    show min r.val 999999 = r.val
    have := r.isLt; omega
  · rw [GatherDims.batchCoord_eq_zero _ _ _ (List.not_mem_nil)]
    unfold GatherDims.start
    rw [dif_neg (show (1 : Fin 2) ∉ D.startIndexMap from by decide)]
    unfold GatherDims.offCoord
    rw [dif_pos (show (1 : Fin 2) ∈ D.sKept from by decide)]
    simp only [Nat.zero_add]
    rfl

/-- The entries of a row at a position array, read at an index. -/
theorem gather_along (x : IVec S64x100 32) (n : IVec S64x5x1 32) (i : Fin 64) (k : Fin 5) (a : Fin 100)
    (ha : (n (ix3 i k 0)).toInt.toNat = a.val) :
    Host.gather gather_S64x100_S64x5x1_S64x5_n_1_0_0_1_2_11 x n (ix2 i k) = x (ix2 i a) := by
  let D := gather_S64x100_S64x5x1_S64x5_n_1_0_0_1_2_11
  unfold Host.gather
  refine congrArg x ?_
  funext b; apply Fin.ext
  show D.start (ix2 i k) n b + D.batchCoord (ix2 i k) b + D.offCoord (ix2 i k) b = _
  have hb : b = 0 ∨ b = 1 := by
    match b with
    | ⟨0, _⟩ => exact Or.inl rfl
    | ⟨1, _⟩ => exact Or.inr rfl
  rcases hb with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ D.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl)]
    have hsi : D.siIdx (ix2 i k) ⟨List.idxOf (1 : Fin 2) D.startIndexMap, List.idxOf_lt_length_iff.2 (List.mem_singleton.mpr rfl)⟩ = ix3 i k 0 := by
      funext c; apply Fin.ext
      match c with
      | ⟨0, _⟩ => rfl
      | ⟨1, _⟩ => rfl
      | ⟨2, _⟩ => rfl
    rw [hsi, ha]
    show min a.val 99 = a.val
    have := a.isLt; omega

/-! ## The reference's steps -/

/-- The first 100 candidate indices of every query. -/
def cands (n : IVec S64x128 32) : IVec S64x100 32 := extractStridedSlice S64x100 ![0, 0] n slices_S64x128_S64x100_0_0

/-- The candidates' rows, an index below zero counted from the end. -/
def rowsAt (n : IVec S64x128 32) : IVec S64x100x1 32 :=
  broadcastInDim S64x100x1 ![0, 1] bcast_S64x100_S64x100x1_0_1
    (select (cmpi .slt (cands n) (broadcastInDim S64x100 ![] bcast_S_S64x100 (constantI S_ 32 0#32)))
      (addi (cands n) (broadcastInDim S64x100 ![] bcast_S_S64x100 (constantI S_ 32 1000000#32))) (cands n))

/-- Which of those rows lie in the catalogue. -/
def rowsOK (n : IVec S64x128 32) : IVec S64x100 1 :=
  Host.reduce IntOp.andi (andi (cmpi .sge (rowsAt n) (broadcastInDim S64x100x1 ![] bcast_S_S64x100x1 (constantI S_ 32 0#32)))
    (cmpi .sle (rowsAt n) (broadcastInDim S64x100x1 ![0, 1, 2] bcast_S1x1x1_S64x100x1_0_1_2 (broadcastInDim S1x1x1 ![2] bcast_S1_S1x1x1_2 (constantI S1 32 999999#32)))))
    (constantI S_ 1 1#1) reducesTo_S64x100x1_S64x100_d2 h_S_

/-- The candidates' rows of the catalogue. -/
def taken (k : FVec Ideal S1000000x64 .f32) (n : IVec S64x128 32) : FVec Ideal S64x100x64 .f32 :=
  select (broadcastInDim S64x100x64 ![0, 1] bcast_S64x100_S64x100x64_0_1 (rowsOK n))
    (Host.gather gather_S1000000x64_S64x100x1_S64x100x64_2_0_n_n_0_2_164 k (rowsAt n))
    (broadcastInDim S64x100x64 ![] bcast_S_S64x100x64 (constant S_ .f32 0x7FC00000#32))

/-- Every query beside each of its candidates' rows. -/
def joined (q : FVec Ideal S64x64 .f32) (k : FVec Ideal S1000000x64 .f32) (n : IVec S64x128 32) : FVec Ideal S64x100x128 .f32 :=
  concatenate S64x100x128 2
    [⟨S64x100x64, broadcastInDim S64x100x64 ![0, 1, 2] bcast_S64x1x64_S64x100x64_0_1_2 (broadcastInDim S64x1x64 ![0, 2] bcast_S64x64_S64x1x64_0_2 q)⟩,
      ⟨S64x100x64, taken k n⟩] concatenates_S64x100x64_S64x100x64_S64x100x128_d2

/-- The hidden layer. -/
def layer (q : FVec Ideal S64x64 .f32) (k : FVec Ideal S1000000x64 .f32) (w1 : FVec Ideal S128x64 .f32) (b : FVec Ideal S64 .f32) (n : IVec S64x128 32) :
    FVec Ideal S64x100x64 .f32 :=
  maximumf (addf (Host.dotGeneral dot_S64x100x128_S128x64_S64x100x64_2_0_01_1_n_n none (joined q k n) w1)
      (broadcastInDim S64x100x64 ![0, 1, 2] bcast_S1x1x64_S64x100x64_0_1_2 (broadcastInDim S1x1x64 ![2] bcast_S64_S1x1x64_2 b)))
    (broadcastInDim S64x100x64 ![] bcast_S_S64x100x64 (constant S_ .f32 0x00000000#32))

/-- The candidates' scores. -/
def scores (q : FVec Ideal S64x64 .f32) (k : FVec Ideal S1000000x64 .f32) (w1 : FVec Ideal S128x64 .f32) (b : FVec Ideal S64 .f32) (w2 : FVec Ideal S64x1 .f32)
    (n : IVec S64x128 32) : FVec Ideal S64x100 .f32 :=
  shapeCast S64x100 (Host.dotGeneral dot_S64x100x64_S64x1_S64x100x1_2_0_01_1_n_n none (layer q k w1 b n) w2) shapeCasts_S64x100x1_S64x100

/-- A position array as start indices, a position below zero counted from the end. -/
def placesAt (p : IVec S64x5 32) : IVec S64x5x1 32 :=
  shapeCast S64x5x1 (select (cmpi .slt p (broadcastInDim S64x5 ![] bcast_S_S64x5 (constantI S_ 32 0#32)))
    (addi p (broadcastInDim S64x5 ![] bcast_S_S64x5 (constantI S_ 32 100#32))) p) shapeCasts_S64x5_S64x5x1

/-- Which of those positions lie in the row. -/
def placesOK (p : IVec S64x5 32) : IVec S64x5 1 :=
  Host.reduce IntOp.andi (andi (cmpi .sge (placesAt p) (broadcastInDim S64x5x1 ![] bcast_S_S64x5x1 (constantI S_ 32 0#32)))
    (cmpi .sle (placesAt p) (broadcastInDim S64x5x1 ![0, 1, 2] bcast_S1x1x1_S64x5x1_0_1_2 (broadcastInDim S1x1x1 ![2] bcast_S1_S1x1x1_2 (constantI S1 32 99#32)))))
    (constantI S_ 1 1#1) reducesTo_S64x5x1_S64x5_d2 h_S_

/-- The candidate indices at a position array. -/
def idsAt (p : IVec S64x5 32) (n : IVec S64x128 32) : IVec S64x5 32 :=
  select (placesOK p) (Host.gather gather_S64x100_S64x5x1_S64x5_n_1_0_0_1_2_11 (cands n) (placesAt p))
    (broadcastInDim S64x5 ![] bcast_S_S64x5 (constantI S_ 32 2147483648#32))

/-! ## Read at an index -/

theorem cands_apply (n : IVec S64x128 32) (i : Fin 64) (a : Fin 100) : cands n (ix2 i a) = n (ix2 i (a.castLE (by decide))) :=
  slice2_axis1_apply 0 n _ i a (a.castLE (by decide)) (Nat.zero_add _).symm

theorem rowsAt_apply (n : IVec S64x128 32) (hn : ∀ j, (n j).toNat < 1000000) (i : Fin 64) (a : Fin 100) (z : Fin 1) :
    rowsAt n (ix3 i a z) = n (ix2 i (a.castLE (by decide))) := by
  unfold rowsAt
  refine (broadcastInDim_apply _ _ _ _ (ix2 i a) fun b => match b with | ⟨0, _⟩ => rfl | ⟨1, _⟩ => rfl).trans ?_
  rw [select_apply]
  have hb := hn (ix2 i (a.castLE (by decide)))
  refine (not_wrapped (cands n (ix2 i a)) _ ?_).trans (cands_apply n i a)
  rw [cands_apply]; omega

theorem rowsOK_apply (n : IVec S64x128 32) (hn : ∀ j, (n j).toNat < 1000000) (i : Fin 64) (a : Fin 100) : rowsOK n (ix2 i a) = 1#1 := by
  unfold rowsOK
  refine Host.reduce_andi_one _ _ _ _ _ rfl fun j => ?_
  obtain ⟨p, e, z, rfl⟩ : ∃ p e z, j = ix3 p e z := ⟨j 0, j 1, j 2, by funext b; match b with | ⟨0, _⟩ => rfl | ⟨1, _⟩ => rfl | ⟨2, _⟩ => rfl⟩
  have hb := hn (ix2 p (Fin.castLE (by decide : 100 ≤ 128) e))
  refine Eq.trans ?_ (in_bounds (rowsAt n (ix3 p e z)) 999999 (by decide) ?_)
  · rfl
  · rw [rowsAt_apply n hn]; omega

theorem taken_apply (k : FVec Ideal S1000000x64 .f32) (n : IVec S64x128 32) (hn : ∀ j, (n j).toNat < 1000000) (i : Fin 64) (a : Fin 100) (d : Fin 64) :
    taken k n (ix3 i a d) = k (ix2 (catRow n i (a.castLE (by decide))) d) := by
  unfold taken
  rw [select_apply]
  have e : broadcastInDim S64x100x64 ![0, 1] bcast_S64x100_S64x100x64_0_1 (rowsOK n) (ix3 i a d) = 1#1 :=
    (broadcastInDim_apply _ _ _ _ (ix2 i a) fun b => match b with | ⟨0, _⟩ => rfl | ⟨1, _⟩ => rfl).trans (rowsOK_apply n hn i a)
  rw [e]
  have hb := hn (ix2 i (a.castLE (by decide)))
  refine (if_pos rfl).trans (gather_rows k (rowsAt n) i a d (catRow n i (a.castLE (by decide))) ?_)
  rw [rowsAt_apply n hn, toInt_small _ (by omega)]
  exact (Nat.mod_eq_of_lt hb).symm

theorem joined_left (q : FVec Ideal S64x64 .f32) (k : FVec Ideal S1000000x64 .f32) (n : IVec S64x128 32) (i : Fin 64) (a : Fin 100) (d : Fin 64) :
    joined q k n (ix3 i a (Fin.castAdd 64 d)) = q (ix2 i d) := by
  unfold joined
  refine (concatenate_pair_apply_left (t := S64x100x128) (s₁ := S64x100x64) (s₂ := S64x100x64) 2 _ (taken k n) concatenates_S64x100x64_S64x100x64_S64x100x128_d2
    (ix3 i a (Fin.castAdd 64 d)) rfl (ix3 i a d) fun b => match b with | ⟨0, _⟩ => rfl | ⟨1, _⟩ => rfl | ⟨2, _⟩ => rfl).trans ?_
  refine (broadcastInDim_apply _ _ _ _ (ix3 i 0 d) fun b => match b with | ⟨0, _⟩ => rfl | ⟨1, _⟩ => rfl | ⟨2, _⟩ => rfl).trans ?_
  exact broadcastInDim_apply _ _ _ _ (ix2 i d) fun b => match b with | ⟨0, _⟩ => rfl | ⟨1, _⟩ => rfl

theorem joined_right (q : FVec Ideal S64x64 .f32) (k : FVec Ideal S1000000x64 .f32) (n : IVec S64x128 32) (i : Fin 64) (a : Fin 100) (d : Fin 64) :
    joined q k n (ix3 i a (Fin.natAdd 64 d)) = taken k n (ix3 i a d) := by
  unfold joined
  refine concatenate_pair_apply_right (t := S64x100x128) (s₁ := S64x100x64) (s₂ := S64x100x64) 2 _ (taken k n) concatenates_S64x100x64_S64x100x64_S64x100x128_d2
    (ix3 i a (Fin.natAdd 64 d)) rfl rfl (ix3 i a d) (fun b hb => ?_) ?_
  · match b with
    | ⟨0, _⟩ => rfl
    | ⟨1, _⟩ => rfl
    | ⟨2, _⟩ => exact absurd rfl hb
  · exact Nat.add_comm _ _

theorem layer_apply (q : FVec Ideal S64x64 .f32) (k : FVec Ideal S1000000x64 .f32) (w1 : FVec Ideal S128x64 .f32) (b : FVec Ideal S64 .f32) (n : IVec S64x128 32)
    (hn : ∀ j, (n j).toNat < 1000000) (i : Fin 64) (a : Fin 100) (h : Fin 64) :
    layer q k w1 b n (ix3 i a h) = unit q k w1 b i (catRow n i (a.castLE (by decide))) h := by
  unfold layer unit
  rw [maximumf_apply, addf_apply]
  have e1 : Host.dotGeneral dot_S64x100x128_S128x64_S64x100x64_2_0_01_1_n_n none (joined q k n) w1 (ix3 i a h)
      = (∑ d : Fin 64, (q (ix2 i d) : EReal) * w1 (ix2 (Fin.castAdd 64 d) h))
        + (∑ d : Fin 64, (k (ix2 (catRow n i (a.castLE (by decide))) d) : EReal) * w1 (ix2 (Fin.natAdd 64 d) h)) := by
    refine (dot_first _ _ i a h).trans ((Fin.sum_univ_add (a := 64) (b := 64) _).trans ?_)
    refine congrArg₂ (· + ·) (Finset.sum_congr rfl fun d _ => congrArg (· * _) ?_) (Finset.sum_congr rfl fun d _ => congrArg (· * _) ?_)
    · exact joined_left q k n i a d
    · exact (joined_right q k n i a d).trans (taken_apply k n hn i a d)
  have e2 : broadcastInDim S64x100x64 ![0, 1, 2] bcast_S1x1x64_S64x100x64_0_1_2 (broadcastInDim S1x1x64 ![2] bcast_S64_S1x1x64_2 b) (ix3 i a h) = b (ix1 h) := by
    refine (broadcastInDim_apply _ _ _ _ (ix3 0 0 h) fun b => match b with | ⟨0, _⟩ => rfl | ⟨1, _⟩ => rfl | ⟨2, _⟩ => rfl).trans ?_
    exact broadcastInDim_apply _ _ _ _ (ix1 h) fun b => match b with | ⟨0, _⟩ => rfl
  rw [e1, e2]
  exact congrArg (max _) Ideal.ofBits_zero_f32

/-- The reference's score of a candidate. -/
theorem scores_apply (q : FVec Ideal S64x64 .f32) (k : FVec Ideal S1000000x64 .f32) (w1 : FVec Ideal S128x64 .f32) (b : FVec Ideal S64 .f32) (w2 : FVec Ideal S64x1 .f32)
    (n : IVec S64x128 32) (hn : ∀ j, (n j).toNat < 1000000) (i : Fin 64) (a : Fin 100) :
    scores q k w1 b w2 n (ix2 i a) = score q k w1 b w2 i (catRow n i (a.castLE (by decide))) := by
  unfold scores score
  refine (shapeCast_apply _ _ _ (ix3 i a 0) ?_).trans ?_
  · rw [Shape.rowMajor_val_three, Shape.rowMajor_val_two]
    show (i.val * 100 + a.val) * 1 + 0 = i.val * 100 + a.val
    omega
  refine (dot_second _ _ i a 0).trans (Finset.sum_congr rfl fun h _ => congrArg (· * _) ?_)
  exact layer_apply q k w1 b n hn i a h

theorem placesAt_apply (p : IVec S64x5 32) (hp : ∀ i k, (p (ix2 i k)).toNat < 100) (i : Fin 64) (k : Fin 5) (z : Fin 1) : placesAt p (ix3 i k z) = p (ix2 i k) := by
  unfold placesAt
  refine (shapeCast_apply _ _ _ (ix2 i k) ?_).trans ?_
  · rw [Shape.rowMajor_val_three, Shape.rowMajor_val_two]
    show i.val * 5 + k.val = (i.val * 5 + k.val) * 1 + z.val
    have := z.isLt; omega
  rw [select_apply]
  have := hp i k
  exact not_wrapped (p (ix2 i k)) _ (by omega)

theorem placesOK_apply (p : IVec S64x5 32) (hp : ∀ i k, (p (ix2 i k)).toNat < 100) (i : Fin 64) (k : Fin 5) : placesOK p (ix2 i k) = 1#1 := by
  unfold placesOK
  refine Host.reduce_andi_one _ _ _ _ _ rfl fun j => ?_
  obtain ⟨o, e, z, rfl⟩ : ∃ o e z, j = ix3 o e z := ⟨j 0, j 1, j 2, by funext b; match b with | ⟨0, _⟩ => rfl | ⟨1, _⟩ => rfl | ⟨2, _⟩ => rfl⟩
  refine Eq.trans ?_ (in_bounds (placesAt p (ix3 o e z)) 99 (by decide) ?_)
  · rfl
  · rw [placesAt_apply p hp]; exact Nat.le_of_lt_succ (hp o e)

/-- The candidate index at a position. -/
theorem idsAt_apply (p : IVec S64x5 32) (n : IVec S64x128 32) (i : Fin 64) (k : Fin 5) (hp : ∀ i k, (p (ix2 i k)).toNat < 100) (a : Fin 100)
    (ha : p (ix2 i k) = BitVec.ofNat 32 a.val) : idsAt p n (ix2 i k) = n (ix2 i (a.castLE (by decide))) := by
  unfold idsAt
  rw [select_apply, placesOK_apply p hp]
  refine (if_pos rfl).trans ((gather_along (cands n) (placesAt p) i k a ?_).trans (cands_apply n i a))
  have h := hp i k
  rw [placesAt_apply p hp, toInt_small _ (by omega), ha, BitVec.toNat_ofNat]
  have := a.isLt
  exact Nat.mod_eq_of_lt (by omega)

/-- The reference's scores at an index. -/
theorem reference_scores (q : FVec Ideal S64x64 .f32) (k : FVec Ideal S1000000x64 .f32) (w1 : FVec Ideal S128x64 .f32) (b : FVec Ideal S64 .f32) (w2 : FVec Ideal S64x1 .f32)
    (n : IVec S64x128 32) (hn : ∀ j, (n j).toNat < 1000000) (i : Fin 64) (r : Fin 5) :
    (Host.topK S64x5 1 (FloatOps.cmpfTotal (F := Ideal) (φ := .f32) .gt) (scores q k w1 b w2 n) sliceFits_S64x100_S64x5).1 (ix2 i r)
      = (fun a : Fin 100 => score q k w1 b w2 i (catRow n i (a.castLE (by decide))))
          (place (fun a : Fin 100 => score q k w1 b w2 i (catRow n i (a.castLE (by decide)))) (r.castLE (by decide))) := by
  have e : (fun a : Fin 100 => (scores q k w1 b w2 n (ix2 i a) : EReal)) = fun a => score q k w1 b w2 i (catRow n i (a.castLE (by decide))) :=
    funext fun a => scores_apply q k w1 b w2 n hn i a
  rw [topK_values, e, scores_apply q k w1 b w2 n hn]

/-- The reference's indices at an index. -/
theorem reference_ids (q : FVec Ideal S64x64 .f32) (k : FVec Ideal S1000000x64 .f32) (w1 : FVec Ideal S128x64 .f32) (b : FVec Ideal S64 .f32) (w2 : FVec Ideal S64x1 .f32)
    (n : IVec S64x128 32) (hn : ∀ j, (n j).toNat < 1000000) (i : Fin 64) (r : Fin 5) :
    idsAt (Host.topK S64x5 1 (FloatOps.cmpfTotal (F := Ideal) (φ := .f32) .gt) (scores q k w1 b w2 n) sliceFits_S64x100_S64x5).2 n (ix2 i r)
      = n (ix2 i ((place (fun a : Fin 100 => score q k w1 b w2 i (catRow n i (a.castLE (by decide)))) (r.castLE (by decide))).castLE (by decide))) := by
  refine idsAt_apply _ n i r (fun i k => ?_) _ ?_
  · rw [topK_positions, BitVec.toNat_ofNat]
    exact lt_of_le_of_lt (Nat.mod_le _ _) (Fin.isLt _)
  · have e : (fun a : Fin 100 => (scores q k w1 b w2 n (ix2 i a) : EReal)) = fun a => score q k w1 b w2 i (catRow n i (a.castLE (by decide))) :=
      funext fun a => scores_apply q k w1 b w2 n hn i a
    rw [topK_positions, e]

end Cert.Proof.Run

end
-- ==== Proof.Algebraic.lean ====
/- The value claim: over the extended reals, from real arguments and candidate indices that name catalogue rows, the
   kernel's two results are the reference's. -/
module

public import proofs.«01_k».proof.Proof.Frames
public import proofs.«01_k».proof.Proof.Ref

@[expose] public section

noncomputable section

namespace Cert.Proof.Run

open Cert.KernelIdeal Cert.KernelIdeal.Gen
open Idealize.ShloMosaic Idealize.ShloMosaic.TcCoe Idealize.ShloMosaic.ValueIdx
open Idealize.SL.Sem
open scoped BigOperators

/-! ## Scores of real arguments are real -/

/-- An extended real that is neither infinity. -/
def Finite (x : EReal) : Prop := ∃ r : ℝ, x = r

theorem Finite.of_ne {x : EReal} (h : x ≠ ⊤ ∧ x ≠ ⊥) : Finite x := ⟨x.toReal, (EReal.coe_toReal h.1 h.2).symm⟩

theorem Finite.ne_bot {x : EReal} (h : Finite x) : x ≠ ⊥ := by obtain ⟨r, rfl⟩ := h; exact EReal.coe_ne_bot r

theorem Finite.add {x y : EReal} (hx : Finite x) (hy : Finite y) : Finite (x + y) := by
  obtain ⟨r, rfl⟩ := hx; obtain ⟨s, rfl⟩ := hy; exact ⟨r + s, (EReal.coe_add r s).symm⟩

theorem Finite.mul {x y : EReal} (hx : Finite x) (hy : Finite y) : Finite (x * y) := by
  obtain ⟨r, rfl⟩ := hx; obtain ⟨s, rfl⟩ := hy; exact ⟨r * s, (EReal.coe_mul r s).symm⟩

theorem Finite.zero : Finite 0 := ⟨0, EReal.coe_zero.symm⟩

theorem Finite.max_zero {x : EReal} (hx : Finite x) : Finite (max x 0) := by
  rcases max_choice x 0 with e | e
  · rw [e]; exact hx
  · rw [e]; exact Finite.zero

theorem Finite.sum {n : Nat} {f : Fin n → EReal} (h : ∀ i, Finite (f i)) : Finite (∑ i, f i) :=
  Finset.sum_induction f Finite (fun _ _ => Finite.add) Finite.zero fun i _ => h i

/-- The score of real arguments is real. -/
theorem score_finite (q : FVec Ideal S64x64 .f32) (k : FVec Ideal S1000000x64 .f32) (w1 : FVec Ideal S128x64 .f32) (b : FVec Ideal S64 .f32)
    (w2 : FVec Ideal S64x1 .f32) (hq : ∀ i, Finite (q i)) (hk : ∀ i, Finite (k i)) (hw1 : ∀ i, Finite (w1 i)) (hb : ∀ i, Finite (b i))
    (hw2 : ∀ i, Finite (w2 i)) (i : Fin 64) (r : Fin 1000000) : Finite (score q k w1 b w2 i r) :=
  Finite.sum fun h => Finite.mul (Finite.max_zero (Finite.add (Finite.add (Finite.sum fun d => (hq _).mul (hw1 _)) (Finite.sum fun d => (hk _).mul (hw1 _))) (hb _)))
    (hw2 _)

/-! ## The kernel's results are the reference's -/

section Values

variable (q : FVec Ideal S64x64 .f32) (k : FVec Ideal S1000000x64 .f32) (u : FVec Ideal S_ .f32) (w1 : FVec Ideal S128x64 .f32)
  (b : FVec Ideal S64 .f32) (w2 : FVec Ideal S64x1 .f32) (n : IVec S64x128 32)

/-- The kernel's two final arrays of its arguments. -/
def finals : FVec Ideal S64x128 .f32 × IVec S64x128 32 :=
  ranked (F := Ideal) (scored (F := Ideal) q
    (gathered (F := Ideal) (pad S1015808x128 ![0, 0] ![15808, 64] ![0, 0] k u pads_S1000000x64_S1015808x128_0158080_0640 h_S_) n)
    w1 (shapeCast S1x64 b shapeCasts_S64_S1x64) w2) n

variable (hn : ∀ j, (n j).toNat < 1000000) (hq : ∀ i, Finite (q i)) (hk : ∀ i, Finite (k i)) (hw1 : ∀ i, Finite (w1 i)) (hb : ∀ i, Finite (b i))
  (hw2 : ∀ i, Finite (w2 i))

include hn hq hk hw1 hb hw2 in
theorem finals_apply (i : Fin 64) (r : Fin 5) :
    (finals q k u w1 b w2 n).1 (ix2 i (r.castLE (by decide)))
        = (fun a : Fin 100 => score q k w1 b w2 i (catRow n i (a.castLE (by decide))))
            (place (fun a : Fin 100 => score q k w1 b w2 i (catRow n i (a.castLE (by decide)))) (r.castLE (by decide)))
      ∧ (finals q k u w1 b w2 n).2 (ix2 i (r.castLE (by decide)))
        = n (ix2 i ((place (fun a : Fin 100 => score q k w1 b w2 i (catRow n i (a.castLE (by decide)))) (r.castLE (by decide))).castLE (by decide))) := by
  refine ranked_apply _ n i (fun a : Fin 100 => score q k w1 b w2 i (catRow n i (a.castLE (by decide)))) (fun a => ?_) (fun c hc => ?_) (fun a => ?_) (fun c => ?_) r
  · exact kernel_score q k u w1 b w2 n i a hn
  · rw [scored_apply, if_neg (not_lt.mpr hc)]
  · exact (score_finite q k w1 b w2 hq hk hw1 hb hw2 i _).ne_bot
  · have h := hn (ix2 i c)
    rw [toInt_small _ (by omega)]; omega

theorem five_apply {α : Type} (x : S64x128.Idx → α) (i : Fin 64) (r : Fin 5) :
    extractStridedSlice S64x5 ![0, 0] x slices_S64x128_S64x5_0_0 (ix2 i r) = x (ix2 i (r.castLE (by decide))) :=
  slice2_axis1_apply 0 x _ i r (r.castLE (by decide)) (Nat.zero_add _).symm

include hn hq hk hw1 hb hw2 in
/-- The scores agree. -/
theorem scores_agree :
    extractStridedSlice S64x5 ![0, 0] (finals q k u w1 b w2 n).1 slices_S64x128_S64x5_0_0
      = (Host.topK S64x5 1 (FloatOps.cmpfTotal (F := Ideal) (φ := .f32) .gt) (scores q k w1 b w2 n) Cert.ReferenceIdeal.Gen.sliceFits_S64x100_S64x5).1 := by
  funext j
  obtain ⟨i, r, rfl⟩ : ∃ (i : Fin 64) (r : Fin 5), j = ix2 i r := ⟨j 0, j 1, by funext b; match b with | ⟨0, _⟩ => rfl | ⟨1, _⟩ => rfl⟩
  exact (five_apply _ i r).trans ((finals_apply q k u w1 b w2 n hn hq hk hw1 hb hw2 i r).1.trans (reference_scores q k w1 b w2 n hn i r).symm)

include hn hq hk hw1 hb hw2 in
/-- The indices agree. -/
theorem ids_agree :
    extractStridedSlice S64x5 ![0, 0] (finals q k u w1 b w2 n).2 slices_S64x128_S64x5_0_0
      = idsAt (Host.topK S64x5 1 (FloatOps.cmpfTotal (F := Ideal) (φ := .f32) .gt) (scores q k w1 b w2 n) Cert.ReferenceIdeal.Gen.sliceFits_S64x100_S64x5).2 n := by
  funext j
  obtain ⟨i, r, rfl⟩ : ∃ (i : Fin 64) (r : Fin 5), j = ix2 i r := ⟨j 0, j 1, by funext b; match b with | ⟨0, _⟩ => rfl | ⟨1, _⟩ => rfl⟩
  exact (five_apply _ i r).trans ((finals_apply q k u w1 b w2 n hn hq hk hw1 hb hw2 i r).2.trans (reference_ids q k w1 b w2 n hn i r).symm)

end Values

/-! ## The claim -/

section Reference

variable (m' : (ℓ : Loc Cert.ReferenceIdeal.nD Cert.ReferenceIdeal.τ Cert.ReferenceIdeal.sig) → Buf (Elt Ideal) ℓ) (c : Dev Cert.ReferenceIdeal.nD)

/-- The reference's scores of a launch memory. -/
def refScores : FVec Ideal Cert.ReferenceIdeal.S64x100 .f32 :=
  scores (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))

/-- The reference's index result in its steps. -/
theorem res_ids : Cert.ReferenceIdeal.Value.res_main_v12 (F := Ideal) m' c
    = idsAt (Host.topK Cert.ReferenceIdeal.S64x5 1 (FloatOps.cmpfTotal (F := Ideal) (φ := .f32) .gt) (refScores m' c) Cert.ReferenceIdeal.Gen.sliceFits_S64x100_S64x5).2
        (m' ((c.tc : Thread Cert.ReferenceIdeal.nD Cert.ReferenceIdeal.τ).loc Cert.ReferenceIdeal.main_arg5)) := rfl

end Reference

variable [hP : Cert.Pre_finite_candidates.Facts]

/-- From real arguments and candidate indices that name catalogue rows the kernel and the reference end with the same
    indices and the same scores, the arguments kept. -/
theorem algebraic_value :
    Cert.algebraic_KernelIdeal_ReferenceIdeal_pre_finite_candidates (hKernelIdeal := Cert.KernelIdeal.Gen.facts) (hReferenceIdeal := Cert.ReferenceIdeal.Gen.facts) := by
  intro m g m' g' hpre harg
  have hf (c : Dev Cert.KernelIdeal.nD) := finite_of_pre _ _ _ _ _ _ (hpre c)
  refine ⟨fun c => VE m c (Proc.devRef .tc main_v4), fun c => VE m c (Proc.devRef .tc main_v5), ?_, ?_⟩
  · refine (θ_run Cert.KernelIdeal.defs _ _).mono (fun r h c => ?_) (run_main (F := Ideal) m g fun d => listOK_of_lt m (hf d).1)
    exact ⟨h.1 c _ (mem_uc main_v4 (by decide)), h.1 c _ (mem_uc main_v5 (by decide)), kept_of_QC m h c⟩
  · refine (θ_run Cert.ReferenceIdeal.defs _ _).mono (fun r h c => ?_) (Cert.ReferenceIdeal.Value.run (F := Ideal) m' g')
    obtain ⟨h0, h1, hk⟩ := h c
    obtain ⟨hn, hq, hkeys, hw1, hb, hw2⟩ := hf c
    obtain ⟨a0, a1, a2, a3, a4, a5⟩ := harg c
    refine ⟨h0.trans ?_, h1.trans ?_, hk⟩
    · refine ((res_ids m' c).trans ?_).trans (VE_v4 m c).symm
      unfold refScores
      rw [a0, a1, a2, a3, a4, a5]
      exact (ids_agree _ _ _ _ _ _ _ hn (fun i => .of_ne (hq i)) (fun i => .of_ne (hkeys i)) (fun i => .of_ne (hw1 i)) (fun i => .of_ne (hb i))
        (fun i => .of_ne (hw2 i))).symm
    · refine Eq.trans ?_ (VE_v5 m c).symm
      refine Eq.trans (b := (Host.topK Cert.ReferenceIdeal.S64x5 1 (FloatOps.cmpfTotal (F := Ideal) (φ := .f32) .gt) (refScores m' c) Cert.ReferenceIdeal.Gen.sliceFits_S64x100_S64x5).1) rfl ?_
      unfold refScores
      rw [a0, a1, a2, a3, a4, a5]
      exact (scores_agree _ _ _ _ _ _ _ hn (fun i => .of_ne (hq i)) (fun i => .of_ne (hkeys i)) (fun i => .of_ne (hw1 i)) (fun i => .of_ne (hb i))
        (fun i => .of_ne (hw2 i))).symm

end Cert.Proof.Run

end
-- ==== Proof.Peel.lean ====
/- Repeated extraction of the greatest entry, as plain mathematics: what the rounds take, and that extracting enough of
   each class keeps every entry at or above a threshold. -/
module

public import Idealize.ShloMosaic.PureOps.Ideal

@[expose] public section

noncomputable section

namespace Cert.Proof.Find

/-! ## One row -/

section Row
variable {n : Nat} [NeZero n]

theorem exists_best (f : Fin n → EReal) : ∃ p, (∀ c, f c ≤ f p) ∧ ∀ c, f c = f p → p ≤ c := by
  obtain ⟨m, hm⟩ := Finite.exists_max f
  let s : Finset (Fin n) := Finset.univ.filter fun c => f c = f m
  have hs : s.Nonempty := ⟨m, by simp [s]⟩
  have h := s.min'_mem hs
  have e : f (s.min' hs) = f m := by simpa [s] using h
  exact ⟨s.min' hs, fun c => (hm c).trans_eq e.symm, fun c hc => s.min'_le c (by simp [s, hc, e])⟩

/-- The first position that holds the greatest entry. -/
def best (f : Fin n → EReal) : Fin n := (exists_best f).choose

theorem le_best (f : Fin n → EReal) (c : Fin n) : f c ≤ f (best f) := (exists_best f).choose_spec.1 c

theorem best_first (f : Fin n → EReal) (c : Fin n) (h : f c = f (best f)) : best f ≤ c := (exists_best f).choose_spec.2 c h

/-- The row after some rounds, each overwriting its first greatest entry with −∞. -/
def peeled (f : Fin n → EReal) : Nat → Fin n → EReal
  | 0 => f
  | t + 1 => Function.update (peeled f t) (best (peeled f t)) ⊥

/-- The position round `t` takes. -/
def taken (f : Fin n → EReal) (t : Nat) : Fin n := best (peeled f t)

/-- The entry it finds there. -/
def entry (f : Fin n → EReal) (t : Nat) : EReal := peeled f t (taken f t)

variable (f : Fin n → EReal)

theorem peeled_succ (t : Nat) : peeled f (t + 1) = Function.update (peeled f t) (taken f t) ⊥ := rfl

theorem peeled_succ_le (t : Nat) (i : Fin n) : peeled f (t + 1) i ≤ peeled f t i := by
  rw [peeled_succ, Function.update_apply]
  split
  · exact bot_le
  · exact le_rfl

theorem peeled_cases (t : Nat) (i : Fin n) : peeled f t i = f i ∨ peeled f t i = ⊥ := by
  induction t with
  | zero => exact Or.inl rfl
  | succ t ih =>
    rw [peeled_succ, Function.update_apply]
    split
    · exact Or.inr rfl
    · exact ih

theorem peeled_bot (i : Fin n) (t k : Nat) (h : peeled f t i = ⊥) : peeled f (t + k) i = ⊥ := by
  induction k with
  | zero => exact h
  | succ k ih => exact le_bot_iff.mp ((peeled_succ_le f (t + k) i).trans_eq ih)

theorem peeled_taken (t t' : Nat) (h : t < t') : peeled f t' (taken f t) = ⊥ := by
  obtain ⟨k, rfl⟩ := Nat.exists_eq_add_of_lt h
  rw [show t + k + 1 = (t + 1) + k by omega]
  exact peeled_bot f _ _ _ (by rw [peeled_succ, Function.update_self])

theorem peeled_untaken (i : Fin n) (t : Nat) (h : ∀ t' < t, taken f t' ≠ i) : peeled f t i = f i := by
  induction t with
  | zero => rfl
  | succ t ih =>
    rw [peeled_succ, Function.update_of_ne (h t (Nat.lt_succ_self t)).symm]
    exact ih fun t' ht' => h t' (ht'.trans (Nat.lt_succ_self t))

theorem le_entry (t : Nat) (i : Fin n) : peeled f t i ≤ entry f t := le_best _ i

theorem entry_succ_le (t : Nat) : entry f (t + 1) ≤ entry f t := (peeled_succ_le f t _).trans (le_entry f t _)

theorem entry_antitone : Antitone (entry f) := antitone_nat_of_succ_le (entry_succ_le f)

variable {θ : EReal} (hθ : ⊥ < θ)
include hθ

theorem entry_eq (t : Nat) (h : θ ≤ entry f t) : entry f t = f (taken f t) :=
  (peeled_cases f t (taken f t)).resolve_right fun e => (hθ.trans_le h).ne' e

theorem taken_inj (t t' : Nat) (h : θ ≤ entry f t) (h' : θ ≤ entry f t') (e : taken f t = taken f t') : t = t' := by
  have key (t t' : Nat) (h' : θ ≤ entry f t') (e : taken f t = taken f t') : ¬ t < t' := fun hlt =>
    (hθ.trans_le h').ne' (by unfold entry; rw [← e]; exact peeled_taken f t t' hlt)
  exact le_antisymm (not_lt.mp (key t' t h e.symm)) (not_lt.mp (key t t' h' e))

/-- Where at most `N` entries reach the threshold, `N` rounds take every one of them. -/
theorem taken_all (N : Nat) (hN : (Finset.univ.filter fun i => θ ≤ f i).card ≤ N) (i : Fin n) (hi : θ ≤ f i) :
    ∃ t < N, taken f t = i ∧ θ ≤ entry f t := by
  classical
  by_cases hex : ∃ t < N, taken f t = i
  · have hfirst := Nat.find_spec hex
    refine ⟨Nat.find hex, hfirst.1, hfirst.2, ?_⟩
    unfold entry
    rw [hfirst.2, peeled_untaken f i _ fun t' ht' e => Nat.find_min hex ht' ⟨ht'.trans hfirst.1, e⟩]
    exact hi
  · exfalso
    have hne (t : Nat) (ht : t < N) : taken f t ≠ i := fun e => hex ⟨t, ht, e⟩
    have hge (t : Nat) (ht : t < N) : θ ≤ entry f t := by
      refine le_trans ?_ (le_entry f t i)
      rw [peeled_untaken f i t fun t' ht' => hne t' (ht'.trans ht)]
      exact hi
    have hsub : insert i ((Finset.range N).image (taken f)) ⊆ Finset.univ.filter fun i => θ ≤ f i := by
      intro j hj
      rw [Finset.mem_insert] at hj
      rcases hj with rfl | hj
      · simpa using hi
      · obtain ⟨t, ht, rfl⟩ := Finset.mem_image.mp hj
        have := hge t (Finset.mem_range.mp ht)
        rw [entry_eq f hθ t this] at this
        simpa using this
    have hcard := Finset.card_le_card hsub
    rw [Finset.card_insert_of_notMem (by
        intro hm; obtain ⟨t, ht, e⟩ := Finset.mem_image.mp hm; exact hne t (Finset.mem_range.mp ht) e),
      Finset.card_image_of_injOn (by
        intro a ha b hb e
        exact taken_inj f hθ a b (hge a (by simpa using ha)) (hge b (by simpa using hb)) e), Finset.card_range] at hcard
    omega

end Row

/-! ## Rows of classes, each entry with its key -/

section Keys
variable {K : Nat} (sim : Fin K → EReal) (θ : EReal)

/-- The rows hold each key at or above the threshold once, in its own class, at its own value. -/
structure Holds {C : Type} {n : Nat} (cls : Fin K → C) (val : C → Fin n → EReal) (tag : C → Fin n → BitVec 32) : Prop where
  /-- An entry at or above the threshold is a key's. -/
  sound : ∀ c i, θ ≤ val c i → ∃ j, tag c i = BitVec.ofNat 32 j.val ∧ sim j = val c i ∧ cls j = c
  /-- No key is there twice. -/
  once : ∀ c i i', θ ≤ val c i → θ ≤ val c i' → tag c i = tag c i' → i = i'
  /-- Every key at or above the threshold is there. -/
  all : ∀ j, θ ≤ sim j → ∃ i, tag (cls j) i = BitVec.ofNat 32 j.val ∧ θ ≤ val (cls j) i

variable {sim θ}
variable {C : Type} {n : Nat} {cls : Fin K → C} {val : C → Fin n → EReal} {tag : C → Fin n → BitVec 32}

theorem word_inj (hK : K ≤ 4294967296) (j j' : Fin K) (e : BitVec.ofNat 32 j.val = BitVec.ofNat 32 j'.val) : j = j' := by
  have h := congrArg BitVec.toNat e
  rw [BitVec.toNat_ofNat, BitVec.toNat_ofNat, Nat.mod_eq_of_lt (by have := j.isLt; omega), Nat.mod_eq_of_lt (by have := j'.isLt; omega)] at h
  exact Fin.ext h

/-- A class has no more entries at or above the threshold than keys. -/
theorem Holds.card_le [DecidableEq C] (H : Holds sim θ cls val tag) {m : Nat} (top : Fin m → Fin K) (htop : ∀ j, θ ≤ sim j → ∃ s, top s = j)
    (N : Nat) (hN : ∀ s, (Finset.univ.filter fun s' => cls (top s') = cls (top s)).card ≤ N) (c : C) :
    (Finset.univ.filter fun i => θ ≤ val c i).card ≤ N := by
  by_cases hne : ∃ i, θ ≤ val c i
  swap
  · rw [Finset.filter_false_of_mem fun i _ h => hne ⟨i, h⟩]; exact Nat.zero_le _
  have hs (i : Fin n) (h : θ ≤ val c i) : ∃ s, tag c i = BitVec.ofNat 32 (top s).val ∧ cls (top s) = c := by
    obtain ⟨j, h1, h2, h3⟩ := H.sound c i h
    obtain ⟨s, rfl⟩ := htop j (h2 ▸ h)
    exact ⟨s, h1, h3⟩
  obtain ⟨i₀, hi₀⟩ := hne
  obtain ⟨s₀, -, hc⟩ := hs i₀ hi₀
  refine le_trans ?_ (hN s₀)
  refine Finset.card_le_card_of_injOn (fun i => if h : θ ≤ val c i then (hs i h).choose else s₀) (fun i hi => ?_) (fun i hi i' hi' e => ?_)
  · have h : θ ≤ val c i := by simpa using hi
    simp only [dif_pos h]
    simpa [hc] using (hs i h).choose_spec.2
  · have h : θ ≤ val c i := by simpa using hi
    have h' : θ ≤ val c i' := by simpa using hi'
    simp only [dif_pos h, dif_pos h'] at e
    exact H.once c i i' h h' ((hs i h).choose_spec.1.trans ((congrArg (fun s => BitVec.ofNat 32 (top s).val) e).trans (hs i' h').choose_spec.1.symm))

/-- The same entries in other rows. -/
theorem Holds.regroup (H : Holds sim θ cls val tag) (hK : K ≤ 4294967296) {C' : Type} {m : Nat} (cls' : Fin K → C')
    (val' : C' → Fin m → EReal) (tag' : C' → Fin m → BitVec 32) (pl : C' → Fin m → C × Fin n)
    (hv : ∀ c i, val' c i = val (pl c i).1 (pl c i).2) (ht : ∀ c i, tag' c i = tag (pl c i).1 (pl c i).2)
    (hinj : ∀ c, Function.Injective (pl c)) (hback : ∀ j t, ∃ i, pl (cls' j) i = (cls j, t))
    (hcls : ∀ c i j, cls j = (pl c i).1 → cls' j = c) : Holds sim θ cls' val' tag' := by
  refine ⟨fun c i h => ?_, fun c i i' h h' e => ?_, fun j hj => ?_⟩
  · rw [hv] at h ⊢
    rw [ht]
    obtain ⟨j, h1, h2, h3⟩ := H.sound _ _ h
    exact ⟨j, h1, h2, hcls c i j h3⟩
  · rw [hv] at h h'
    rw [ht, ht] at e
    obtain ⟨j, h1, -, h3⟩ := H.sound _ _ h
    obtain ⟨j', h1', -, h3'⟩ := H.sound _ _ h'
    have hj : j = j' := word_inj hK _ _ (h1.symm.trans (e.trans h1'))
    have hc : (pl c i).1 = (pl c i').1 := by rw [← h3, ← h3', hj]
    rw [← hc] at h' e
    exact hinj c (Prod.ext hc (H.once _ _ _ h h' e))
  · obtain ⟨t, h1, h2⟩ := H.all j hj
    obtain ⟨i, hi⟩ := hback j t
    refine ⟨i, ?_, ?_⟩
    · rw [ht, hi]; exact h1
    · rw [hv, hi]; exact h2

/-- Extracting enough of each class keeps every key at or above the threshold. -/
theorem Holds.peel [NeZero n] (hθ : ⊥ < θ) (H : Holds sim θ cls val tag) (N : Nat)
    (hN : ∀ c, (Finset.univ.filter fun i => θ ≤ val c i).card ≤ N) {m : Nat} (hm : N ≤ m)
    (val' : C → Fin m → EReal) (tag' : C → Fin m → BitVec 32)
    (hv : ∀ c (t : Fin m), t.val < N → val' c t = entry (val c) t.val)
    (ht : ∀ c (t : Fin m), t.val < N → tag' c t = tag c (taken (val c) t.val))
    (hr : ∀ c (t : Fin m), N ≤ t.val → val' c t = ⊥) : Holds sim θ cls val' tag' := by
  have hlt (c : C) (t : Fin m) (h : θ ≤ val' c t) : t.val < N := by
    by_contra hn
    rw [hr c t (not_lt.mp hn)] at h
    exact absurd (hθ.trans_le h) (lt_irrefl _)
  refine ⟨fun c t h => ?_, fun c t t' h h' e => ?_, fun j hj => ?_⟩
  · have hl := hlt c t h
    rw [hv c t hl] at h
    rw [ht c t hl, hv c t hl]
    have e := entry_eq _ hθ _ h
    rw [e]
    exact H.sound c _ (e ▸ h)
  · have hl := hlt c t h
    have hl' := hlt c t' h'
    rw [hv c t hl] at h
    rw [hv c t' hl'] at h'
    rw [ht c t hl, ht c t' hl'] at e
    have e1 := entry_eq _ hθ _ h
    have e2 := entry_eq _ hθ _ h'
    exact Fin.ext (taken_inj _ hθ _ _ h h' (H.once c _ _ (e1 ▸ h) (e2 ▸ h') e))
  · obtain ⟨i, hi, hge⟩ := H.all j hj
    obtain ⟨t, htN, hti, hte⟩ := taken_all _ hθ N (hN _) i hge
    refine ⟨⟨t, htN.trans_le hm⟩, ?_, ?_⟩
    · rw [ht _ _ htN, hti, hi]
    · rw [hv _ _ htN]; exact hte

/-- Where one row holds exactly `N` keys at or above the threshold, of different values, `N` rounds take them greatest first. -/
theorem Holds.ranked [NeZero n] (hθ : ⊥ < θ) (hK : K ≤ 4294967296) {N : Nat} (top : Fin N → Fin K) (hdec : ∀ s s', s < s' → sim (top s') < sim (top s))
    (hge : ∀ s, θ ≤ sim (top s)) (htop : ∀ j, θ ≤ sim j → ∃ s, top s = j) (f : Fin n → EReal) (w : Fin n → BitVec 32)
    (H : Holds sim θ (fun _ => ()) (fun _ => f) (fun _ => w)) (t : Fin N) : w (taken f t.val) = BitVec.ofNat 32 (top t).val := by
  classical
  have hinj : Function.Injective top := fun a b e => by
    rcases lt_trichotomy a b with h | h | h
    · exact absurd (e ▸ hdec a b h) (lt_irrefl _)
    · exact h
    · exact absurd (e ▸ hdec b a h) (lt_irrefl _)
  have hcard : (Finset.univ.filter fun i => θ ≤ f i).card ≤ N := by
    refine H.card_le top htop N (fun s => ?_) ()
    exact (Finset.card_filter_le _ _).trans_eq ((Finset.card_univ).trans (Fintype.card_fin N))
  -- each key at or above the threshold is taken by some round
  have hround (s : Fin N) : ∃ t : Fin N, w (taken f t.val) = BitVec.ofNat 32 (top s).val ∧ θ ≤ entry f t.val := by
    obtain ⟨i, hi, hge'⟩ := H.all (top s) (hge s)
    obtain ⟨t, htN, hti, hte⟩ := taken_all f hθ N hcard i hge'
    exact ⟨⟨t, htN⟩, by rw [hti, hi], hte⟩
  choose r hr hrge using hround
  have hrinj : Function.Injective r := fun a b e => hinj (word_inj hK _ _ ((hr a).symm.trans (by rw [e]; exact hr b)))
  have hsim (s : Fin N) : sim (top s) = entry f (r s).val := by
    have h := hrge s
    have e := entry_eq f hθ _ h
    obtain ⟨j, h1, h2, -⟩ := H.sound () (taken f (r s).val) (e ▸ h)
    have : j = top s := word_inj hK _ _ (h1.symm.trans (hr s))
    rw [← this, h2, e]
  have hmono : StrictMono r := fun a b hab => by
    by_contra hn
    have h : (r b).val ≤ (r a).val := not_lt.mp hn
    have := entry_antitone f h
    rw [← hsim a, ← hsim b] at this
    exact absurd (hdec a b hab) (not_lt.mpr this)
  have hid : r = id := by
    exact congrArg (fun e : Fin N ≃o Fin N => (e : Fin N → Fin N))
      (Subsingleton.elim (hmono.orderIsoOfSurjective r (Finite.injective_iff_surjective.mp hrinj)) (OrderIso.refl _))
  have := hr t
  rw [hid] at this
  exact this

end Keys

end Cert.Proof.Find

end
-- ==== Proof.Round.lean ====
/- One round of extraction read at an index: along the rows of a block of lanes, and along one wide row. -/
module

public import proofs.«01_k».proof.Proof.Rank
public import proofs.«01_k».proof.Proof.Peel
public import proofs.«01_k».proof.Proof.Gen.RetrievalIdeal.Frame

@[expose] public section

noncomputable section

namespace Cert.Proof.Find

open Cert.RetrievalIdeal Cert.RetrievalIdeal.Gen
open Idealize.ShloMosaic Idealize.ShloMosaic.ValueIdx Idealize.ShloMosaic.WordCmp
open Cert.Proof.Run (ofBits_neg_inf toInt_minsi' fold_minsi)

section Base
variable {n : Nat}

theorem fold_max_best [NeZero n] (f : Fin n → EReal) : (Finset.univ : Finset (Fin n)).fold max ⊥ f = f (best f) :=
  le_antisymm ((Finset.fold_max_le _).mpr ⟨bot_le, fun c _ => le_best f c⟩)
    ((Finset.le_fold_max _).mpr (Or.inr ⟨best f, Finset.mem_univ _, le_rfl⟩))

theorem fold_min_at (f : Fin n → BitVec 32) (p : Fin n) (hle : ∀ c, (f p).toInt ≤ (f c).toInt) :
    (Finset.univ : Finset (Fin n)).fold IKind.minsi.op 2147483647#32 f = f p := by
  apply BitVec.eq_of_toInt_eq
  refine le_antisymm (((fold_minsi (Finset.univ : Finset (Fin n)) 2147483647#32 f _).mp le_rfl).2 p (Finset.mem_univ _))
    ((fold_minsi _ _ _ _).mpr ⟨?_, fun c _ => hle c⟩)
  have h1 := BitVec.toInt_lt (x := f p)
  have h2 : (2147483647#32).toInt = 2147483647 := by decide
  rw [h2]; norm_num at h1; omega

theorem toInt_ofNat (k : Nat) (h : k ≤ 1073741824) : (BitVec.ofNat 32 k).toInt = k := by
  rw [BitVec.toInt_eq_toNat_of_lt] <;> rw [BitVec.toNat_ofNat, Nat.mod_eq_of_lt] <;> omega

theorem ofNat_eq (k k' : Nat) (h : k ≤ 1073741824) (h' : k' ≤ 1073741824) : BitVec.ofNat 32 k = BitVec.ofNat 32 k' ↔ k = k' := by
  refine ⟨fun e => ?_, fun e => e ▸ rfl⟩
  have := congrArg BitVec.toInt e
  rw [toInt_ofNat k h, toInt_ofNat k' h'] at this
  exact_mod_cast this

/-- A choice by a decided proposition. -/
theorem select_decide {α : Type} (p : Prop) [Decidable p] (a b : α) : Scalar.select (BitVec.ofBool (decide p)) a b = if p then a else b := by
  by_cases h : p
  · rw [if_pos h, decide_eq_true h]; rfl
  · rw [if_neg h, decide_eq_false h]; rfl

theorem cmp_oeq (a b : EReal) : Ideal.cmp .oeq a b = BitVec.ofBool (decide (a = b)) := by
  by_cases h : a = b <;> simp [Ideal.cmp, h]

/-- The number of the first position that holds the greatest entry, as the lowest of the numbers of those that do. -/
theorem fold_first [NeZero n] (hn : n ≤ 1073741824) (f : Fin n → EReal) :
    (Finset.univ : Finset (Fin n)).fold IKind.minsi.op 2147483647#32
      (fun c => if f c = f (best f) then BitVec.ofNat 32 c.val else 1073741824#32) = BitVec.ofNat 32 (best f).val := by
  refine (fold_min_at _ (best f) fun c => ?_).trans (if_pos rfl)
  have hc := c.isLt
  have hb := (best f).isLt
  simp only [if_pos]
  rw [toInt_ofNat _ (by omega)]
  split
  · rename_i h; rw [toInt_ofNat _ (by omega)]; exact_mod_cast best_first f c h
  · have : (1073741824#32).toInt = 1073741824 := by decide
    rw [this]; omega

/-- The word at one position, as the lowest of it and a bound. -/
theorem fold_at (w : Fin n → BitVec 32) (p : Fin n) (hw : (w p).toInt ≤ 1073741824) :
    (Finset.univ : Finset (Fin n)).fold IKind.minsi.op 2147483647#32 (fun c => if c = p then w c else 1073741824#32) = w p := by
  refine (fold_min_at _ p fun c => ?_).trans (if_pos rfl)
  simp only [if_pos]
  split
  · rename_i h; rw [h]
  · exact hw

end Base

/-! ## Along the rows of a block -/

section Planes
variable {n : Nat} [NeZero n] (hR : (⟨3, ![64, n, 128]⟩ : Shape).Reduces [1] S64x128)
  (hB : S64x1x128.Broadcasts ⟨3, ![64, n, 128]⟩) (hI : (⟨3, ![64, n, 128]⟩ : Shape).Iotas .tc 32 [1])

/-- One query's entries in one lane, along the rows. -/
def col (v : FVec Ideal (⟨3, ![64, n, 128]⟩ : Shape) .f32) (q : Fin 64) (l : Fin 128) : Fin n → EReal := fun r => v (ix3 q r l)

def top3 (v : FVec Ideal (⟨3, ![64, n, 128]⟩ : Shape) .f32) : FVec Ideal S64x128 .f32 :=
  multiReduction .maximumf [1] S64x128 v 0xFF800000#32 hR (.inl rfl) rfl

def low3 (w : IVec (⟨3, ![64, n, 128]⟩ : Shape) 32) : IVec S64x128 32 :=
  multiReductionI .minsi [1] S64x128 w 2147483647#32 hR rfl

def lay3 {α : Type} (x : S64x128.Idx → α) : (⟨3, ![64, n, 128]⟩ : Shape).Idx → α :=
  broadcastTo ⟨3, ![64, n, 128]⟩ (shapeCast S64x1x128 x shapeCasts_S64x128_S64x1x128) hB

/-- The row of each query and lane that first holds its greatest entry. -/
def at3 (v : FVec Ideal (⟨3, ![64, n, 128]⟩ : Shape) .f32) : IVec S64x128 32 :=
  low3 hR (select (cmpf .oeq v (lay3 hB (top3 hR v))) (iota .tc _ 32 [1] hI) (broadcast _ 1073741824#32))

def pick3 (v : FVec Ideal (⟨3, ![64, n, 128]⟩ : Shape) .f32) : IVec (⟨3, ![64, n, 128]⟩ : Shape) 1 :=
  cmpi .eq (iota .tc _ 32 [1] hI) (lay3 hB (at3 hR hB hI v))

/-- The word in that row. -/
def found3 (v : FVec Ideal (⟨3, ![64, n, 128]⟩ : Shape) .f32) (w : IVec (⟨3, ![64, n, 128]⟩ : Shape) 32) : IVec S64x128 32 :=
  low3 hR (select (pick3 hR hB hI v) w (broadcast _ 1073741824#32))

/-- That entry overwritten with −∞. -/
def next3 (v : FVec Ideal (⟨3, ![64, n, 128]⟩ : Shape) .f32) : FVec Ideal (⟨3, ![64, n, 128]⟩ : Shape) .f32 :=
  select (pick3 hR hB hI v) (broadcast _ (Scalar.ofBits .f32 0xFF800000#32)) v

/-- One row of the block overwritten. -/
def put3 {α : Type} (k : BitVec 32) (x : S64x128.Idx → α) (o : (⟨3, ![64, n, 128]⟩ : Shape).Idx → α) : (⟨3, ![64, n, 128]⟩ : Shape).Idx → α :=
  select (cmpi .eq (iota .tc _ 32 [1] hI) (broadcast _ k))
    (broadcastTo _ (shapeCast S64x1x128 (shapeCast S64x1x128 x shapeCasts_S64x128_S64x1x128) shapeCasts_S64x1x128_S64x1x128) hB) o

omit [NeZero n] in
theorem iota3_apply (q : Fin 64) (r : Fin n) (l : Fin 128) : iota .tc _ 32 [1] hI (ix3 q r l) = BitVec.ofNat 32 r.val := by
  rw [iota_single_apply]; rfl

omit [NeZero n] in
theorem lift3 (q : Fin 64) (l : Fin 128) (r : Fin n) : hR.lift (ix2 q l) r = ix3 q r l := by
  funext a; apply Fin.ext
  match a with
  | ⟨0, _⟩ => rfl
  | ⟨1, _⟩ => rfl
  | ⟨2, _⟩ => rfl

omit [NeZero n] in
theorem lay3_apply {α : Type} (x : S64x128.Idx → α) (q : Fin 64) (r : Fin n) (l : Fin 128) : lay3 hB x (ix3 q r l) = x (ix2 q l) := by
  unfold lay3
  refine (broadcastTo_apply _ _ _ (ix3 q 0 l) fun a => match a with | ⟨0, _⟩ => rfl | ⟨1, _⟩ => rfl | ⟨2, _⟩ => rfl).trans ?_
  refine shapeCast_apply _ _ _ _ ?_
  rw [Shape.rowMajor_val_three, Shape.rowMajor_val_two]
  show q.val * 128 + l.val = (q.val * 1 + 0) * 128 + l.val
  ring

omit [NeZero n] in
theorem low3_apply (w : IVec (⟨3, ![64, n, 128]⟩ : Shape) 32) (q : Fin 64) (l : Fin 128) :
    low3 hR w (ix2 q l) = (Finset.univ : Finset (Fin n)).fold IKind.minsi.op 2147483647#32 (fun r => w (ix3 q r l)) := by
  unfold low3
  refine (multiReductionI_eq_fold _ _ _ _ _ _).trans ((hR.fold_filter_drop_single _ _ _ _).trans ?_)
  exact congrArg (fun f => (Finset.univ : Finset (Fin n)).fold IKind.minsi.op 2147483647#32 f) (funext fun r => congrArg w (lift3 hR q l r))

theorem top3_apply (v : FVec Ideal (⟨3, ![64, n, 128]⟩ : Shape) .f32) (q : Fin 64) (l : Fin 128) :
    top3 hR v (ix2 q l) = col v q l (best (col v q l)) := by
  unfold top3
  refine (Ideal.multiReduction_maximumf_single _ _ _ _ _ _).trans ?_
  show (Finset.univ : Finset (Fin n)).fold max (Ideal.ofBits .f32 0xFF800000#32) _ = _
  rw [ofBits_neg_inf]
  exact (congrArg (fun f => (Finset.univ : Finset (Fin n)).fold max ⊥ f) (funext fun r => congrArg v (lift3 hR q l r))).trans (fold_max_best (col v q l))

theorem at3_apply (hn : n ≤ 1073741824) (v : FVec Ideal (⟨3, ![64, n, 128]⟩ : Shape) .f32) (q : Fin 64) (l : Fin 128) :
    at3 hR hB hI v (ix2 q l) = BitVec.ofNat 32 (best (col v q l)).val := by
  unfold at3
  rw [low3_apply, ← fold_first hn]
  refine congrArg (fun f => (Finset.univ : Finset (Fin n)).fold IKind.minsi.op 2147483647#32 f) (funext fun r => ?_)
  rw [select_apply, cmpf_apply, lay3_apply, top3_apply, iota3_apply, broadcast_apply]
  show Scalar.select (Ideal.cmp .oeq (col v q l r) _) _ _ = _
  rw [cmp_oeq, select_decide]

theorem pick3_apply (hn : n ≤ 1073741824) (v : FVec Ideal (⟨3, ![64, n, 128]⟩ : Shape) .f32) (q : Fin 64) (r : Fin n) (l : Fin 128) :
    pick3 hR hB hI v (ix3 q r l) = BitVec.ofBool (decide (r = best (col v q l))) := by
  unfold pick3
  show IntOp.cmpi .eq (iota .tc _ 32 [1] hI (ix3 q r l)) (lay3 hB (at3 hR hB hI v) (ix3 q r l)) = _
  rw [lay3_apply, at3_apply hR hB hI hn, iota3_apply, cmpi_eq_eq]
  have hr := r.isLt
  have hb := (best (col v q l)).isLt
  exact congrArg BitVec.ofBool (decide_eq_decide.mpr ((ofNat_eq r.val _ (by omega) (by omega)).trans Fin.ext_iff.symm))

theorem found3_apply (hn : n ≤ 1073741824) (v : FVec Ideal (⟨3, ![64, n, 128]⟩ : Shape) .f32) (w : IVec (⟨3, ![64, n, 128]⟩ : Shape) 32)
    (q : Fin 64) (l : Fin 128) (hw : (w (ix3 q (best (col v q l)) l)).toInt ≤ 1073741824) :
    found3 hR hB hI v w (ix2 q l) = w (ix3 q (best (col v q l)) l) := by
  unfold found3
  rw [low3_apply, ← fold_at (fun r => w (ix3 q r l)) (best (col v q l)) hw]
  refine congrArg (fun f => (Finset.univ : Finset (Fin n)).fold IKind.minsi.op 2147483647#32 f) (funext fun r => ?_)
  rw [select_apply, pick3_apply hR hB hI hn, broadcast_apply]
  rw [select_decide]

theorem next3_col (hn : n ≤ 1073741824) (v : FVec Ideal (⟨3, ![64, n, 128]⟩ : Shape) .f32) (q : Fin 64) (l : Fin 128) :
    col (next3 hR hB hI v) q l = Function.update (col v q l) (best (col v q l)) ⊥ := by
  funext r
  unfold next3
  rw [Function.update_apply]
  show select _ _ _ (ix3 q r l) = _
  rw [select_apply, pick3_apply hR hB hI hn, broadcast_apply]
  show Scalar.select _ (Ideal.ofBits .f32 0xFF800000#32) _ = _
  rw [ofBits_neg_inf]
  rw [select_decide]
  rfl

/-- The block after some rounds. -/
def left3 (v : FVec Ideal (⟨3, ![64, n, 128]⟩ : Shape) .f32) : Nat → FVec Ideal (⟨3, ![64, n, 128]⟩ : Shape) .f32
  | 0 => v
  | t + 1 => next3 hR hB hI (left3 v t)

theorem left3_col (hn : n ≤ 1073741824) (v : FVec Ideal (⟨3, ![64, n, 128]⟩ : Shape) .f32) (q : Fin 64) (l : Fin 128) (t : Nat) :
    col (left3 hR hB hI v t) q l = peeled (col v q l) t := by
  induction t with
  | zero => rfl
  | succ t ih =>
    show col (next3 hR hB hI (left3 hR hB hI v t)) q l = _
    rw [next3_col hR hB hI hn, ih]; rfl

theorem top3_left (hn : n ≤ 1073741824) (v : FVec Ideal (⟨3, ![64, n, 128]⟩ : Shape) .f32) (q : Fin 64) (l : Fin 128) (t : Nat) :
    top3 hR (left3 hR hB hI v t) (ix2 q l) = entry (col v q l) t := by
  rw [top3_apply, left3_col hR hB hI hn]; rfl

theorem at3_left (hn : n ≤ 1073741824) (v : FVec Ideal (⟨3, ![64, n, 128]⟩ : Shape) .f32) (q : Fin 64) (l : Fin 128) (t : Nat) :
    at3 hR hB hI (left3 hR hB hI v t) (ix2 q l) = BitVec.ofNat 32 (taken (col v q l) t).val := by
  rw [at3_apply hR hB hI hn, left3_col hR hB hI hn]; rfl

theorem found3_left (hn : n ≤ 1073741824) (v : FVec Ideal (⟨3, ![64, n, 128]⟩ : Shape) .f32) (w : IVec (⟨3, ![64, n, 128]⟩ : Shape) 32)
    (hw : ∀ i, (w i).toInt ≤ 1073741824) (q : Fin 64) (l : Fin 128) (t : Nat) :
    found3 hR hB hI (left3 hR hB hI v t) w (ix2 q l) = w (ix3 q (taken (col v q l) t) l) := by
  rw [found3_apply hR hB hI hn _ _ _ _ (hw _), left3_col hR hB hI hn]; rfl

omit [NeZero n] in
theorem put3_apply (hn : n ≤ 1073741824) {α : Type} (k : Nat) (hk : k ≤ 1073741824) (x : S64x128.Idx → α) (o : (⟨3, ![64, n, 128]⟩ : Shape).Idx → α)
    (q : Fin 64) (r : Fin n) (l : Fin 128) :
    put3 hB hI (BitVec.ofNat 32 k) x o (ix3 q r l) = if r.val = k then x (ix2 q l) else o (ix3 q r l) := by
  unfold put3
  rw [shapeCast_self, select_apply]
  show Scalar.select (IntOp.cmpi .eq (iota .tc _ 32 [1] hI (ix3 q r l)) (BitVec.ofNat 32 k)) (lay3 hB x (ix3 q r l)) _ = _
  rw [lay3_apply, iota3_apply, cmpi_eq_eq]
  have hr := r.isLt
  exact (select_decide _ _ _).trans (if_congr (ofNat_eq r.val k (by omega) hk) rfl rfl)

end Planes

/-! ## Along one wide row -/

section Wide
variable (v : FVec Ideal S64x2048 .f32) (w : IVec S64x2048 32)

/-- One query's entries. -/
def line (v : FVec Ideal S64x2048 .f32) (q : Fin 64) : Fin 2048 → EReal := fun c => v (ix2 q c)

theorem line_apply (q : Fin 64) (c : Fin 2048) : line v q c = v (ix2 q c) := rfl

def low2 (w : IVec S64x2048 32) : IVec S64x1 32 :=
  shapeCast S64x1 (multiReductionI .minsi [1] S64 w 2147483647#32 reduces_S64x2048_S64 rfl) shapeCasts_S64_S64x1

def top2 : FVec Ideal S64x1 .f32 :=
  shapeCast S64x1 (multiReduction .maximumf [1] S64 v 0xFF800000#32 reduces_S64x2048_S64 (.inl rfl) rfl) shapeCasts_S64_S64x1

/-- The position of each query that first holds its greatest entry. -/
def at2 : IVec S64x1 32 :=
  low2 (select (cmpf .oeq v (broadcastTo S64x2048 (top2 v) broadcasts_S64x1_S64x2048)) (iota .tc S64x2048 32 [1] iota_S64x2048_d1_w32)
    (broadcast S64x2048 1073741824#32))

def pick2 : IVec S64x2048 1 :=
  cmpi .eq (iota .tc S64x2048 32 [1] iota_S64x2048_d1_w32) (broadcastTo S64x2048 (at2 v) broadcasts_S64x1_S64x2048)

def found2 : IVec S64x1 32 := low2 (select (pick2 v) w (broadcast S64x2048 1073741824#32))

def next2 : FVec Ideal S64x2048 .f32 := select (pick2 v) (broadcast S64x2048 (Scalar.ofBits .f32 0xFF800000#32)) v

theorem iota2_apply (q : Fin 64) (c : Fin 2048) : iota .tc S64x2048 32 [1] iota_S64x2048_d1_w32 (ix2 q c) = BitVec.ofNat 32 c.val := by
  rw [iota_single_apply]

theorem lanes_apply (q : Fin 64) (c : Fin 128) : iota .tc S64x128 32 [1] iota_S64x128_d1_w32 (ix2 q c) = BitVec.ofNat 32 c.val := by
  rw [iota_single_apply]

theorem lift2 (q : Fin 64) (c : Fin 2048) : (reduces_S64x2048_S64 : Shape.Reduces S64x2048 [1] S64).lift (ix1 q) c = ix2 q c := by
  funext a; apply Fin.ext
  match a with
  | ⟨0, _⟩ => rfl
  | ⟨1, _⟩ => rfl

theorem lay2_apply {α : Type} (x : S64x1.Idx → α) (q : Fin 64) (c : Fin 2048) :
    broadcastTo S64x2048 x broadcasts_S64x1_S64x2048 (ix2 q c) = x (ix2 q 0) :=
  broadcastTo_apply x _ _ _ fun a => match a with | ⟨0, _⟩ => rfl | ⟨1, _⟩ => rfl

theorem low2_apply (q : Fin 64) :
    low2 w (ix2 q 0) = (Finset.univ : Finset (Fin 2048)).fold IKind.minsi.op 2147483647#32 (fun c => w (ix2 q c)) := by
  unfold low2
  refine (shapeCast_a_a1_apply _ _ _ _).trans ((multiReductionI_eq_fold _ _ _ _ _ _).trans
    (((reduces_S64x2048_S64 : Shape.Reduces S64x2048 [1] S64).fold_filter_drop_single _ _ _ _).trans ?_))
  exact congrArg (fun f => (Finset.univ : Finset (Fin 2048)).fold IKind.minsi.op 2147483647#32 f) (funext fun c => congrArg w (lift2 q c))

theorem top2_apply (q : Fin 64) : top2 v (ix2 q 0) = line v q (best (line v q)) := by
  unfold top2
  refine (shapeCast_a_a1_apply _ _ _ _).trans ((Ideal.multiReduction_maximumf_single _ _ _ _ _ _).trans ?_)
  show (Finset.univ : Finset (Fin 2048)).fold max (Ideal.ofBits .f32 0xFF800000#32) _ = _
  rw [ofBits_neg_inf]
  exact (congrArg (fun f => (Finset.univ : Finset (Fin 2048)).fold max ⊥ f) (funext fun c => congrArg v (lift2 q c))).trans (fold_max_best (line v q))

theorem at2_apply (q : Fin 64) : at2 v (ix2 q 0) = BitVec.ofNat 32 (best (line v q)).val := by
  unfold at2
  refine (low2_apply _ q).trans ((congrArg (Finset.fold IKind.minsi.op 2147483647#32 · Finset.univ) (funext fun c => ?_)).trans
    (fold_first (n := 2048) (by omega) (line v q)))
  rw [select_apply, cmpf_apply, lay2_apply, top2_apply, iota2_apply, broadcast_apply]
  show Scalar.select (Ideal.cmp .oeq (line v q c) _) _ _ = _
  rw [cmp_oeq, select_decide]

theorem pick2_apply (q : Fin 64) (c : Fin 2048) : pick2 v (ix2 q c) = BitVec.ofBool (decide (c = best (line v q))) := by
  unfold pick2
  show IntOp.cmpi .eq (iota .tc S64x2048 32 [1] iota_S64x2048_d1_w32 (ix2 q c)) (broadcastTo S64x2048 (at2 v) broadcasts_S64x1_S64x2048 (ix2 q c)) = _
  rw [lay2_apply, at2_apply, iota2_apply, cmpi_eq_eq]
  have hc := c.isLt
  have hb := (best (line v q)).isLt
  exact congrArg BitVec.ofBool (decide_eq_decide.mpr ((ofNat_eq c.val _ (by omega) (by omega)).trans Fin.ext_iff.symm))

theorem found2_apply (hw : ∀ i, (w i).toInt ≤ 1073741824) (q : Fin 64) : found2 v w (ix2 q 0) = w (ix2 q (best (line v q))) := by
  unfold found2
  refine (low2_apply _ q).trans ((congrArg (Finset.fold IKind.minsi.op 2147483647#32 · Finset.univ) (funext fun c => ?_)).trans
    (fold_at (fun c => w (ix2 q c)) (best (line v q)) (hw _)))
  rw [select_apply, pick2_apply, broadcast_apply]
  rw [select_decide]

theorem next2_line (q : Fin 64) : line (next2 v) q = Function.update (line v q) (best (line v q)) ⊥ := by
  funext c
  rw [Function.update_apply, line_apply]
  unfold next2
  refine (select_apply _ _ _ _).trans ?_
  rw [pick2_apply, broadcast_apply, select_decide]
  show (if _ then Ideal.ofBits .f32 0xFF800000#32 else _) = _
  rw [ofBits_neg_inf]
  rfl

/-- The row after some rounds. -/
def left2 (v : FVec Ideal S64x2048 .f32) : Nat → FVec Ideal S64x2048 .f32
  | 0 => v
  | t + 1 => next2 (left2 v t)

theorem left2_line (q : Fin 64) (t : Nat) : line (left2 v t) q = peeled (line v q) t := by
  induction t with
  | zero => rfl
  | succ t ih =>
    show line (next2 (left2 v t)) q = _
    rw [next2_line, ih]; rfl

theorem found2_left (hw : ∀ i, (w i).toInt ≤ 1073741824) (q : Fin 64) (t : Nat) :
    found2 (left2 v t) w (ix2 q 0) = w (ix2 q (taken (line v q) t)) := by
  rw [found2_apply _ _ hw, left2_line]; rfl

/-- A column laid along its rows in lane `k` alone. -/
def put2 {α : Type} (k : BitVec 32) (x : S64x1.Idx → α) (o : S64x128.Idx → α) : S64x128.Idx → α :=
  select (cmpi .eq (iota .tc S64x128 32 [1] iota_S64x128_d1_w32) (broadcast S64x128 k))
    (broadcastTo S64x128 (shapeCast S64x1 x shapeCasts_S64x1_S64x1) broadcasts_S64x1_S64x128) o

theorem put2_apply {α : Type} (k : Nat) (hk : k ≤ 1073741824) (x : S64x1.Idx → α) (o : S64x128.Idx → α) (q : Fin 64) (c : Fin 128) :
    put2 (BitVec.ofNat 32 k) x o (ix2 q c) = if c.val = k then x (ix2 q 0) else o (ix2 q c) := by
  unfold put2
  rw [shapeCast_self, select_apply]
  have hl : broadcastTo S64x128 x broadcasts_S64x1_S64x128 (ix2 q c) = x (ix2 q 0) :=
    broadcastTo_apply x _ _ _ fun a => match a with | ⟨0, _⟩ => rfl | ⟨1, _⟩ => rfl
  show Scalar.select (IntOp.cmpi .eq (iota .tc S64x128 32 [1] iota_S64x128_d1_w32 (ix2 q c)) (BitVec.ofNat 32 k)) _ _ = _
  rw [hl, lanes_apply, cmpi_eq_eq]
  have hc := c.isLt
  exact (select_decide _ _ _).trans (if_congr (ofNat_eq c.val k (by omega) hk) rfl rfl)

end Wide

end Cert.Proof.Find

end
-- ==== Proof.Block.lean ====
/- What the first call leaves of one block of keys: per query and lane, the greatest five products and their keys' numbers. -/
module

public import proofs.«01_k».proof.Proof.Round
public import Idealize.ShloMosaic.Lib.Pipeline.Value
public import Idealize.ShloMosaic.Lib.Tactic
public import Idealize.ShloMosaic.Lib.MatmulPlain

@[expose] public section

noncomputable section

namespace Cert.Proof.Find

open Cert.RetrievalIdeal Cert.RetrievalIdeal.Gen
open Idealize.ShloMosaic Idealize.ShloMosaic.TcCoe Idealize.SL.Sem Idealize.ShloMosaic.ValueIdx Idealize.ShloMosaic.WordCmp
open Cert.Proof.Run (ofBits_neg_inf)

theorem hz3 : (![0, 0, 0] : Fin 3 → Nat) = fun _ => 0 := funext fun a => by fin_cases a <;> rfl
theorem hz2 : (![0, 0] : Fin 2 → Nat) = fun _ => 0 := funext fun a => by fin_cases a <;> rfl

/-- The block's entries after some rounds. -/
abbrev leftA (v : FVec Ideal S64x128x128 .f32) (t : Nat) : FVec Ideal S64x128x128 .f32 :=
  left3 reduces_S64x128x128_S64x128 broadcasts_S64x1x128_S64x128x128 iota_S64x128x128_d1_w32 v t

/-- The values kept after some rounds. -/
def keptV (v : FVec Ideal S64x128x128 .f32) : Nat → FVec Ideal S64x8x128 .f32
  | 0 => broadcast S64x8x128 (Scalar.ofBits .f32 0xFF800000#32)
  | t + 1 => put3 broadcasts_S64x1x128_S64x8x128 iota_S64x8x128_d1_w32 (BitVec.ofNat 32 t) (top3 reduces_S64x128x128_S64x128 (leftA v t)) (keptV v t)

/-- The number of the key a round finds. -/
def numbers (i : BitVec 32) (r : IVec S64x128 32) : IVec S64x128 32 :=
  addi (addi (broadcast S64x128 (Scalar.muli i 16384#32)) (muli r (broadcast S64x128 128#32))) (iota .tc S64x128 32 [1] iota_S64x128_d1_w32)

/-- The numbers kept after some rounds. -/
def keptI (i : BitVec 32) (v : FVec Ideal S64x128x128 .f32) : Nat → IVec S64x8x128 32
  | 0 => broadcast S64x8x128 0#32
  | t + 1 => put3 broadcasts_S64x1x128_S64x8x128 iota_S64x8x128_d1_w32 (BitVec.ofNat 32 t)
      (numbers i (at3 reduces_S64x128x128_S64x128 broadcasts_S64x1x128_S64x128x128 iota_S64x128x128_d1_w32 (leftA v t))) (keptI i v t)

theorem out0_2_eq (i : grid0.Coords) (x0 : Vec Ideal S64x64 .f32) (x1 : Vec Ideal S16384x64 .f32) :
    out0_2 i x0 x1 = keptV (k0_pay7 i x1 x0) 5 := by
  unfold_out out0_2
  rw [View.canon_unit_zero hz3]
  simp only [View.ld_unit_zero (S := S64x64) hz2, View.ld_unit_zero (S := S16384x64) hz2]
  rfl

theorem out0_3_eq (i : grid0.Coords) (x0 : Vec Ideal S64x64 .f32) (x1 : Vec Ideal S16384x64 .f32) :
    out0_3 i x0 x1 = keptI (BitVec.ofNat 32 (i 0).val) (k0_pay7 i x1 x0) 5 := by
  unfold_out out0_3
  rw [View.canon_unit_zero hz3]
  simp only [View.ld_unit_zero (S := S64x64) hz2, View.ld_unit_zero (S := S16384x64) hz2]
  rfl

theorem out0_4_eq (i : grid0.Coords) (x0 : Vec Ideal S64x64 .f32) (x1 : Vec Ideal S16384x64 .f32) : out0_4 i x0 x1 = k0_pay6 x1 := by
  unfold_out out0_4
  rw [View.canon_unit_zero hz2, View.ld_unit_zero (S := S16384x64) hz2]

/-! ## The kept entries at an index -/

section Kept
variable (v : FVec Ideal S64x128x128 .f32) (q : Fin 64) (l : Fin 128) (r : Fin 8)

theorem keptV_apply (k : Nat) (hk : k ≤ 1073741824) :
    keptV v k (ix3 q r l) = if r.val < k then entry (col v q l) r.val else (⊥ : EReal) := by
  induction k with
  | zero =>
    rw [if_neg (Nat.not_lt_zero _)]
    exact ofBits_neg_inf
  | succ k ih =>
    show put3 _ _ (BitVec.ofNat 32 k) _ _ _ = _
    rw [put3_apply _ _ (by omega) k (by omega), top3_left _ _ _ (by omega), ih (by omega)]
    by_cases h : r.val = k
    · rw [if_pos h, if_pos (by omega), h]
    · rw [if_neg h]; exact if_congr (by omega) rfl rfl

theorem numbers_apply (b p : Nat) (w : IVec S64x128 32) (hw : w (ix2 q l) = BitVec.ofNat 32 p) :
    numbers (BitVec.ofNat 32 b) w (ix2 q l) = BitVec.ofNat 32 (16384 * b + 128 * p + l.val) := by
  unfold numbers
  show (BitVec.ofNat 32 b * BitVec.ofNat 32 16384 + w (ix2 q l) * BitVec.ofNat 32 128) + iota .tc S64x128 32 [1] iota_S64x128_d1_w32 (ix2 q l) = _
  rw [hw, lanes_apply, ← BitVec.ofNat_mul, ← BitVec.ofNat_mul, ← BitVec.ofNat_add, ← BitVec.ofNat_add, Nat.mul_comm b, Nat.mul_comm p]

theorem keptI_apply (b : Nat) (k : Nat) (hk : k ≤ 1073741824) :
    keptI (BitVec.ofNat 32 b) v k (ix3 q r l)
      = if r.val < k then BitVec.ofNat 32 (16384 * b + 128 * (taken (col v q l) r.val).val + l.val) else 0#32 := by
  induction k with
  | zero => rw [if_neg (Nat.not_lt_zero _)]; rfl
  | succ k ih =>
    show put3 _ _ (BitVec.ofNat 32 k) _ _ _ = _
    rw [put3_apply _ _ (by omega) k (by omega), ih (by omega)]
    by_cases h : r.val = k
    · rw [if_pos h, if_pos (by omega), h]
      exact numbers_apply q l b _ _ (at3_left _ _ _ (by omega) v q l k)
    · rw [if_neg h]; exact if_congr (by omega) rfl rfl

end Kept

/-! ## The block's products -/

/-- The block's entries: a query's product with a key, −∞ past the last key. -/
theorem products_apply (i : grid0.Coords) (hi : (i 0).val < 62) (x0 : Vec Ideal S64x64 .f32) (x1 : Vec Ideal S16384x64 .f32) (q : Fin 64) (r l : Fin 128) :
    k0_pay7 i x1 x0 (ix3 q r l) = if 16384 * (i 0).val + 128 * r.val + l.val < 1000000
      then (∑ d : Fin 64, (x0 (ix2 q d) : EReal) * x1 (ix2 (⟨128 * r.val + l.val, by omega⟩ : Fin 16384) d)) else (⊥ : EReal) := by
  unfold k0_pay7 k0_pay5
  dsimp only
  rw [select_apply, shapeCast_self]
  have ha : cmpi .slt (addi (addi (broadcast S64x128x128 (Scalar.muli (BitVec.ofNat 32 (i 0).val) 16384#32))
        (muli (iota .tc S64x128x128 32 [1] iota_S64x128x128_d1_w32) (broadcast S64x128x128 128#32))) (iota .tc S64x128x128 32 [2] iota_S64x128x128_d2_w32))
        (broadcast S64x128x128 1000000#32) (ix3 q r l)
      = BitVec.ofBool (decide (16384 * (i 0).val + 128 * r.val + l.val < 1000000)) := by
    show IntOp.cmpi .slt ((BitVec.ofNat 32 (i 0).val * BitVec.ofNat 32 16384 + iota .tc S64x128x128 32 [1] iota_S64x128x128_d1_w32 (ix3 q r l) * BitVec.ofNat 32 128)
      + iota .tc S64x128x128 32 [2] iota_S64x128x128_d2_w32 (ix3 q r l)) 1000000#32 = _
    rw [iota_single_apply, iota_single_apply]
    show IntOp.cmpi .slt ((BitVec.ofNat 32 (i 0).val * BitVec.ofNat 32 16384 + BitVec.ofNat 32 r.val * BitVec.ofNat 32 128) + BitVec.ofNat 32 l.val) 1000000#32 = _
    rw [← BitVec.ofNat_mul, ← BitVec.ofNat_mul, ← BitVec.ofNat_add, ← BitVec.ofNat_add, Nat.mul_comm (i 0).val, Nat.mul_comm r.val, cmpi_slt_eq,
      toInt_ofNat _ (by omega), show (1000000#32).toInt = ((1000000 : Nat) : Int) from by decide]
    exact congrArg BitVec.ofBool (decide_eq_decide.mpr Nat.cast_lt)
  rw [ha, select_decide]
  refine if_congr Iff.rfl ?_ ofBits_neg_inf
  refine (shapeCast_apply _ _ _ (ix2 q (⟨128 * r.val + l.val, by omega⟩ : Fin 16384)) ?_).trans ?_
  · rw [Shape.rowMajor_val_three, Shape.rowMajor_val_two]
    show q.val * 16384 + (128 * r.val + l.val) = (q.val * 128 + r.val) * 128 + l.val
    ring
  refine (Ideal.matmul_transposedRhs_apply none _ _ _ q _).trans ?_
  rw [constant_apply, Ideal.ofBits_zero_f32, zero_add]

/-- The block's keys beside zeros. -/
theorem widened_apply (x1 : Vec Ideal S16384x64 .f32) (r : Fin 16384) (e : Fin 128) :
    k0_pay6 x1 (ix2 r e) = if h : e.val < 64 then x1 (ix2 r (⟨e.val, h⟩ : Fin 64)) else (0 : EReal) := by
  unfold k0_pay6 k0_pay5
  dsimp only
  split
  · rename_i h
    rw [shapeCast_self]
    exact concatenate_pair_apply_left (t := S16384x128) (s₁ := S16384x64) (s₂ := S16384x64) 1 _ _ concatenates_S16384x64_S16384x64_S16384x128_d1
      (ix2 r e) rfl (ix2 r (⟨e.val, h⟩ : Fin 64)) fun b => match b with | ⟨0, _⟩ => rfl | ⟨1, _⟩ => rfl
  · rename_i h
    refine (concatenate_pair_apply_right (t := S16384x128) (s₁ := S16384x64) (s₂ := S16384x64) 1 _ _ concatenates_S16384x64_S16384x64_S16384x128_d1
      (ix2 r e) rfl rfl (ix2 r (⟨e.val - 64, by omega⟩ : Fin 64)) (fun b hb => ?_) ?_).trans ?_
    · match b with
      | ⟨0, _⟩ => rfl
      | ⟨1, _⟩ => exact absurd rfl hb
    · show e.val - 64 + 64 = e.val
      omega
    · exact Ideal.ofBits_zero_f32

end Cert.Proof.Find

end
-- ==== Proof.Merge.lean ====
/- What the second call leaves of the blocks' results: the rounds along the lanes, then along the row of all the lanes' results. -/
module

public import proofs.«01_k».proof.Proof.Block

@[expose] public section

noncomputable section

namespace Cert.Proof.Find

open Cert.RetrievalIdeal Cert.RetrievalIdeal.Gen
open Idealize.ShloMosaic Idealize.ShloMosaic.TcCoe Idealize.SL.Sem Idealize.ShloMosaic.ValueIdx Idealize.ShloMosaic.WordCmp
open Cert.Proof.Run (ofBits_neg_inf)

/-- The blocks' values after some rounds. -/
abbrev leftB (v : FVec Ideal S64x496x128 .f32) (t : Nat) : FVec Ideal S64x496x128 .f32 :=
  left3 reduces_S64x496x128_S64x128 broadcasts_S64x1x128_S64x496x128 iota_S64x496x128_d1_w32 v t

/-- The values and the numbers the lanes keep after some rounds. -/
def merged (v : FVec Ideal S64x496x128 .f32) (w : IVec S64x496x128 32) : Nat → FVec Ideal S64x16x128 .f32 × IVec S64x16x128 32
  | 0 => (broadcast S64x16x128 (Scalar.ofBits .f32 0xFF800000#32), broadcast S64x16x128 0#32)
  | t + 1 =>
    (put3 broadcasts_S64x1x128_S64x16x128 iota_S64x16x128_d1_w32 (BitVec.ofNat 32 t) (top3 reduces_S64x496x128_S64x128 (leftB v t)) (merged v w t).1,
     put3 broadcasts_S64x1x128_S64x16x128 iota_S64x16x128_d1_w32 (BitVec.ofNat 32 t)
      (found3 reduces_S64x496x128_S64x128 broadcasts_S64x1x128_S64x496x128 iota_S64x496x128_d1_w32 (leftB v t) w) (merged v w t).2)

/-- The numbers taken from the wide row after some rounds. -/
def drawn (v : FVec Ideal S64x2048 .f32) (w : IVec S64x2048 32) : Nat → IVec S64x128 32
  | 0 => iota .tc S64x128 32 [1] iota_S64x128_d1_w32
  | t + 1 => put2 (BitVec.ofNat 32 t) (found2 (left2 v t) w) (drawn v w t)

theorem iv_eq (k : Nat) : Scf.iv 0#32 1#32 k = BitVec.ofNat 32 k := by
  simp [Scf.iv]

theorem pay6_eq (k : Fin k1_t1_loop.trips) (acc : FVec Ideal S64x16x128 .f32) (v : FVec Ideal S64x496x128 .f32) :
    k1_pay6 k acc v = put3 broadcasts_S64x1x128_S64x16x128 iota_S64x16x128_d1_w32 (BitVec.ofNat 32 k.val) (top3 reduces_S64x496x128_S64x128 v) acc := by
  rw [← iv_eq k.val]; rfl

theorem pay5_eq (v : Vec Ideal S64x496x128 .f32) :
    k1_pay5 (F := Ideal) v = pick3 reduces_S64x496x128_S64x128 broadcasts_S64x1x128_S64x496x128 iota_S64x496x128_d1_w32 v := rfl

theorem pay7_eq (k : Fin k1_t1_loop.trips) (acc : IVec S64x16x128 32) (v : Vec Ideal S64x496x128 .f32) (w : Vec Ideal S64x496x128 .i32) :
    k1_pay7 (F := Ideal) k acc v w = put3 broadcasts_S64x1x128_S64x16x128 iota_S64x16x128_d1_w32 (BitVec.ofNat 32 k.val)
      (found3 reduces_S64x496x128_S64x128 broadcasts_S64x1x128_S64x496x128 iota_S64x496x128_d1_w32 v w) acc := by
  rw [← iv_eq k.val]; unfold k1_pay7 put3 found3 low3; dsimp only; simp only [shapeCast_self, pay5_eq]

theorem pay8_eq (v : FVec Ideal S64x496x128 .f32) :
    k1_pay8 v = next3 reduces_S64x496x128_S64x128 broadcasts_S64x1x128_S64x496x128 iota_S64x496x128_d1_w32 v := by
  unfold k1_pay8; dsimp only; rw [shapeCast_self]; rfl

theorem pay14_eq (k : Fin k1_t2_loop.trips) (a : IVec S64x16x128 32) (v : FVec Ideal S64x2048 .f32) (o : IVec S64x128 32) :
    k1_pay14 a k v o = put2 (BitVec.ofNat 32 k.val) (found2 v (shapeCast S64x2048 a shapeCasts_S64x16x128_S64x2048)) o := by
  rw [← iv_eq k.val]; rfl

theorem pay15_eq (v : FVec Ideal S64x2048 .f32) : k1_pay15 v = next2 v := rfl

section Run
variable (c : Dev nD) (arg0 : Memref sig .tc .vmem S64x496x128 .f32) (harg0 : arg0.IsWhole)
    (arg1 : Memref sig .tc .vmem S64x496x128 .i32) (harg1 : arg1.IsWhole) (arg2 : Memref sig .tc .vmem S64x128 .f32) (harg2 : arg2.IsWhole)
    (arg3 : Memref sig .tc .vmem S64x128 .i32) (harg3 : arg3.IsWhole) (arg4 : Memref sig .tc .vmem S64x496x128 .f32) (harg4 : arg4.IsWhole)

theorem trip_res (bd : Option Variants.none.V) (X : BufTy.Contents (Elt Ideal) arg1.view.ty) (k : Fin k1_t1_loop.trips)
    (acc : FVec Ideal S64x16x128 .f32 × IVec S64x16x128 32) (f : BufTy.Contents (Elt Ideal) arg4.view.ty) :
    (trip_k1_t1 (F := Ideal) Variants.none c bd arg0 harg0 arg1 harg1 arg2 harg2 arg3 harg3 arg4 harg4 X k).1 acc f
      = (k1_pay6 k acc.1 (arg4.view.read (Elt Ideal) f), k1_pay7 k acc.2 (arg4.view.read (Elt Ideal) f) (arg1.view.read (Elt Ideal) X)) := by
  unfold trip_k1_t1
  dsimp only
  sl_unfold_words
  rw [View.readAt_eq_ld, View.readAt_eq_ld, View.ld_unit_zero (S := S64x496x128) hz3, View.ld_unit_zero (S := S64x496x128) hz3]

theorem trip_left (bd : Option Variants.none.V) (X : BufTy.Contents (Elt Ideal) arg1.view.ty) (k : Fin k1_t1_loop.trips)
    (acc : FVec Ideal S64x16x128 .f32 × IVec S64x16x128 32) (f : BufTy.Contents (Elt Ideal) arg4.view.ty) :
    arg4.view.read (Elt Ideal) (arg4.view.writes (Elt Ideal) f
      ((trip_k1_t1 (F := Ideal) Variants.none c bd arg0 harg0 arg1 harg1 arg2 harg2 arg3 harg3 arg4 harg4 X k).2.1 acc f))
      = k1_pay8 (arg4.view.read (Elt Ideal) f) := by
  unfold trip_k1_t1
  dsimp only
  sl_unfold_words
  rw [View.readAt_eq_ld, View.ld_unit_zero (S := S64x496x128) hz3, View.read_writes_eq_canon _ _ _ (fun y => View.cover_of_tiled [_] S64x496x128.size (by rfl) y)]
  exact View.canon_unit_zero hz3 _ _

theorem st_eq (bd : Option Variants.none.V) (X : BufTy.Contents (Elt Ideal) arg1.view.ty) (G : BufTy.Contents (Elt Ideal) arg4.view.ty) (k : Nat)
    (hk : k ≤ k1_t1_loop.trips) :
    (st_k1_t1 (F := Ideal) Variants.none c bd arg0 harg0 arg1 harg1 arg2 harg2 arg3 harg3 arg4 harg4 X G (k1_pay2, k1_pay3) k).1
        = merged (arg4.view.read (Elt Ideal) G) (arg1.view.read (Elt Ideal) X) k
      ∧ arg4.view.read (Elt Ideal) (arg4.view.writes (Elt Ideal) G
          (st_k1_t1 (F := Ideal) Variants.none c bd arg0 harg0 arg1 harg1 arg2 harg2 arg3 harg3 arg4 harg4 X G (k1_pay2, k1_pay3) k).2)
        = leftB (arg4.view.read (Elt Ideal) G) k := by
  induction k with
  | zero => exact ⟨rfl, rfl⟩
  | succ k ih =>
    obtain ⟨ih1, ih2⟩ := ih (by omega)
    have e := st_k1_t1_succ (F := Ideal) Variants.none c bd arg0 harg0 arg1 harg1 arg2 harg2 arg3 harg3 arg4 harg4 X G (k1_pay2, k1_pay3) ⟨k, by omega⟩
    dsimp only at e
    rw [e]
    refine ⟨?_, ?_⟩
    · refine (trip_res c arg0 harg0 arg1 harg1 arg2 harg2 arg3 harg3 arg4 harg4 bd X _ _ _).trans ?_
      rw [ih1, ih2, pay6_eq, pay7_eq]; rfl
    · show arg4.view.read (Elt Ideal) (arg4.view.writes (Elt Ideal) G (_ ++ _)) = _
      rw [View.writes_append]
      refine (trip_left c arg0 harg0 arg1 harg1 arg2 harg2 arg3 harg3 arg4 harg4 bd X _ _ _).trans ?_
      rw [ih2, pay8_eq]; rfl

theorem fold_eq (v : FVec Ideal S64x2048 .f32) (a : IVec S64x16x128 32) (o : FVec Ideal S64x128 .f32) :
    (Scf.fold (n := k1_t2_loop.trips) (fun k (s : FVec Ideal S64x2048 .f32 × FVec Ideal S64x128 .f32 × IVec S64x128 32) =>
        (k1_pay15 s.1, k1_pay13 k s.1 s.2.1, k1_pay14 a k s.1 s.2.2)) (v, o, iota .tc S64x128 32 [1] iota_S64x128_d1_w32)).2.2
      = drawn v (shapeCast S64x2048 a shapeCasts_S64x16x128_S64x2048) k1_t2_loop.trips := by
  rw [Scf.fold_eq]
  have key (n : Nat) (g : Fin n → (FVec Ideal S64x2048 .f32 × FVec Ideal S64x128 .f32 × IVec S64x128 32) → (FVec Ideal S64x2048 .f32 × FVec Ideal S64x128 .f32 × IVec S64x128 32))
      (hg : ∀ k s, (g k s).1 = next2 s.1 ∧ (g k s).2.2 = put2 (BitVec.ofNat 32 k.val) (found2 s.1 (shapeCast S64x2048 a shapeCasts_S64x16x128_S64x2048)) s.2.2) :
      ((List.finRange n).foldl (fun acc k => g k acc) (v, o, iota .tc S64x128 32 [1] iota_S64x128_d1_w32)).1 = left2 v n
        ∧ ((List.finRange n).foldl (fun acc k => g k acc) (v, o, iota .tc S64x128 32 [1] iota_S64x128_d1_w32)).2.2
          = drawn v (shapeCast S64x2048 a shapeCasts_S64x16x128_S64x2048) n := by
    induction n with
    | zero => exact ⟨rfl, rfl⟩
    | succ n ih =>
      obtain ⟨i1, i2⟩ := ih (fun k => g k.castSucc) (fun k s => hg k.castSucc s)
      rw [List.finRange_succ_last, List.foldl_append, List.foldl_map]
      show (g (Fin.last n) _).1 = _ ∧ (g (Fin.last n) _).2.2 = _
      rw [(hg _ _).1, (hg _ _).2, i1, i2]
      exact ⟨rfl, rfl⟩
  exact (key k1_t2_loop.trips (fun k s => (k1_pay15 s.1, k1_pay13 k s.1 s.2.1, k1_pay14 a k s.1 s.2.2))
    fun k s => by
      dsimp only
      rw [pay15_eq, pay14_eq]
      exact ⟨rfl, rfl⟩).2

theorem out1_3_eq (x0 : Vec Ideal S64x496x128 .f32) (x1 : Vec Ideal S64x496x128 .i32) :
    out1_A_3 (F := Ideal) c arg0 harg0 arg1 harg1 arg2 harg2 arg3 harg3 arg4 harg4 x0 x1
      = drawn (shapeCast S64x2048 (merged x0 x1 16).1 shapeCasts_S64x16x128_S64x2048) (shapeCast S64x2048 (merged x0 x1 16).2 shapeCasts_S64x16x128_S64x2048) 100 := by
  unfold out1_A_3
  rw [View.read_writes_eq_canon _ _ _ (cover1_A_3 c arg0 harg0 arg1 harg1 arg2 harg2 arg3 harg3 arg4 harg4 x0 x1)]
  unfold kernelRun1_A
  dsimp only
  sl_unfold_words
  rw [View.canon_unit_zero hz2]
  refine (fold_eq _ _ _).trans ?_
  have e := st_eq c arg0 harg0 arg1 harg1 arg2 harg2 arg3 harg3 arg4 harg4 none (harg1.unread x1)
    (arg4.view.writes (Elt Ideal) arg4.view.junk [⟨Rect.unit (s := S64x496x128) ![0, 0, 0] S64x496x128.size inb_S64x496x128_S64x496x128_0_0_0,
      k1_pay1 (View.readAt (Elt Ideal) arg0.view (Rect.unit (s := S64x496x128) ![0, 0, 0] S64x496x128.size inb_S64x496x128_S64x496x128_0_0_0).toLoadRect (harg0.unread x0))⟩])
    16 (by decide)
  rw [View.read_writes_eq_canon _ _ _ (fun y => View.cover_of_tiled [_] S64x496x128.size (by rfl) y), View.canon_unit_zero hz3, harg1.read_unread,
    View.readAt_eq_ld, View.ld_unit_zero (S := S64x496x128) hz3, harg0.read_unread] at e
  rw [View.readAt_eq_ld, View.ld_unit_zero (S := S64x496x128) hz3, harg0.read_unread]
  show drawn (k1_pay9 (st_k1_t1 _ _ _ _ _ _ _ _ _ _ _ _ _ _ _ _ 16).1.1) _ 100 = _
  have ht : Scf.trips k1_t1_loop.lb k1_t1_loop.ub k1_t1_loop.st = 16 := by decide
  rw [ht]
  simp only [e.1]
  unfold k1_pay1 k1_pay9
  dsimp only
  simp only [shapeCast_self]

end Run

/-! ## The kept entries at an index -/

section Kept
variable (v : FVec Ideal S64x496x128 .f32) (w : IVec S64x496x128 32) (q : Fin 64)

theorem merged_values (k : Nat) (hk : k ≤ 1073741824) (t : Fin 16) (l : Fin 128) :
    (merged v w k).1 (ix3 q t l) = if t.val < k then entry (col v q l) t.val else (⊥ : EReal) := by
  induction k with
  | zero =>
    rw [if_neg (Nat.not_lt_zero _)]
    exact ofBits_neg_inf
  | succ k ih =>
    show put3 _ _ (BitVec.ofNat 32 k) _ _ _ = _
    rw [put3_apply _ _ (by omega) k (by omega), top3_left _ _ _ (by omega), ih (by omega)]
    by_cases h : t.val = k
    · rw [if_pos h, if_pos (by omega), h]
    · rw [if_neg h]; exact if_congr (by omega) rfl rfl

theorem merged_numbers (hw : ∀ i, (w i).toInt ≤ 1073741824) (k : Nat) (hk : k ≤ 1073741824) (t : Fin 16) (l : Fin 128) :
    (merged v w k).2 (ix3 q t l) = if t.val < k then w (ix3 q (taken (col v q l) t.val) l) else 0#32 := by
  induction k with
  | zero => rw [if_neg (Nat.not_lt_zero _)]; rfl
  | succ k ih =>
    show put3 _ _ (BitVec.ofNat 32 k) _ _ _ = _
    rw [put3_apply _ _ (by omega) k (by omega), found3_left _ _ _ (by omega) _ _ hw, ih (by omega)]
    by_cases h : t.val = k
    · rw [if_pos h, if_pos (by omega), h]
    · rw [if_neg h]; exact if_congr (by omega) rfl rfl

theorem drawn_apply (v : FVec Ideal S64x2048 .f32) (w : IVec S64x2048 32) (hw : ∀ i, (w i).toInt ≤ 1073741824) (k : Nat) (hk : k ≤ 1073741824) (c : Fin 128) :
    drawn v w k (ix2 q c) = if c.val < k then w (ix2 q (taken (line v q) c.val)) else BitVec.ofNat 32 c.val := by
  induction k with
  | zero => rw [if_neg (Nat.not_lt_zero _)]; exact lanes_apply q c
  | succ k ih =>
    show put2 (BitVec.ofNat 32 k) _ _ _ = _
    rw [put2_apply k (by omega), found2_left _ _ hw, ih (by omega)]
    by_cases h : c.val = k
    · rw [if_pos h, if_pos (by omega), h]
    · rw [if_neg h]; exact if_congr (by omega) rfl rfl

end Kept

end Cert.Proof.Find

end
-- ==== Proof.Found.lean ====
/- The two calls' rounds find each query's greatest products: the chain from the keys to the numbers drawn. -/
module

public import proofs.«01_k».proof.Proof.Merge

@[expose] public section

noncomputable section

namespace Cert.Proof.Find

open Cert.RetrievalIdeal Cert.RetrievalIdeal.Gen
open Idealize.ShloMosaic Idealize.ShloMosaic.ValueIdx

theorem ix3_self {a b c : Nat} (i : (⟨3, ![a, b, c]⟩ : Shape).Idx) : ix3 (i 0) (i 1) (i 2) = i := by
  funext k
  match k with
  | ⟨0, _⟩ => rfl
  | ⟨1, _⟩ => rfl
  | ⟨2, _⟩ => rfl

theorem ix2_self {a b : Nat} (i : (⟨2, ![a, b]⟩ : Shape).Idx) : ix2 (i 0) (i 1) = i := by
  funext k
  match k with
  | ⟨0, _⟩ => rfl
  | ⟨1, _⟩ => rfl

section Chain
variable (sim : Fin 64 → Fin 1000000 → EReal) (A : Fin 62 → FVec Ideal S64x128x128 .f32) (V : FVec Ideal S64x496x128 .f32) (W : IVec S64x496x128 32)

/-- The blocks hold the products, −∞ past the last key. -/
def Blocks : Prop := ∀ (b : Fin 62) (q : Fin 64) (r l : Fin 128),
  A b (ix3 q r l) = if h : 16384 * b.val + 128 * r.val + l.val < 1000000 then sim q ⟨16384 * b.val + 128 * r.val + l.val, h⟩ else (⊥ : EReal)

/-- The rows hold what the rounds keep of each block. -/
def Joined : Prop := ∀ (b : Fin 62) (t : Fin 8) (q : Fin 64) (l : Fin 128),
  V (ix3 q (⟨8 * b.val + t.val, by omega⟩ : Fin 496) l) = keptV (A b) 5 (ix3 q t l)
    ∧ W (ix3 q (⟨8 * b.val + t.val, by omega⟩ : Fin 496) l) = keptI (BitVec.ofNat 32 b.val) (A b) 5 (ix3 q t l)

variable {sim A V W}

theorem Joined.values (hJ : Joined A V W) (q : Fin 64) (i : Fin 496) (l : Fin 128) :
    V (ix3 q i l) = keptV (A ⟨i.val / 8, by omega⟩) 5 (ix3 q (⟨i.val % 8, by omega⟩ : Fin 8) l) := by
  refine Eq.trans (congrArg (fun i => V (ix3 q i l)) (Fin.ext ?_)) (hJ ⟨i.val / 8, by omega⟩ ⟨i.val % 8, by omega⟩ q l).1
  show i.val = 8 * (i.val / 8) + i.val % 8
  omega

theorem Joined.numbers (hJ : Joined A V W) (q : Fin 64) (i : Fin 496) (l : Fin 128) :
    W (ix3 q i l) = keptI (BitVec.ofNat 32 (i.val / 8)) (A ⟨i.val / 8, by omega⟩) 5 (ix3 q (⟨i.val % 8, by omega⟩ : Fin 8) l) := by
  refine Eq.trans (congrArg (fun i => W (ix3 q i l)) (Fin.ext ?_)) (hJ ⟨i.val / 8, by omega⟩ ⟨i.val % 8, by omega⟩ q l).2
  show i.val = 8 * (i.val / 8) + i.val % 8
  omega

theorem Joined.small (hJ : Joined A V W) (j : S64x496x128.Idx) : (W j).toInt ≤ 1073741824 := by
  obtain ⟨q, i, l, rfl⟩ : ∃ q i l, j = ix3 q i l := ⟨j 0, j 1, j 2, (ix3_self j).symm⟩
  rw [hJ.numbers, keptI_apply _ _ _ _ _ _ (by omega)]
  have hi := i.isLt
  have hl := l.isLt
  split
  · have ht := (taken (col (A ⟨i.val / 8, by omega⟩) q l) (i.val % 8)).isLt
    show (BitVec.ofNat 32 (16384 * (i.val / 8) + 128 * (taken (col (A ⟨i.val / 8, _⟩) q l) (i.val % 8)).val + l.val)).toInt ≤ _
    rw [toInt_ofNat _ (by omega)]
    omega
  · decide

theorem Joined.small' (hJ : Joined A V W) (j : S64x16x128.Idx) : ((merged V W 16).2 j).toInt ≤ 1073741824 := by
  obtain ⟨q, t, l, rfl⟩ : ∃ q t l, j = ix3 q t l := ⟨j 0, j 1, j 2, (ix3_self j).symm⟩
  rw [merged_numbers V W q hJ.small 16 (by omega), if_pos t.isLt]
  exact hJ.small _

/-! ## The chain -/

variable (q : Fin 64) {θ : EReal} {top : Fin 100 → Fin 1000000}

/-- Block and lane of a key. -/
def blockLane (j : Fin 1000000) : Fin 62 × Fin 128 := (⟨j.val / 16384, by omega⟩, ⟨j.val % 128, by omega⟩)

/-- Lane of a key. -/
def lane (j : Fin 1000000) : Fin 128 := ⟨j.val % 128, by omega⟩

theorem holds_blocks (hθ : ⊥ < θ) (hA : Blocks sim A) :
    Holds (sim q) θ blockLane (fun c => col (A c.1) q c.2) (fun c r => BitVec.ofNat 32 (16384 * c.1.val + 128 * r.val + c.2.val)) := by
  refine ⟨fun c r h => ?_, fun c r r' _ _ e => ?_, fun j hj => ?_⟩
  · have e : col (A c.1) q c.2 r = _ := hA c.1 q r c.2
    by_cases hlt : 16384 * c.1.val + 128 * r.val + c.2.val < 1000000
    · rw [dif_pos hlt] at e
      refine ⟨⟨_, hlt⟩, rfl, e.symm, Prod.ext (Fin.ext ?_) (Fin.ext ?_)⟩
      · show (16384 * c.1.val + 128 * r.val + c.2.val) / 16384 = c.1.val
        omega
      · show (16384 * c.1.val + 128 * r.val + c.2.val) % 128 = c.2.val
        omega
    · rw [dif_neg hlt] at e
      rw [e] at h
      exact absurd (hθ.trans_le h) (lt_irrefl _)
  · have := (ofNat_eq _ _ (by omega) (by omega)).mp e
    exact Fin.ext (by omega)
  · refine ⟨⟨j.val % 16384 / 128, by omega⟩, congrArg (BitVec.ofNat 32) ?_, ?_⟩
    · show 16384 * (j.val / 16384) + 128 * (j.val % 16384 / 128) + j.val % 128 = j.val
      omega
    · have hlt : 16384 * (j.val / 16384) + 128 * (j.val % 16384 / 128) + j.val % 128 < 1000000 := by omega
      have e : col (A (blockLane j).1) q (blockLane j).2 ⟨j.val % 16384 / 128, by omega⟩ = _ := hA ⟨j.val / 16384, by omega⟩ q ⟨j.val % 16384 / 128, by omega⟩ ⟨j.val % 128, by omega⟩
      rw [dif_pos hlt] at e
      rw [e]
      refine hj.trans_eq (congrArg (sim q) (Fin.ext ?_))
      show j.val = 16384 * (j.val / 16384) + 128 * (j.val % 16384 / 128) + j.val % 128
      omega

theorem drawn_top (hA : Blocks sim A) (hJ : Joined A V W) (hθ : ⊥ < θ) (hdec : ∀ s s', s < s' → sim q (top s') < sim q (top s))
    (hge : ∀ s, θ ≤ sim q (top s)) (htop : ∀ j, θ ≤ sim q j → ∃ s, top s = j)
    (hclass : ∀ s, (Finset.univ.filter fun s' => blockLane (top s') = blockLane (top s)).card ≤ 5)
    (hlane : ∀ s, (Finset.univ.filter fun s' => lane (top s') = lane (top s)).card ≤ 16) (c : Fin 128) :
    drawn (shapeCast S64x2048 (merged V W 16).1 shapeCasts_S64x16x128_S64x2048) (shapeCast S64x2048 (merged V W 16).2 shapeCasts_S64x16x128_S64x2048) 100 (ix2 q c)
      = if h : c.val < 100 then BitVec.ofNat 32 (top ⟨c.val, h⟩).val else BitVec.ofNat 32 c.val := by
  have H0 := holds_blocks q hθ hA
  have H1 : Holds (sim q) θ blockLane (fun c (t : Fin 8) => keptV (A c.1) 5 (ix3 q t c.2)) (fun c t => keptI (BitVec.ofNat 32 c.1.val) (A c.1) 5 (ix3 q t c.2)) := by
    refine H0.peel hθ 5 (H0.card_le top htop 5 hclass) (by decide) _ _ (fun c t ht => ?_) (fun c t ht => ?_) (fun c t ht => ?_)
    · exact (keptV_apply _ _ _ _ 5 (by omega)).trans (if_pos ht)
    · exact (keptI_apply _ _ _ _ _ 5 (by omega)).trans (if_pos ht)
    · exact (keptV_apply _ _ _ _ 5 (by omega)).trans (if_neg (by omega))
  have H2 : Holds (sim q) θ lane (fun l => col V q l) (fun l i => W (ix3 q i l)) := by
    refine H1.regroup (by omega) lane _ _ (fun l (i : Fin 496) => ((⟨i.val / 8, by omega⟩, l), ⟨i.val % 8, by omega⟩))
      (fun l i => hJ.values q i l) (fun l i => hJ.numbers q i l) (fun l i i' e => ?_) (fun j t => ?_) (fun l i j e => ?_)
    · have e1 : i.val / 8 = i'.val / 8 := congrArg (fun z => z.1.1.val) e
      have e2 : i.val % 8 = i'.val % 8 := congrArg (fun z => z.2.val) e
      exact Fin.ext (by omega)
    · refine ⟨⟨8 * (j.val / 16384) + t.val, by omega⟩, Prod.ext (Prod.ext (Fin.ext ?_) rfl) (Fin.ext ?_)⟩
      · show (8 * (j.val / 16384) + t.val) / 8 = j.val / 16384
        omega
      · show (8 * (j.val / 16384) + t.val) % 8 = t.val
        omega
    · exact congrArg Prod.snd e
  have H3 : Holds (sim q) θ lane (fun l (t : Fin 16) => (merged V W 16).1 (ix3 q t l)) (fun l t => (merged V W 16).2 (ix3 q t l)) := by
    refine H2.peel hθ 16 (H2.card_le top htop 16 hlane) le_rfl _ _ (fun l t ht => ?_) (fun l t ht => ?_) (fun l t ht => ?_)
    · exact (merged_values V W q 16 (by omega) t l).trans (if_pos ht)
    · exact (merged_numbers V W q hJ.small 16 (by omega) t l).trans (if_pos ht)
    · exact absurd t.isLt (by omega)
  have hX {α : Type} (x : S64x16x128.Idx → α) (p : Fin 2048) :
      shapeCast S64x2048 x shapeCasts_S64x16x128_S64x2048 (ix2 q p) = x (ix3 q (⟨p.val / 128, by omega⟩ : Fin 16) (⟨p.val % 128, by omega⟩ : Fin 128)) := by
    refine shapeCast_apply _ _ _ _ ?_
    rw [Shape.rowMajor_val_three, Shape.rowMajor_val_two]
    show (q.val * 16 + p.val / 128) * 128 + p.val % 128 = q.val * 2048 + p.val
    omega
  have H4 : Holds (sim q) θ (fun _ => ()) (fun _ => line (shapeCast S64x2048 (merged V W 16).1 shapeCasts_S64x16x128_S64x2048) q)
      (fun _ p => shapeCast S64x2048 (merged V W 16).2 shapeCasts_S64x16x128_S64x2048 (ix2 q p)) := by
    refine H3.regroup (by omega) _ _ _ (fun _ (p : Fin 2048) => (⟨p.val % 128, by omega⟩, ⟨p.val / 128, by omega⟩))
      (fun _ p => hX _ p) (fun _ p => hX _ p) (fun _ p p' e => ?_) (fun j t => ?_) (fun _ _ _ _ => rfl)
    · have e1 : p.val % 128 = p'.val % 128 := congrArg (fun z => z.1.val) e
      have e2 : p.val / 128 = p'.val / 128 := congrArg (fun z => z.2.val) e
      exact Fin.ext (by omega)
    · refine ⟨⟨128 * t.val + j.val % 128, by omega⟩, Prod.ext (Fin.ext ?_) (Fin.ext ?_)⟩
      · show (128 * t.val + j.val % 128) % 128 = j.val % 128
        omega
      · show (128 * t.val + j.val % 128) / 128 = t.val
        omega
  have hsmall (i : S64x2048.Idx) : (shapeCast S64x2048 (merged V W 16).2 shapeCasts_S64x16x128_S64x2048 i).toInt ≤ 1073741824 := hJ.small' _
  rw [drawn_apply q _ _ hsmall 100 (by omega)]
  split
  · rename_i h
    exact Holds.ranked hθ (by omega) top hdec hge htop _ _ H4 ⟨c.val, h⟩
  · rfl

end Chain

end Cert.Proof.Find

end
-- ==== Proof.Arrays.lean ====
/- What the two calls leave in their result arrays, from the arrays they find. -/
module

public import proofs.«01_k».proof.Proof.Found
public import Idealize.ShloMosaic.Lib.Pipeline.ValueKit.Geometry

@[expose] public section

noncomputable section

namespace Cert.Proof.Find

open Cert.RetrievalIdeal Cert.RetrievalIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

theorem coords0 : ∀ t : Fin cfg0.N, (grid0.coords t 0).val = t.val := (by decide +kernel : ∀ t : Fin grid0.N, _)
theorem index0 : ∀ t : Fin cfg0.N, win0_0.index t = ![0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![t.val, 0] := (by decide +kernel : ∀ t : Fin grid0.N, _)
theorem index1_0 : ∀ t : Fin cfg1.N, win1_0.index t = ![0, 0, 0] := (by decide +kernel : ∀ t : Fin grid1.N, _)
theorem index1_1 : ∀ t : Fin cfg1.N, win1_1.index t = ![0, 0, 0] := (by decide +kernel : ∀ t : Fin grid1.N, _)
theorem index1_3 : ∀ t : Fin cfg1.N, win1_3.index t = ![0, 0] := (by decide +kernel : ∀ t : Fin grid1.N, _)

/-- The point of a block. -/
def point (b : Fin 62) : Fin cfg0.N := b.cast N_0.symm

/-- The products of a block. -/
def products (b : Fin 62) : FVec Ideal S64x128x128 .f32 :=
  k0_pay7 (grid0.coords (point b)) (iblk0 V c 1 (point b)) (iblk0 V c 0 (point b))

/-- Every block finds all the queries. -/
theorem queries_block (t : Fin cfg0.N) (q d : Fin 64) : iblk0 V c 0 t (ix2 q d) = V c main_arg0 (ix2 q d) := by
  blk_simp [iblk0]
  congr 1
  blk_ext [index0 t]

/-- A block finds its rows of the keys. -/
theorem keys_block (b : Fin 62) (r : Fin 16384) (d : Fin 64) :
    iblk0 V c 1 (point b) (ix2 r d) = V c main_v0 (ix2 (⟨16384 * b.val + r.val, by omega⟩ : Fin 1015808) d) := by
  blk_simp [iblk0]
  congr 1
  blk_ext [index1 (point b)]
  show b.val * 16384 + r.val = _
  omega

/-- The values the blocks keep, side by side. -/
def rowsV : FVec Ideal S64x496x128 .f32 := fun j =>
  keptV (products V c ⟨(j 1).val / 8, by have h : (j 1).val < 496 := (j 1).isLt; omega⟩) 5
    (ix3 (j 0 : Fin 64) (⟨(j 1).val % 8, by omega⟩ : Fin 8) (j 2 : Fin 128))

/-- The numbers the blocks keep, side by side. -/
def rowsI : IVec S64x496x128 32 := fun j =>
  keptI (BitVec.ofNat 32 ((j 1).val / 8)) (products V c ⟨(j 1).val / 8, by have h : (j 1).val < 496 := (j 1).isLt; omega⟩) 5
    (ix3 (j 0 : Fin 64) (⟨(j 1).val % 8, by omega⟩ : Fin 8) (j 2 : Fin 128))

/-- The keys' rows, widened by zeros. -/
def wide : FVec Ideal S1015808x128 .f32 := fun j =>
  if h : (j 1).val < 64 then V c main_v0 (ix2 (j 0 : Fin 1015808) (⟨(j 1).val, h⟩ : Fin 64)) else (0 : EReal)

theorem rowsV_at (b : Fin 62) (t : Fin 8) (q : Fin 64) (l : Fin 128) (j : S64x496x128.Idx) (h0 : (j 0).val = q.val)
    (h1 : (j 1).val = b.val * 8 + t.val) (h2 : (j 2).val = l.val) : rowsV V c j = keptV (products V c b) 5 (ix3 q t l) := by
  have e : (⟨(j 1).val / 8, by omega⟩ : Fin 62) = b := Fin.ext (by show (j 1).val / 8 = b.val; omega)
  have e' : ix3 (j 0 : Fin 64) (⟨(j 1).val % 8, by omega⟩ : Fin 8) (j 2 : Fin 128) = ix3 q t l := by
    congr 1
    · exact Fin.ext h0
    · exact Fin.ext (by show (j 1).val % 8 = t.val; omega)
    · exact Fin.ext h2
  exact congr (congrArg (fun x => keptV (products V c x) 5) e) e'

theorem rowsI_at (b : Fin 62) (t : Fin 8) (q : Fin 64) (l : Fin 128) (j : S64x496x128.Idx) (h0 : (j 0).val = q.val)
    (h1 : (j 1).val = b.val * 8 + t.val) (h2 : (j 2).val = l.val) :
    rowsI V c j = keptI (BitVec.ofNat 32 b.val) (products V c b) 5 (ix3 q t l) := by
  have e : (⟨(j 1).val / 8, by omega⟩ : Fin 62) = b := Fin.ext (by show (j 1).val / 8 = b.val; omega)
  have e' : ix3 (j 0 : Fin 64) (⟨(j 1).val % 8, by omega⟩ : Fin 8) (j 2 : Fin 128) = ix3 q t l := by
    congr 1
    · exact Fin.ext h0
    · exact Fin.ext (by show (j 1).val % 8 = t.val; omega)
    · exact Fin.ext h2
  exact congr (congrArg (fun x : Fin 62 => keptI (BitVec.ofNat 32 x.val) (products V c x) 5) e) e'

theorem arr2 : (dat0 V c).arrAt 2 cfg0.N = rowsV V c := by
  refine (dat0 V c).arrAt_eq_of_covers 2 _ (by decide +kernel) fun t hf y => ?_
  blk_simp
  rw [after0_2, out0_2_eq]
  have ht : t.val < 62 := t.isLt
  refine Eq.trans ?_ (rowsV_at V c ⟨t.val, ht⟩ (y 1) (y 0) (y 2) _ ?_ ?_ ?_).symm
  · exact congrArg _ (ix3_self y).symm
  all_goals blk_simp [index2 t]

theorem arr3 : (dat0 V c).arrAt 3 cfg0.N = rowsI V c := by
  refine (dat0 V c).arrAt_eq_of_covers 3 _ (by decide +kernel) fun t hf y => ?_
  blk_simp
  rw [after0_3, out0_3_eq]
  have ht : t.val < 62 := t.isLt
  refine Eq.trans ?_ (rowsI_at V c ⟨t.val, ht⟩ (y 1) (y 0) (y 2) _ ?_ ?_ ?_).symm
  · rw [coords0 t]; exact congrArg _ (ix3_self y).symm
  all_goals blk_simp [index3 t]

theorem arr4 : (dat0 V c).arrAt 4 cfg0.N = wide V c := by
  refine (dat0 V c).arrAt_eq_of_covers 4 _ (by decide +kernel) fun t hf y => ?_
  blk_simp
  rw [after0_4, out0_4_eq]
  have ht : t.val < 62 := t.isLt
  refine ((congrArg _ (ix2_self y).symm).trans (widened_apply _ (y 0) (y 1))).trans ?_
  unfold wide
  have e1 : (((win0_4.blk t).view.emb y) 1).val = (y 1).val := by blk_simp [index4 t]
  have e0 : (((win0_4.blk t).view.emb y) 0).val = t.val * 16384 + (y 0).val := by blk_simp [index4 t]
  by_cases h : (y 1).val < 64
  · rw [dif_pos h, dif_pos (by rw [e1]; exact h)]
    refine (keys_block V c ⟨t.val, ht⟩ (y 0) ⟨(y 1).val, h⟩).trans ?_
    congr 2
    · refine Fin.ext ?_
      rw [e0]
      show 16384 * t.val + (y 0).val = _
      omega
    · exact Fin.ext e1.symm
  · rw [dif_neg h, dif_neg (by rw [e1]; exact h)]

/-- The second call finds the whole arrays. -/
theorem joined_block (t : Fin cfg1.N) : iblk1 V c 0 t = V c main_v1_0 ∧ iblk1 V c 1 t = V c main_v1_1 := by
  constructor
  · funext y
    blk_simp [iblk1]
    congr 1
    blk_ext [index1_0 t]
  · funext y
    blk_simp [iblk1]
    congr 1
    blk_ext [index1_1 t]

theorem arr1_3 : (dat1 V c).arrAt 3 cfg1.N
    = drawn (shapeCast S64x2048 (merged (V c main_v1_0) (V c main_v1_1) 16).1 shapeCasts_S64x16x128_S64x2048)
        (shapeCast S64x2048 (merged (V c main_v1_0) (V c main_v1_1) 16).2 shapeCasts_S64x16x128_S64x2048) 100 := by
  refine (dat1 V c).arrAt_eq_of_covers 3 _ (by decide +kernel) fun t hf y => ?_
  blk_simp
  rw [after1_3]
  unfold outsAt1
  rw [out1_3_eq, (joined_block V c t).1, (joined_block V c t).2]
  congr 1
  blk_ext [index1_3 t]

theorem joined : Joined (products V c) (rowsV V c) (rowsI V c) := fun b t q l =>
  ⟨rowsV_at V c b t q l _ rfl (by show 8 * b.val + t.val = _; omega) rfl, rowsI_at V c b t q l _ rfl (by show 8 * b.val + t.val = _; omega) rfl⟩

/-- A query and a key's inner product. -/
def inner (x : FVec Ideal S64x64 .f32) (k : FVec Ideal S1000000x64 .f32) (q : Fin 64) (j : Fin 1000000) : EReal :=
  ∑ d : Fin 64, x (ix2 q d) * k (ix2 j d)

theorem blocks (x : FVec Ideal S64x64 .f32) (k : FVec Ideal S1000000x64 .f32) (hx : ∀ i, V c main_arg0 i = x i)
    (hk : ∀ (j : Fin 1000000) (d : Fin 64), V c main_v0 (ix2 (⟨j.val, by omega⟩ : Fin 1015808) d) = k (ix2 j d)) :
    Blocks (inner x k) (products V c) := fun b q r l => by
  have hc : (grid0.coords (point b) 0).val = b.val := coords0 (point b)
  refine (products_apply _ (by rw [hc]; exact b.isLt) _ _ q r l).trans ?_
  rw [hc]
  by_cases h : 16384 * b.val + 128 * r.val + l.val < 1000000
  · rw [if_pos h, dif_pos h]
    refine Finset.sum_congr rfl fun d _ => ?_
    rw [queries_block, keys_block, hx]
    refine congrArg _ (Eq.trans (congrArg (fun i => V c main_v0 (ix2 i d)) (Fin.ext ?_)) (hk ⟨_, h⟩ d))
    show 16384 * b.val + (128 * r.val + l.val) = 16384 * b.val + 128 * r.val + l.val
    omega
  · rw [if_neg h, dif_neg h]

end Cert.Proof.Find

end
-- ==== Proof.Retrieve.lean ====
/- The two calls' run, read at their results. -/
module

public import proofs.«01_k».proof.Proof.Arrays
public import proofs.«01_k».proof.Proof.Score

@[expose] public section

noncomputable section

namespace Cert.Proof.Find

open Cert.RetrievalIdeal Cert.RetrievalIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run ends with the two results at the last boundary's contents and the arguments unchanged. -/
theorem run : θ_run defs (onTc (τ := τ) (main (F := F))) ⟨m, fun _ => 0, ρ⟩ (fun r => ∀ c : Dev nD,
      r.2.mem ((c.tc : Thread nD τ).loc main_v2_1) = W4 m ρ c (Proc.devRef .tc main_v2_1)
      ∧ r.2.mem ((c.tc : Thread nD τ).loc main_v1_2) = W4 m ρ c (Proc.devRef .tc main_v1_2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v2_1 (by decide)), h c _ (mem_uc main_v1_2 (by decide)),
       (h c _ (mem_uc main_arg0 (by decide))).trans (W4_main_arg0 m ρ c),
       (h c _ (mem_uc main_arg1 (by decide))).trans (W4_main_arg1 m ρ c)⟩)

section Values
variable (m : (ℓ : Loc nD τ sig) → Buf (Elt Ideal) ℓ) (ρ : Dev nD → PrngReg) (c : Dev nD)

/-- The first call finds the queries as launched. -/
theorem found_queries : V2 m ρ c main_arg0 = m ((c : Thread nD τ).loc main_arg0) := W2_args m ρ c main_arg0 (by decide)

/-- The first call finds the keys padded by zeros. -/
theorem found_keys : V2 m ρ c main_v0
    = pad S1015808x64 ![0, 0] ![15808, 0] ![0, 0] (m ((c : Thread nD τ).loc main_arg1)) (sitofp (F := Ideal) .f32 (constantI S_ 32 0#32))
        pads_S1000000x64_S1015808x64_0158080_000 h_S_ := by
  show StableHlo.after hostOps0_1 (StableHlo.after hostOps0 (W0 m ρ c)) (Proc.devRef .tc main_v0) = _
  simp only [hostOps0_1, hostOps0, StableHlo.TRef.binary, StableHlo.TRef.unary, StableHlo.TRef.toBuf, StableHlo.TRef.ofBuf, cast_eq]
  after_results

/-- The numbers the run ends with. -/
theorem final_numbers : W4 m ρ c (Proc.devRef .tc main_v2_1)
    = drawn (shapeCast S64x2048 (merged (rowsV (V2 m ρ) c) (rowsI (V2 m ρ) c) 16).1 shapeCasts_S64x16x128_S64x2048)
        (shapeCast S64x2048 (merged (rowsV (V2 m ρ) c) (rowsI (V2 m ρ) c) 16).2 shapeCasts_S64x16x128_S64x2048) 100 := by
  have e0 : V3 m ρ c main_v1_0 = rowsV (V2 m ρ) c := (W3_arr m ρ c 2).trans (arr2 (V2 m ρ) c)
  have e1 : V3 m ρ c main_v1_1 = rowsI (V2 m ρ) c := (W3_arr m ρ c 3).trans (arr3 (V2 m ρ) c)
  refine (W4_arr m ρ c 3).trans ((arr1_3 (V3 m ρ) c).trans ?_)
  rw [e0, e1]

/-- The widened keys the run ends with. -/
theorem final_wide : W4 m ρ c (Proc.devRef .tc main_v1_2) = wide (V2 m ρ) c :=
  (W4_of m ρ c main_v1_2 (by decide)).trans ((W3_arr m ρ c 4).trans (arr4 (V2 m ρ) c))

theorem keys_in (k : FVec Ideal S1000000x64 .f32) (u : FVec Ideal S_ .f32) (j : Fin 1000000) (d : Fin 64) :
    pad S1015808x64 ![0, 0] ![15808, 0] ![0, 0] k u pads_S1000000x64_S1015808x64_0158080_000 h_S_
      (ix2 (⟨j.val, by omega⟩ : Fin 1015808) d) = k (ix2 j d) := by
  refine pad_apply_of_inside _ _ _ k u _ _ _ (ix2 j d) fun a => ?_
  match a with
  | ⟨0, _⟩ => show j.val = 0 + j.val * (0 + 1); omega
  | ⟨1, _⟩ => show d.val = 0 + d.val * (0 + 1); omega

theorem keys_out (k : FVec Ideal S1000000x64 .f32) (u : FVec Ideal S_ .f32) (j : Fin 1015808) (d : Fin 64) (h : ¬j.val < 1000000) :
    pad S1015808x64 ![0, 0] ![15808, 0] ![0, 0] k u pads_S1000000x64_S1015808x64_0158080_000 h_S_ (ix2 j d) = u (Shape.Idx.first h_S_) := by
  refine pad_apply_of_not_inside _ _ _ k u _ _ _ (0 : Fin 2) fun ha => h ?_
  have h2 : (j.val - 0) / (0 + 1) < 1000000 := ha.2.2
  omega

/-- The blocks of the run hold the inner products of the launched arrays. -/
theorem found_blocks : Blocks (inner (m ((c : Thread nD τ).loc main_arg0)) (m ((c : Thread nD τ).loc main_arg1))) (products (V2 m ρ) c) :=
  blocks (V2 m ρ) c _ _ (fun i => congrFun (found_queries m ρ c) i) fun j d => (congrFun (found_keys m ρ c) _).trans (keys_in _ _ j d)

/-- The word zero, as an extended real. -/
theorem zero_word (i : S_.Idx) : (sitofp (F := Ideal) .f32 (constantI S_ 32 0#32) : FVec Ideal S_ .f32) i = (0 : EReal) := by
  show ((((0#32 : BitVec 32).toInt : ℝ)) : EReal) = 0
  simp

end Values

end Cert.Proof.Find

end
-- ==== Proof.Top.lean ====
/- A row's greatest entries as the host's top-k gives them, and the rows it is applied to: each query's inner products. -/
module

public import proofs.«01_k».proof.Proof.Arrays
public import proofs.«01_k».proof.Proof.Ref
public import proofs.«01_k».proof.Proof.Gen.RetrievalReferenceIdeal.Run
public import Idealize.ShloMosaic.Lib.IdealHost

@[expose] public section

noncomputable section

namespace Cert.Proof.Find

open Idealize.ShloMosaic Idealize.ShloMosaic.ValueIdx
open Cert.Proof.Run (place ofBool_beq)

section Rows
variable {n k : Nat}

theorem along_row (j : (⟨2, ![64, n]⟩ : Shape).Idx) (a : Fin n) : j.along (1 : Fin 2) a = ix2 (j 0 : Fin 64) a := by
  funext b; apply Fin.ext
  match b with
  | ⟨0, _⟩ => rfl
  | ⟨1, _⟩ => rfl

/-- A row sorted with its positions, greatest first: the values and the positions. -/
theorem sorted_rows (x : FVec Ideal ⟨2, ![64, n]⟩ .f32) (p : IVec ⟨2, ![64, n]⟩ 32) (q : Fin 64) (a : Fin n) :
    (Host.sort2 ⟨2, ![64, n]⟩ 1 (fun l r => FloatOps.cmpfTotal (F := Ideal) (φ := .f32) .gt l.1 r.1) x p).1 (ix2 q a)
        = x (ix2 q (place (fun b : Fin n => (x (ix2 q b) : EReal)) a))
      ∧ (Host.sort2 ⟨2, ![64, n]⟩ 1 (fun l r => FloatOps.cmpfTotal (F := Ideal) (φ := .f32) .gt l.1 r.1) x p).2 (ix2 q a)
        = p (ix2 q (place (fun b : Fin n => (x (ix2 q b) : EReal)) a)) := by
  have e : (fun b b' : Fin n => FloatOps.cmpfTotal (F := Ideal) (φ := .f32) .gt (x ((ix2 q a : (⟨2, ![64, n]⟩ : Shape).Idx).along (1 : Fin 2) b))
      (x ((ix2 q a : (⟨2, ![64, n]⟩ : Shape).Idx).along (1 : Fin 2) b')) == 1#1) = Cert.Proof.Run.greater (fun b : Fin n => (x (ix2 q b) : EReal)) := by
    funext b b'
    rw [along_row, along_row]
    exact ofBool_beq _
  have e' := congrArg (fun g => (ix2 q a : (⟨2, ![64, n]⟩ : Shape).Idx).along (1 : Fin 2) (sortedFrom g a)) e
  have e'' := e'.trans (along_row (ix2 q a) _)
  unfold Host.sort2
  rw [dif_pos (show 1 < (⟨2, ![64, n]⟩ : Shape).rank from Nat.lt_succ_self 1)]
  exact ⟨congrArg x e'', congrArg p e''⟩

theorem first_columns {α : Type} (hk : k ≤ n) (x : (⟨2, ![64, n]⟩ : Shape).Idx → α) (h : (⟨2, ![64, n]⟩ : Shape).Slices (fun _ => 0) ⟨2, ![64, k]⟩)
    (q : Fin 64) (a : Fin k) : extractStridedSlice ⟨2, ![64, k]⟩ (fun _ => 0) x h (ix2 q a) = x (ix2 q (a.castLE hk)) := by
  refine congrArg x ?_
  funext b; apply Fin.ext
  match b with
  | ⟨0, _⟩ => exact Nat.zero_add _
  | ⟨1, _⟩ => exact Nat.zero_add _

/-- The greatest entries of a row and their positions. -/
theorem topK_row (hk : k ≤ n) (x : FVec Ideal ⟨2, ![64, n]⟩ .f32) (h : (⟨2, ![64, n]⟩ : Shape).Slices (fun _ => 0) ⟨2, ![64, k]⟩)
    (q : Fin 64) (a : Fin k) :
    (Host.topK ⟨2, ![64, k]⟩ 1 (FloatOps.cmpfTotal (F := Ideal) (φ := .f32) .gt) x h).1 (ix2 q a)
        = x (ix2 q (place (fun b : Fin n => (x (ix2 q b) : EReal)) (a.castLE hk)))
      ∧ (Host.topK ⟨2, ![64, k]⟩ 1 (FloatOps.cmpfTotal (F := Ideal) (φ := .f32) .gt) x h).2 (ix2 q a)
        = BitVec.ofNat 32 (place (fun b : Fin n => (x (ix2 q b) : EReal)) (a.castLE hk)).val := by
  let p : IVec ⟨2, ![64, n]⟩ 32 := fun i => if hd : 1 < (⟨2, ![64, n]⟩ : Shape).rank then iotaInDim ⟨2, ![64, n]⟩ 32 ⟨1, hd⟩ i else 0#32
  have hp (b : Fin n) : p (ix2 q b) = BitVec.ofNat 32 b.val := rfl
  unfold Host.topK
  exact ⟨(first_columns hk _ h q a).trans (sorted_rows x p q _).1, (first_columns hk _ h q a).trans ((sorted_rows x p q _).2.trans (hp _))⟩

end Rows

open Cert.RetrievalReferenceIdeal Cert.RetrievalReferenceIdeal.Gen

/-- Every query against every key. -/
theorem dot_keys (x : FVec Ideal S64x64 .f32) (k : FVec Ideal S1000000x64 .f32) (q : Fin 64) (j : Fin 1000000) :
    Host.dotGeneral dot_S64x64_S64x1000000_S64x1000000_1_0_0_1_n_n none x (transpose S64x1000000 [1, 0] k transposes_S1000000x64_S64x1000000_1_0) (ix2 q j)
      = inner x k q j := by
  let D := dot_S64x64_S64x1000000_S64x1000000_1_0_0_1_n_n
  refine (Ideal.dotGeneral_apply _ _ _ _ _ _).trans ?_
  refine (Equiv.sum_comp (contrEquiv1 D 64 rfl rfl).symm _).symm.trans (Finset.sum_congr rfl fun d _ => ?_)
  have hd := contrEquiv1_symm_val D 64 rfl rfl d
  refine congrArg₂ (· * ·) (congrArg x ?_) (congrArg k ?_)
  · funext b; apply Fin.ext
    match b with
    | ⟨0, _⟩ => rfl
    | ⟨1, _⟩ => exact hd
  · funext b; apply Fin.ext
    match b with
    | ⟨0, _⟩ => rfl
    | ⟨1, _⟩ => exact hd

/-- The products, as a row per query. -/
theorem dot_row (x : FVec Ideal S64x64 .f32) (k : FVec Ideal S1000000x64 .f32) (q : Fin 64) :
    (fun b : Fin 1000000 => (Host.dotGeneral dot_S64x64_S64x1000000_S64x1000000_1_0_0_1_n_n none x
      (transpose S64x1000000 [1, 0] k transposes_S1000000x64_S64x1000000_1_0) (ix2 q b) : EReal)) = inner x k q :=
  funext fun b => dot_keys x k q b

end Cert.Proof.Find

end
-- ==== Proof.Spread.lean ====
/- What the precondition says of each query's greatest products: they differ, and few of them share a lane. -/
module

public import proofs.«01_k».proof.Proof.Top
public import proofs.«01_k».proof.Proof.Gen.Pre_spread
public import Idealize.ShloMosaic.Lib.ReduceAll
public import Idealize.ShloMosaic.Lib.Pointwise.Reduce

@[expose] public section

noncomputable section

namespace Cert.Proof.Find

open Cert.Pre_spread Cert.Pre_spread.Gen
open Idealize.ShloMosaic hiding ix2 ix3
open Idealize.ShloMosaic.ValueIdx
open Cert.Proof.Run (place)

instance : Subsingleton Cert.Pre_spread.S_.Idx := ⟨fun _ _ => funext fun a => a.elim0⟩

theorem five_word : Ideal.ofBits .f32 0x40A00000#32 = ((5 : ℕ) : EReal) := by
  simp [Ideal.ofBits, Ideal.ieee]
  rw [← EReal.coe_mul]
  norm_num
  rfl
theorem sixteen_word : Ideal.ofBits .f32 0x41800000#32 = ((16 : ℕ) : EReal) := by
  simp [Ideal.ofBits, Ideal.ieee]
  rw [← EReal.coe_mul]
  norm_num
  rfl
theorem one_word : Ideal.ofBits .f32 0x3F800000#32 = (1 : EReal) := by
  simp [Ideal.ofBits, Ideal.ieee]
  rw [← EReal.coe_mul]
  norm_num
theorem nought_word : Ideal.ofBits .f32 0x00000000#32 = (0 : EReal) := by
  simp [Ideal.ofBits, Ideal.ieee]

theorem le_of_cmp (a b : EReal) (h : Ideal.cmp .ole a b = 1#1) : a ≤ b := by
  by_contra hn
  simp [Ideal.cmp, hn] at h

theorem lt_of_cmp (a b : EReal) (h : Ideal.cmp .ogt a b = 1#1) : b < a := by
  by_contra hn
  simp [Ideal.cmp, hn] at h

/-- A bounded count of marks bounds every set of marked places. -/
theorem count_le (c : IVec S64x100x100 1) (u : BitVec 32) (N : ℕ) (hu : Ideal.ofBits .f32 u = (N : EReal)) (q : Fin 64) (s : Fin 100)
    (e : cmpf .ole (Host.reduceAdd (fn_where (F := Ideal) c (constant S_ .f32 0x3F800000#32) (constant S_ .f32 0x00000000#32))
        (constant S_ .f32 0x00000000#32) reducesTo_S64x100x100_S64x100_d2 h_S_)
      (broadcastInDim S64x100 ![] bcast_S_S64x100 (constant S_ .f32 u)) (ix2 q s) = 1#1)
    (T : Finset (Fin 100)) (hT : ∀ s' ∈ T, c (ix3 q s s') = 1#1) : T.card ≤ N := by
  have e1 : Ideal.cmp .ole (Ideal.hostReduceAdd reducesTo_S64x100x100_S64x100_d2
      (fn_where (F := Ideal) c (constant S_ .f32 0x3F800000#32) (constant S_ .f32 0x00000000#32)) (Ideal.ofBits .f32 0x00000000#32) (ix2 q s))
      (Ideal.ofBits .f32 u) = 1#1 := e
  rw [Ideal.hostReduceAdd_r3_a2, hu, nought_word, zero_add] at e1
  have hle : (∑ s' : Fin 100, (if c (ix3 q s s') = 1#1 then (1 : EReal) else 0)) ≤ (N : EReal) := by
    refine le_trans (le_of_eq (Finset.sum_congr rfl fun s' _ => ?_)) (le_of_cmp _ _ e1)
    show _ = Scalar.select (c (ix3 q s s')) (Ideal.ofBits .f32 0x3F800000#32) (Ideal.ofBits .f32 0x00000000#32)
    rw [one_word, nought_word]
    rfl
  have hsub : (∑ s' ∈ T, (if c (ix3 q s s') = 1#1 then (1 : EReal) else 0)) ≤ ∑ s' : Fin 100, (if c (ix3 q s s') = 1#1 then (1 : EReal) else 0) :=
    Finset.sum_le_sum_of_subset_of_nonneg (Finset.subset_univ T) fun s' _ _ => by split <;> simp
  rw [Finset.sum_congr rfl fun s' hs' => if_pos (hT s' hs')] at hsub
  rw [Finset.sum_const, nsmul_one] at hsub
  exact_mod_cast hsub.trans hle

/-- A word's lane is its remainder by 128. -/
theorem lane_word (a b : Nat) (h : a % 128 = b % 128) : BitVec.ofNat 32 a &&& 127#32 = BitVec.ofNat 32 b &&& 127#32 := by
  have key (v : Nat) : (BitVec.ofNat 32 v &&& 127#32).toNat = v % 128 := by
    rw [BitVec.toNat_and, BitVec.toNat_ofNat, show (127#32).toNat = 2 ^ 7 - 1 from rfl, Nat.and_two_pow_sub_one_eq_mod]
    omega
  exact BitVec.eq_of_toNat_eq ((key a).trans (h.trans (key b).symm))

/-- A word's block is its quotient by 16384. -/
theorem block_word (a b : Nat) (ha : a < 1000000) (hb : b < 1000000) (h : a / 16384 = b / 16384) :
    IntOp.shrui .host (BitVec.ofNat 32 a) 14#32 = IntOp.shrui .host (BitVec.ofNat 32 b) 14#32 := by
  have key (v : Nat) (hv : v < 1000000) : (IntOp.shrui .host (BitVec.ofNat 32 v) 14#32).toNat = v / 16384 := by
    unfold IntOp.shrui
    rw [if_pos (by decide), BitVec.ushiftRight_eq', BitVec.toNat_ushiftRight, BitVec.toNat_ofNat, Nat.shiftRight_eq_div_pow, Nat.mod_eq_of_lt (by omega)]
    rfl
  exact BitVec.eq_of_toNat_eq ((key a ha).trans (h.trans (key b hb).symm))

theorem cmp_refl (a : BitVec 32) : IntOp.cmpi .eq a a = 1#1 := by
  show BitVec.ofBool (a == a) = 1#1
  simp

/-- The first of two marks, by row. -/
theorem rows_apply (x : IVec S64x100 32) (q : Fin 64) (s s' : Fin 100) :
    broadcastInDim S64x100x100 ![0, 1, 2] bcast_S64x100x1_S64x100x100_0_1_2 (broadcastInDim S64x100x1 ![0, 1] bcast_S64x100_S64x100x1_0_1 x) (ix3 q s s')
      = x (ix2 q s) := by
  refine (broadcastInDim_apply _ _ _ _ (ix3 q s 0) fun b => match b with | ⟨0, _⟩ => rfl | ⟨1, _⟩ => rfl | ⟨2, _⟩ => rfl).trans ?_
  exact broadcastInDim_apply _ _ _ _ (ix2 q s) fun b => match b with | ⟨0, _⟩ => rfl | ⟨1, _⟩ => rfl

/-- The second of two marks, by column. -/
theorem columns_apply (x : IVec S64x100 32) (q : Fin 64) (s s' : Fin 100) :
    broadcastInDim S64x100x100 ![0, 1, 2] bcast_S64x1x100_S64x100x100_0_1_2 (broadcastInDim S64x1x100 ![0, 2] bcast_S64x100_S64x1x100_0_2 x) (ix3 q s s')
      = x (ix2 q s') := by
  refine (broadcastInDim_apply _ _ _ _ (ix3 q 0 s') fun b => match b with | ⟨0, _⟩ => rfl | ⟨1, _⟩ => rfl | ⟨2, _⟩ => rfl).trans ?_
  exact broadcastInDim_apply _ _ _ _ (ix2 q s') fun b => match b with | ⟨0, _⟩ => rfl | ⟨1, _⟩ => rfl

/-- Marks of equal words. -/
theorem same_apply (x : IVec S64x100 32) (q : Fin 64) (s s' : Fin 100) (h : x (ix2 q s) = x (ix2 q s')) :
    cmpi .eq (broadcastInDim S64x100x100 ![0, 1, 2] bcast_S64x100x1_S64x100x100_0_1_2 (broadcastInDim S64x100x1 ![0, 1] bcast_S64x100_S64x100x1_0_1 x))
      (broadcastInDim S64x100x100 ![0, 1, 2] bcast_S64x1x100_S64x100x100_0_1_2 (broadcastInDim S64x1x100 ![0, 2] bcast_S64x100_S64x1x100_0_2 x)) (ix3 q s s')
      = 1#1 := by
  refine (congrArg₂ (IntOp.cmpi .eq) (rows_apply x q s s') (columns_apply x q s s')).trans ?_
  rw [h]
  exact cmp_refl _

/-- The key at a place of a query's keys by decreasing product. -/
def topKey (x : FVec Ideal S64x64 .f32) (k : FVec Ideal S1000000x64 .f32) (q : Fin 64) (s : Fin 101) : Fin 1000000 :=
  place (inner x k q) (s.castLE (by decide))

/-- The products the precondition takes. -/
def sims (x : FVec Ideal S64x64 .f32) (k : FVec Ideal S1000000x64 .f32) : FVec Ideal S64x1000000 .f32 :=
  Host.dotGeneral dot_S64x64_S64x1000000_S64x1000000_1_0_0_1_n_n none x (transpose S64x1000000 [1, 0] k transposes_S1000000x64_S64x1000000_1_0)

theorem sims_row (x : FVec Ideal S64x64 .f32) (k : FVec Ideal S1000000x64 .f32) (q : Fin 64) :
    (fun b : Fin 1000000 => (sims x k (ix2 q b) : EReal)) = inner x k q := dot_row x k q

theorem values_apply (x : FVec Ideal S64x64 .f32) (k : FVec Ideal S1000000x64 .f32) (q : Fin 64) (s : Fin 101) :
    (Host.topK S64x101 1 (FloatOps.cmpfTotal (F := Ideal) (φ := .f32) .gt) (sims x k) sliceFits_S64x1000000_S64x101).1 (ix2 q s)
      = inner x k q (topKey x k q s) := by
  refine (topK_row (by decide) (sims x k) sliceFits_S64x1000000_S64x101 q s).1.trans ?_
  rw [sims_row]
  exact congrFun (sims_row x k q) _

theorem indices_apply (x : FVec Ideal S64x64 .f32) (k : FVec Ideal S1000000x64 .f32) (q : Fin 64) (s : Fin 101) :
    (Host.topK S64x101 1 (FloatOps.cmpfTotal (F := Ideal) (φ := .f32) .gt) (sims x k) sliceFits_S64x1000000_S64x101).2 (ix2 q s)
      = BitVec.ofNat 32 (topKey x k q s).val := by
  refine (topK_row (by decide) (sims x k) sliceFits_S64x1000000_S64x101 q s).2.trans ?_
  rw [sims_row]
  rfl

theorem first_hundred {α : Type} (y : S64x101.Idx → α) (q : Fin 64) (s : Fin 100) :
    extractStridedSlice S64x100 ![0, 0] y slices_S64x101_S64x100_0_0 (ix2 q s) = y (ix2 q s.castSucc) := by
  refine congrArg y ?_
  funext b; apply Fin.ext
  match b with
  | ⟨0, _⟩ => exact Nat.zero_add _
  | ⟨1, _⟩ => exact Nat.zero_add _

theorem next_hundred {α : Type} (y : S64x101.Idx → α) (q : Fin 64) (s : Fin 100) :
    extractStridedSlice S64x100 ![0, 1] y slices_S64x101_S64x100_0_1 (ix2 q s) = y (ix2 q s.succ) := by
  refine congrArg y ?_
  funext b; apply Fin.ext
  match b with
  | ⟨0, _⟩ => exact Nat.zero_add _
  | ⟨1, _⟩ => exact Nat.add_comm _ _

/-- What the precondition says. -/
theorem spread_of_pre (x : FVec Ideal S64x64 .f32) (k : FVec Ideal S1000000x64 .f32) (h : fn (F := Ideal) x k = fun _ => 1#1) (q : Fin 64) :
    (∀ s : Fin 100, inner x k q (topKey x k q s.succ) < inner x k q (topKey x k q s.castSucc))
      ∧ (∀ s : Fin 100, (Finset.univ.filter fun s' : Fin 100 =>
          blockLane (topKey x k q s'.castSucc) = blockLane (topKey x k q s.castSucc)).card ≤ 5)
      ∧ ∀ s : Fin 100, (Finset.univ.filter fun s' : Fin 100 =>
          lane (topKey x k q s'.castSucc) = lane (topKey x k q s.castSucc)).card ≤ 16 := by
  have e := congrFun h (fun a => a.elim0)
  unfold fn fn_part1 fn_part2 at e
  obtain ⟨eD, e⟩ := IntOp.andi_eq_one.1 e
  obtain ⟨eC, eL⟩ := IntOp.andi_eq_one.1 e
  have idx (s : Fin 100) := (first_hundred (Host.topK S64x101 1 (FloatOps.cmpfTotal (F := Ideal) (φ := .f32) .gt) (sims x k) sliceFits_S64x1000000_S64x101).2 q s).trans (indices_apply x k q s.castSucc)
  have laneEq (s s' : Fin 100) (hl : (topKey x k q s.castSucc).val % 128 = (topKey x k q s'.castSucc).val % 128) :=
    (congrArg (fun w => w &&& 127#32) (idx s)).trans ((lane_word _ _ hl).trans (congrArg (fun w => w &&& 127#32) (idx s')).symm)
  refine ⟨fun s => ?_, fun s => ?_, fun s => ?_⟩
  · have e1 := lt_of_cmp _ _ (Host.reduce_andi_all _ _ _ _ _ eD (ix2 q s))
    exact (values_apply x k q s.succ).symm.trans_lt (((next_hundred _ q s).symm.trans_lt (e1.trans_eq (first_hundred _ q s))).trans_eq (values_apply x k q s.castSucc))
  · refine count_le _ _ 5 five_word q s (Host.reduce_andi_all _ _ _ _ _ eC (ix2 q s)) _ fun s' hs' => ?_
    have hb := (Finset.mem_filter.mp hs').2
    refine IntOp.andi_eq_one.2 ⟨same_apply _ q s s' ?_, same_apply _ q s s' ?_⟩
    · exact laneEq s s' (congrArg (fun p => p.2.val) hb).symm
    · exact (congrArg (fun w => IntOp.shrui .host w 14#32) (idx s)).trans
        ((block_word _ _ (Fin.isLt _) (Fin.isLt _) (congrArg (fun p => p.1.val) hb).symm).trans (congrArg (fun w => IntOp.shrui .host w 14#32) (idx s')).symm)
  · refine count_le _ _ 16 sixteen_word q s (Host.reduce_andi_all _ _ _ _ _ eL (ix2 q s)) _ fun s' hs' => ?_
    have hb := (Finset.mem_filter.mp hs').2
    exact same_apply _ q s s' (laneEq s s' (congrArg Fin.val hb).symm)

end Cert.Proof.Find

end
-- ==== Proof.Agree.lean ====
/- The two calls that find each query's keys end at the reference's results. -/
module

public import proofs.«01_k».proof.Proof.Retrieve
public import proofs.«01_k».proof.Proof.Spread
public import proofs.«01_k».proof.Proof.Gen.Retrieval.Frame
public import proofs.«01_k».proof.Defs

@[expose] public section

noncomputable section

namespace Cert.Proof.Find

open Cert.RetrievalReferenceIdeal Cert.RetrievalReferenceIdeal.Gen
open Idealize.ShloMosaic hiding ix1 ix2 ix3
open Idealize.ShloMosaic.TcCoe Idealize.ShloMosaic.ValueIdx Idealize.SL.Sem
open Cert.Proof.Run (place place_lt place_surjective)

/-- A later place's entry is at most an earlier one's. -/
theorem place_le {n : Nat} (v : Fin n → EReal) (i j : Fin n) (h : i ≤ j) : v (place v j) ≤ v (place v i) := by
  rcases h.lt_or_eq with h | h
  · rcases place_lt v i j h with h' | h'
    · exact h'.le
    · exact h'.1.ge
  · rw [h]

/-- The hundred greatest of a row whose greatest hundred and one differ. -/
theorem hundred {n : Nat} (hn : 101 ≤ n) (v : Fin n → EReal) (top : Fin 101 → Fin n) (ht : ∀ s, top s = place v (s.castLE hn))
    (hd : ∀ s : Fin 100, v (top s.succ) < v (top s.castSucc)) :
    ⊥ < v (top (99 : Fin 100).castSucc) ∧ (∀ s s' : Fin 100, s < s' → v (top s'.castSucc) < v (top s.castSucc))
      ∧ (∀ s : Fin 100, v (top (99 : Fin 100).castSucc) ≤ v (top s.castSucc))
      ∧ ∀ j, v (top (99 : Fin 100).castSucc) ≤ v j → ∃ s : Fin 100, top s.castSucc = j := by
  have le (s s' : Fin 101) (hs : s ≤ s') : v (top s') ≤ v (top s) := by
    rw [ht, ht]
    exact place_le v _ _ hs
  refine ⟨bot_le.trans_lt (hd 99), fun s s' hs => (le s.succ s'.castSucc ?_).trans_lt (hd s), fun s => le _ _ ?_, fun j hj => ?_⟩
  · show s.val + 1 ≤ s'.val
    exact hs
  · show s.val ≤ 99
    omega
  · obtain ⟨t, rfl⟩ := place_surjective v j
    by_cases h : t.val < 100
    · exact ⟨⟨t.val, h⟩, ht _⟩
    · refine absurd (lt_of_le_of_lt ?_ (hd 99)) (not_lt.mpr hj)
      rw [ht]
      refine place_le v _ t ?_
      show 100 ≤ t.val
      omega

section Numbers
variable (x : FVec Ideal S64x64 .f32) (k : FVec Ideal S1000000x64 .f32)

/-- The reference's numbers: the hundred best keys', then the places themselves. -/
theorem reference_numbers (q : Fin 64) (c : Fin 128) :
    concatenate S64x128 1 [⟨S64x100, ((Host.topK S64x100 1 (FloatOps.cmpfTotal (F := Ideal) (φ := .f32) .gt) (Host.dotGeneral dot_S64x64_S64x1000000_S64x1000000_1_0_0_1_n_n none x
        (transpose S64x1000000 [1, 0] k transposes_S1000000x64_S64x1000000_1_0)) sliceFits_S64x1000000_S64x100).2)⟩,
      ⟨S64x28, (broadcastInDim S64x28 ![1] bcast_S28_S64x28_1 (addi (broadcastInDim S28 ![] bcast_S_S28 (constantI S_ 32 100#32)) (iotaInDim S28 32 0)))⟩]
      concatenates_S64x100_S64x28_S64x128_d1 (ix2 q c)
    = if h : c.val < 100 then BitVec.ofNat 32 (topKey x k q (⟨c.val, h⟩ : Fin 100).castSucc).val else BitVec.ofNat 32 c.val := by
  by_cases h : c.val < 100
  · rw [dif_pos h]
    refine (concatenate_pair_apply_left (t := S64x128) (s₁ := S64x100) (s₂ := S64x28) 1 _ _ concatenates_S64x100_S64x28_S64x128_d1 (ix2 q c) rfl
      (ix2 q (⟨c.val, h⟩ : Fin 100)) fun b => match b with | ⟨0, _⟩ => rfl | ⟨1, _⟩ => rfl).trans ?_
    refine (topK_row (by decide) _ sliceFits_S64x1000000_S64x100 q ⟨c.val, h⟩).2.trans ?_
    rw [dot_row]
    rfl
  · rw [dif_neg h]
    have hc := c.isLt
    refine (concatenate_pair_apply_right (t := S64x128) (s₁ := S64x100) (s₂ := S64x28) 1 _ _ concatenates_S64x100_S64x28_S64x128_d1 (ix2 q c) rfl rfl
      (ix2 q (⟨c.val - 100, by omega⟩ : Fin 28)) (fun b hb => ?_) ?_).trans ?_
    · match b with
      | ⟨0, _⟩ => rfl
      | ⟨1, _⟩ => exact absurd rfl hb
    · show c.val - 100 + 100 = c.val
      omega
    · refine (broadcastInDim_apply _ _ _ _ (ix1 (⟨c.val - 100, by omega⟩ : Fin 28)) fun b => match b with | ⟨0, _⟩ => rfl).trans ?_
      show 100#32 + BitVec.ofNat 32 (c.val - 100) = BitVec.ofNat 32 c.val
      apply BitVec.eq_of_toNat_eq
      simp only [BitVec.toNat_add, BitVec.toNat_ofNat]
      omega

variable {x k}

/-- The rounds draw the hundred greatest of a row, when its greatest hundred and one differ and few of them share a lane. -/
theorem drawn_hundred (sim : Fin 64 → Fin 1000000 → EReal)
    {A : Fin 62 → FVec Ideal Cert.RetrievalIdeal.S64x128x128 .f32} {V : FVec Ideal Cert.RetrievalIdeal.S64x496x128 .f32}
    {W : IVec Cert.RetrievalIdeal.S64x496x128 32} (hA : Blocks sim A) (hJ : Joined A V W) (q : Fin 64) (c : Fin 128)
    (top : Fin 101 → Fin 1000000) (θ : EReal)
    (H : ⊥ < θ ∧ (∀ s s' : Fin 100, s < s' → sim q (top s'.castSucc) < sim q (top s.castSucc))
      ∧ (∀ s : Fin 100, θ ≤ sim q (top s.castSucc)) ∧ ∀ j, θ ≤ sim q j → ∃ s : Fin 100, top s.castSucc = j)
    (hc : ∀ s : Fin 100, (Finset.univ.filter fun s' : Fin 100 => blockLane (top s'.castSucc) = blockLane (top s.castSucc)).card ≤ 5)
    (hl : ∀ s : Fin 100, (Finset.univ.filter fun s' : Fin 100 => lane (top s'.castSucc) = lane (top s.castSucc)).card ≤ 16) :
    drawn (shapeCast Cert.RetrievalIdeal.S64x2048 (merged V W 16).1 Cert.RetrievalIdeal.Gen.shapeCasts_S64x16x128_S64x2048)
        (shapeCast Cert.RetrievalIdeal.S64x2048 (merged V W 16).2 Cert.RetrievalIdeal.Gen.shapeCasts_S64x16x128_S64x2048) 100 (ix2 q c)
      = if h : c.val < 100 then BitVec.ofNat 32 (top (⟨c.val, h⟩ : Fin 100).castSucc).val else BitVec.ofNat 32 c.val :=
  drawn_top (top := fun s : Fin 100 => top s.castSucc) q hA hJ H.1 H.2.1 H.2.2.1 H.2.2.2 hc hl c

/-- The `s`-th greatest key is the key of place `s`. -/
theorem topKey_place (q : Fin 64) (s : Fin 101) : topKey x k q s = place (inner x k q) (s.castLE (by decide)) := rfl

/-- Under the precondition the rounds draw the reference's numbers. -/
theorem numbers_agree (h : Cert.Pre_spread.fn (F := Ideal) x k = fun _ => 1#1)
    {A : Fin 62 → FVec Ideal Cert.RetrievalIdeal.S64x128x128 .f32} {V : FVec Ideal Cert.RetrievalIdeal.S64x496x128 .f32}
    {W : IVec Cert.RetrievalIdeal.S64x496x128 32} (hA : Blocks (inner x k) A) (hJ : Joined A V W) (q : Fin 64) (c : Fin 128) :
    drawn (shapeCast Cert.RetrievalIdeal.S64x2048 (merged V W 16).1 Cert.RetrievalIdeal.Gen.shapeCasts_S64x16x128_S64x2048)
        (shapeCast Cert.RetrievalIdeal.S64x2048 (merged V W 16).2 Cert.RetrievalIdeal.Gen.shapeCasts_S64x16x128_S64x2048) 100 (ix2 q c)
      = if h : c.val < 100 then BitVec.ofNat 32 (topKey x k q (⟨c.val, h⟩ : Fin 100).castSucc).val else BitVec.ofNat 32 c.val := by
  obtain ⟨hd, hc, hl⟩ := spread_of_pre x k h q
  have ht := topKey_place (x := x) (k := k) q
  generalize topKey x k q = top at ht hd hc hl ⊢
  exact drawn_hundred (inner x k) hA hJ q c top _ (hundred _ _ top ht hd) hc hl

end Numbers

/-- The widened keys are the reference's. -/
theorem wide_agree (m : (ℓ : Loc Cert.RetrievalIdeal.nD Cert.RetrievalIdeal.τ Cert.RetrievalIdeal.sig) → Buf (Elt Ideal) ℓ) (ρ : Dev Cert.RetrievalIdeal.nD → PrngReg)
    (c : Dev Cert.RetrievalIdeal.nD) :
    wide (Cert.RetrievalIdeal.Gen.V2 m ρ) c = pad S1015808x128 ![0, 0] ![15808, 64] ![0, 0] (m ((c.tc : Thread Cert.RetrievalIdeal.nD Cert.RetrievalIdeal.τ).loc Cert.RetrievalIdeal.main_arg1))
      (sitofp (F := Ideal) .f32 (constantI S_ 32 0#32)) pads_S1000000x64_S1015808x128_0158080_0640 h_S_ := by
  funext i
  obtain ⟨j, e, rfl⟩ : ∃ (j : Fin 1015808) (e : Fin 128), i = ix2 j e := ⟨i 0, i 1, (ix2_self i).symm⟩
  by_cases he : e.val < 64
  · refine (dif_pos he).trans ((congrFun (found_keys m ρ c) _).trans ?_)
    by_cases hj : j.val < 1000000
    · refine (keys_in _ _ ⟨j.val, hj⟩ ⟨e.val, he⟩).trans (pad_apply_of_inside _ _ _ _ _ _ _ _ (ix2 (⟨j.val, hj⟩ : Fin 1000000) (⟨e.val, he⟩ : Fin 64)) fun a => ?_).symm
      match a with
      | ⟨0, _⟩ => show j.val = 0 + j.val * (0 + 1); omega
      | ⟨1, _⟩ => show e.val = 0 + e.val * (0 + 1); omega
    · refine (keys_out _ _ j ⟨e.val, he⟩ hj).trans (pad_apply_of_not_inside _ _ _ _ _ _ _ _ (0 : Fin 2) fun ha => hj ?_).symm
      have h2 : (j.val - 0) / (0 + 1) < 1000000 := ha.2.2
      omega
  · refine (dif_neg he).trans (Eq.trans ?_ (pad_apply_of_not_inside _ _ _ _ _ _ _ _ (1 : Fin 2) fun ha => he ?_).symm)
    · exact (zero_word _).symm
    · have h2 : (e.val - 0) / (0 + 1) < 64 := ha.2.2
      omega

/-! ## The frames -/

/-- The two calls, from any memory. -/
theorem frame_kernel : Cert.quiescent_Retrieval (hRetrieval := Cert.Retrieval.Gen.facts) := fun m ρ _ =>
  Cert.Retrieval.Gen.frame m ρ

/-- The two calls on extended reals. -/
theorem frame_ideal : Cert.quiescent_RetrievalIdeal (hRetrievalIdeal := Cert.RetrievalIdeal.Gen.facts) := fun m ρ _ =>
  Cert.RetrievalIdeal.Gen.frame m ρ

/-- The reference, from any memory: it declares no semaphore. -/
theorem frame_reference : Cert.quiescent_RetrievalReferenceIdeal (hRetrievalReferenceIdeal := Cert.RetrievalReferenceIdeal.Gen.facts) := fun m ρ _ =>
  (θ_run Cert.RetrievalReferenceIdeal.defs _ _).mono (fun r h => ⟨fun c => (h c).2.2, sem_eq_zero_of_no_sems (by decide) r.2⟩)
    (Cert.RetrievalReferenceIdeal.Value.run (F := Ideal) m ρ)

variable [hP : Cert.Pre_spread.Facts]

/-- The two calls on extended reals, under the precondition. -/
theorem frame_ideal_spread : Cert.quiescent_RetrievalIdeal_pre_spread (hRetrievalIdeal := Cert.RetrievalIdeal.Gen.facts) := fun m ρ _ =>
  frame_ideal m ρ trivial

/-- The reference under the precondition. -/
theorem frame_reference_spread : Cert.quiescent_RetrievalReferenceIdeal_pre_spread (hRetrievalReferenceIdeal := Cert.RetrievalReferenceIdeal.Gen.facts) := fun m ρ _ =>
  frame_reference m ρ trivial

/-! ## The values -/

/-- Where each query's greatest products differ and few of them share a lane, the two calls and the reference end with
    the same numbers and the same widened keys, the arguments kept. -/
theorem algebraic_value :
    Cert.algebraic_RetrievalIdeal_RetrievalReferenceIdeal_pre_spread (hRetrievalIdeal := Cert.RetrievalIdeal.Gen.facts)
      (hRetrievalReferenceIdeal := Cert.RetrievalReferenceIdeal.Gen.facts) := by
  intro m g m' g' hpre harg
  refine ⟨fun c => Cert.RetrievalIdeal.Gen.W4 m g c (Proc.devRef .tc Cert.RetrievalIdeal.main_v2_1),
    fun c => Cert.RetrievalIdeal.Gen.W4 m g c (Proc.devRef .tc Cert.RetrievalIdeal.main_v1_2), run (F := Ideal) m g, ?_⟩
  refine (θ_run Cert.RetrievalReferenceIdeal.defs _ _).mono (fun r h c => ?_) (Cert.RetrievalReferenceIdeal.Value.run (F := Ideal) m' g')
  obtain ⟨h0, h1, hk⟩ := h c
  obtain ⟨a0, a1⟩ := harg c
  refine ⟨h0.trans ?_, h1.trans ?_, hk⟩
  · rw [a0, a1]
    refine Eq.trans ?_ (final_numbers m g c).symm
    funext i
    obtain ⟨q, e, rfl⟩ : ∃ (q : Fin 64) (e : Fin 128), i = ix2 q e := ⟨i 0, i 1, (ix2_self i).symm⟩
    exact (reference_numbers _ _ q e).trans (numbers_agree (hpre c) (found_blocks m g c) (joined _ c) q e).symm
  · rw [a1]
    exact ((final_wide m g c).trans (wide_agree m g c)).symm

end Cert.Proof.Find

end
-- ==== Proof.lean ====
module

public import proofs.«01_k».proof.Proof.Gen.RetrievalIdeal.Frame
public import proofs.«01_k».proof.Proof.Gen.Pre_spread
public import proofs.«01_k».proof.Proof.Gen.Retrieval.Frame
public import proofs.«01_k».proof.Proof.Gen.RetrievalReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_candidates_in_catalog
public import proofs.«01_k».proof.Proof.Gen.Pre_finite_candidates
public import proofs.«01_k».proof.Proof.Frames
public import proofs.«01_k».proof.Proof.Algebraic
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Retrieval.Gen.facts,
  Cert.RetrievalIdeal.Gen.facts, Cert.RetrievalReferenceIdeal.Gen.facts, Cert.Pre_candidates_in_catalog.Gen.facts, Cert.Pre_finite_candidates.Gen.facts,
  Cert.Pre_spread.Gen.facts,
  Run.frame_kernel, Run.frame_ideal, Run.frame_ideal_finite, Run.frame_reference, Run.frame_reference_finite,
  Find.frame_kernel, Find.frame_ideal, Find.frame_ideal_spread, Find.frame_reference, Find.frame_reference_spread,
  trivial, Run.algebraic_value, trivial, Find.algebraic_value⟩

end Cert.Proof

end
